-- ==== Defs.lean ====
def Pre_Resize (m : (ℓ : Loc Cert.Resize.nD Cert.Resize.τ Cert.Resize.sig) → Buf (Elt Bits) ℓ) : Prop :=
  True

def Pre_ResizeIdeal (m : (ℓ : Loc Cert.ResizeIdeal.nD Cert.ResizeIdeal.τ Cert.ResizeIdeal.sig) → Buf (Elt Ideal) ℓ) : Prop :=
  True

def Pre_ResizeIdeal_finite1 [hPre_finite1 : Cert.Pre_finite1.Facts] (m : (ℓ : Loc Cert.ResizeIdeal.nD Cert.ResizeIdeal.τ Cert.ResizeIdeal.sig) → Buf (Elt Ideal) ℓ) : Prop :=
  ∀ c : Dev Cert.ResizeIdeal.nD,
    (Cert.Pre_finite1.fn (F := Ideal) (m ((c.tc : Thread Cert.ResizeIdeal.nD Cert.ResizeIdeal.τ).loc Cert.ResizeIdeal.main_arg0)) (m ((c.tc : Thread Cert.ResizeIdeal.nD Cert.ResizeIdeal.τ).loc Cert.ResizeIdeal.main_arg1))) = (fun _ => 1#1)

def Pre_ResizeReferenceIdeal (m : (ℓ : Loc Cert.ResizeReferenceIdeal.nD Cert.ResizeReferenceIdeal.τ Cert.ResizeReferenceIdeal.sig) → Buf (Elt Ideal) ℓ) : Prop :=
  True

def Pre_ResizeReferenceIdeal_finite1 [hPre_finite1 : Cert.Pre_finite1.Facts] (m : (ℓ : Loc Cert.ResizeReferenceIdeal.nD Cert.ResizeReferenceIdeal.τ Cert.ResizeReferenceIdeal.sig) → Buf (Elt Ideal) ℓ) : Prop :=
  ∀ c : Dev Cert.ResizeReferenceIdeal.nD,
    (Cert.Pre_finite1.fn (F := Ideal) (m ((c.tc : Thread Cert.ResizeReferenceIdeal.nD Cert.ResizeReferenceIdeal.τ).loc Cert.ResizeReferenceIdeal.main_arg0)) (m ((c.tc : Thread Cert.ResizeReferenceIdeal.nD Cert.ResizeReferenceIdeal.τ).loc Cert.ResizeReferenceIdeal.main_arg1))) = (fun _ => 1#1)

def Pre_Loss (m : (ℓ : Loc Cert.Loss.nD Cert.Loss.τ Cert.Loss.sig) → Buf (Elt Bits) ℓ) : Prop :=
  True

def Pre_LossIdeal (m : (ℓ : Loc Cert.LossIdeal.nD Cert.LossIdeal.τ Cert.LossIdeal.sig) → Buf (Elt Ideal) ℓ) : Prop :=
  True

def Pre_LossIdeal_finite2 [hPre_finite2 : Cert.Pre_finite2.Facts] (m : (ℓ : Loc Cert.LossIdeal.nD Cert.LossIdeal.τ Cert.LossIdeal.sig) → Buf (Elt Ideal) ℓ) : Prop :=
  ∀ c : Dev Cert.LossIdeal.nD,
    (Cert.Pre_finite2.fn (F := Ideal) (m ((c.tc : Thread Cert.LossIdeal.nD Cert.LossIdeal.τ).loc Cert.LossIdeal.main_arg0)) (m ((c.tc : Thread Cert.LossIdeal.nD Cert.LossIdeal.τ).loc Cert.LossIdeal.main_arg1)) (m ((c.tc : Thread Cert.LossIdeal.nD Cert.LossIdeal.τ).loc Cert.LossIdeal.main_arg2)) (m ((c.tc : Thread Cert.LossIdeal.nD Cert.LossIdeal.τ).loc Cert.LossIdeal.main_arg3)) (m ((c.tc : Thread Cert.LossIdeal.nD Cert.LossIdeal.τ).loc Cert.LossIdeal.main_arg4)) (m ((c.tc : Thread Cert.LossIdeal.nD Cert.LossIdeal.τ).loc Cert.LossIdeal.main_arg5))) = (fun _ => 1#1)

def Pre_LossReferenceIdeal (m : (ℓ : Loc Cert.LossReferenceIdeal.nD Cert.LossReferenceIdeal.τ Cert.LossReferenceIdeal.sig) → Buf (Elt Ideal) ℓ) : Prop :=
  True

def Pre_LossReferenceIdeal_finite2 [hPre_finite2 : Cert.Pre_finite2.Facts] (m : (ℓ : Loc Cert.LossReferenceIdeal.nD Cert.LossReferenceIdeal.τ Cert.LossReferenceIdeal.sig) → Buf (Elt Ideal) ℓ) : Prop :=
  ∀ c : Dev Cert.LossReferenceIdeal.nD,
    (Cert.Pre_finite2.fn (F := Ideal) (m ((c.tc : Thread Cert.LossReferenceIdeal.nD Cert.LossReferenceIdeal.τ).loc Cert.LossReferenceIdeal.main_arg0)) (m ((c.tc : Thread Cert.LossReferenceIdeal.nD Cert.LossReferenceIdeal.τ).loc Cert.LossReferenceIdeal.main_arg1)) (m ((c.tc : Thread Cert.LossReferenceIdeal.nD Cert.LossReferenceIdeal.τ).loc Cert.LossReferenceIdeal.main_arg2)) (m ((c.tc : Thread Cert.LossReferenceIdeal.nD Cert.LossReferenceIdeal.τ).loc Cert.LossReferenceIdeal.main_arg3)) (m ((c.tc : Thread Cert.LossReferenceIdeal.nD Cert.LossReferenceIdeal.τ).loc Cert.LossReferenceIdeal.main_arg4)) (m ((c.tc : Thread Cert.LossReferenceIdeal.nD Cert.LossReferenceIdeal.τ).loc Cert.LossReferenceIdeal.main_arg5))) = (fun _ => 1#1)

def quiescent_Resize [hResize : Cert.Resize.Facts] : Prop :=
  ∀ (m : (ℓ : Loc Cert.Resize.nD Cert.Resize.τ Cert.Resize.sig) → Buf (Elt Bits) ℓ) (g : Dev Cert.Resize.nD → PrngReg), Pre_Resize m →
    θ_run (Cert.Resize.defs (F := Bits)) (onTc (τ := Cert.Resize.τ) (Cert.Resize.main (F := Bits))) ⟨m, fun _ => 0, g⟩ (fun r => (∀ c : Dev Cert.Resize.nD,
      r.2.mem ((c.tc : Thread Cert.Resize.nD Cert.Resize.τ).loc Cert.Resize.main_arg0) = m ((c.tc : Thread Cert.Resize.nD Cert.Resize.τ).loc Cert.Resize.main_arg0)
      ∧ r.2.mem ((c.tc : Thread Cert.Resize.nD Cert.Resize.τ).loc Cert.Resize.main_arg1) = m ((c.tc : Thread Cert.Resize.nD Cert.Resize.τ).loc Cert.Resize.main_arg1))
      ∧ r.2.sem = fun _ => 0)

def quiescent_ResizeIdeal [hResizeIdeal : Cert.ResizeIdeal.Facts] : Prop :=
  ∀ (m : (ℓ : Loc Cert.ResizeIdeal.nD Cert.ResizeIdeal.τ Cert.ResizeIdeal.sig) → Buf (Elt Ideal) ℓ) (g : Dev Cert.ResizeIdeal.nD → PrngReg), Pre_ResizeIdeal m →
    θ_run (Cert.ResizeIdeal.defs (F := Ideal)) (onTc (τ := Cert.ResizeIdeal.τ) (Cert.ResizeIdeal.main (F := Ideal))) ⟨m, fun _ => 0, g⟩ (fun r => (∀ c : Dev Cert.ResizeIdeal.nD,
      r.2.mem ((c.tc : Thread Cert.ResizeIdeal.nD Cert.ResizeIdeal.τ).loc Cert.ResizeIdeal.main_arg0) = m ((c.tc : Thread Cert.ResizeIdeal.nD Cert.ResizeIdeal.τ).loc Cert.ResizeIdeal.main_arg0)
      ∧ r.2.mem ((c.tc : Thread Cert.ResizeIdeal.nD Cert.ResizeIdeal.τ).loc Cert.ResizeIdeal.main_arg1) = m ((c.tc : Thread Cert.ResizeIdeal.nD Cert.ResizeIdeal.τ).loc Cert.ResizeIdeal.main_arg1))
      ∧ r.2.sem = fun _ => 0)

def quiescent_ResizeIdeal_pre_finite1 [hResizeIdeal : Cert.ResizeIdeal.Facts] [hPre_finite1 : Cert.Pre_finite1.Facts] : Prop :=
  ∀ (m : (ℓ : Loc Cert.ResizeIdeal.nD Cert.ResizeIdeal.τ Cert.ResizeIdeal.sig) → Buf (Elt Ideal) ℓ) (g : Dev Cert.ResizeIdeal.nD → PrngReg), Pre_ResizeIdeal_finite1 m →
    θ_run (Cert.ResizeIdeal.defs (F := Ideal)) (onTc (τ := Cert.ResizeIdeal.τ) (Cert.ResizeIdeal.main (F := Ideal))) ⟨m, fun _ => 0, g⟩ (fun r => (∀ c : Dev Cert.ResizeIdeal.nD,
      r.2.mem ((c.tc : Thread Cert.ResizeIdeal.nD Cert.ResizeIdeal.τ).loc Cert.ResizeIdeal.main_arg0) = m ((c.tc : Thread Cert.ResizeIdeal.nD Cert.ResizeIdeal.τ).loc Cert.ResizeIdeal.main_arg0)
      ∧ r.2.mem ((c.tc : Thread Cert.ResizeIdeal.nD Cert.ResizeIdeal.τ).loc Cert.ResizeIdeal.main_arg1) = m ((c.tc : Thread Cert.ResizeIdeal.nD Cert.ResizeIdeal.τ).loc Cert.ResizeIdeal.main_arg1))
      ∧ r.2.sem = fun _ => 0)

def quiescent_ResizeReferenceIdeal [hResizeReferenceIdeal : Cert.ResizeReferenceIdeal.Facts] : Prop :=
  ∀ (m : (ℓ : Loc Cert.ResizeReferenceIdeal.nD Cert.ResizeReferenceIdeal.τ Cert.ResizeReferenceIdeal.sig) → Buf (Elt Ideal) ℓ) (g : Dev Cert.ResizeReferenceIdeal.nD → PrngReg), Pre_ResizeReferenceIdeal m →
    θ_run (Cert.ResizeReferenceIdeal.defs (F := Ideal)) (onTc (τ := Cert.ResizeReferenceIdeal.τ) (Cert.ResizeReferenceIdeal.main (F := Ideal))) ⟨m, fun _ => 0, g⟩ (fun r => (∀ c : Dev Cert.ResizeReferenceIdeal.nD,
      r.2.mem ((c.tc : Thread Cert.ResizeReferenceIdeal.nD Cert.ResizeReferenceIdeal.τ).loc Cert.ResizeReferenceIdeal.main_arg0) = m ((c.tc : Thread Cert.ResizeReferenceIdeal.nD Cert.ResizeReferenceIdeal.τ).loc Cert.ResizeReferenceIdeal.main_arg0)
      ∧ r.2.mem ((c.tc : Thread Cert.ResizeReferenceIdeal.nD Cert.ResizeReferenceIdeal.τ).loc Cert.ResizeReferenceIdeal.main_arg1) = m ((c.tc : Thread Cert.ResizeReferenceIdeal.nD Cert.ResizeReferenceIdeal.τ).loc Cert.ResizeReferenceIdeal.main_arg1))
      ∧ r.2.sem = fun _ => 0)

def quiescent_ResizeReferenceIdeal_pre_finite1 [hResizeReferenceIdeal : Cert.ResizeReferenceIdeal.Facts] [hPre_finite1 : Cert.Pre_finite1.Facts] : Prop :=
  ∀ (m : (ℓ : Loc Cert.ResizeReferenceIdeal.nD Cert.ResizeReferenceIdeal.τ Cert.ResizeReferenceIdeal.sig) → Buf (Elt Ideal) ℓ) (g : Dev Cert.ResizeReferenceIdeal.nD → PrngReg), Pre_ResizeReferenceIdeal_finite1 m →
    θ_run (Cert.ResizeReferenceIdeal.defs (F := Ideal)) (onTc (τ := Cert.ResizeReferenceIdeal.τ) (Cert.ResizeReferenceIdeal.main (F := Ideal))) ⟨m, fun _ => 0, g⟩ (fun r => (∀ c : Dev Cert.ResizeReferenceIdeal.nD,
      r.2.mem ((c.tc : Thread Cert.ResizeReferenceIdeal.nD Cert.ResizeReferenceIdeal.τ).loc Cert.ResizeReferenceIdeal.main_arg0) = m ((c.tc : Thread Cert.ResizeReferenceIdeal.nD Cert.ResizeReferenceIdeal.τ).loc Cert.ResizeReferenceIdeal.main_arg0)
      ∧ r.2.mem ((c.tc : Thread Cert.ResizeReferenceIdeal.nD Cert.ResizeReferenceIdeal.τ).loc Cert.ResizeReferenceIdeal.main_arg1) = m ((c.tc : Thread Cert.ResizeReferenceIdeal.nD Cert.ResizeReferenceIdeal.τ).loc Cert.ResizeReferenceIdeal.main_arg1))
      ∧ r.2.sem = fun _ => 0)

def quiescent_Loss [hLoss : Cert.Loss.Facts] : Prop :=
  ∀ (m : (ℓ : Loc Cert.Loss.nD Cert.Loss.τ Cert.Loss.sig) → Buf (Elt Bits) ℓ) (g : Dev Cert.Loss.nD → PrngReg), Pre_Loss m →
    θ_run (Cert.Loss.defs (F := Bits)) (onTc (τ := Cert.Loss.τ) (Cert.Loss.main (F := Bits))) ⟨m, fun _ => 0, g⟩ (fun r => (∀ c : Dev Cert.Loss.nD,
      r.2.mem ((c.tc : Thread Cert.Loss.nD Cert.Loss.τ).loc Cert.Loss.main_arg0) = m ((c.tc : Thread Cert.Loss.nD Cert.Loss.τ).loc Cert.Loss.main_arg0)
      ∧ r.2.mem ((c.tc : Thread Cert.Loss.nD Cert.Loss.τ).loc Cert.Loss.main_arg1) = m ((c.tc : Thread Cert.Loss.nD Cert.Loss.τ).loc Cert.Loss.main_arg1)
      ∧ r.2.mem ((c.tc : Thread Cert.Loss.nD Cert.Loss.τ).loc Cert.Loss.main_arg2) = m ((c.tc : Thread Cert.Loss.nD Cert.Loss.τ).loc Cert.Loss.main_arg2)
      ∧ r.2.mem ((c.tc : Thread Cert.Loss.nD Cert.Loss.τ).loc Cert.Loss.main_arg3) = m ((c.tc : Thread Cert.Loss.nD Cert.Loss.τ).loc Cert.Loss.main_arg3)
      ∧ r.2.mem ((c.tc : Thread Cert.Loss.nD Cert.Loss.τ).loc Cert.Loss.main_arg4) = m ((c.tc : Thread Cert.Loss.nD Cert.Loss.τ).loc Cert.Loss.main_arg4)
      ∧ r.2.mem ((c.tc : Thread Cert.Loss.nD Cert.Loss.τ).loc Cert.Loss.main_arg5) = m ((c.tc : Thread Cert.Loss.nD Cert.Loss.τ).loc Cert.Loss.main_arg5))
      ∧ r.2.sem = fun _ => 0)

def quiescent_LossIdeal [hLossIdeal : Cert.LossIdeal.Facts] : Prop :=
  ∀ (m : (ℓ : Loc Cert.LossIdeal.nD Cert.LossIdeal.τ Cert.LossIdeal.sig) → Buf (Elt Ideal) ℓ) (g : Dev Cert.LossIdeal.nD → PrngReg), Pre_LossIdeal m →
    θ_run (Cert.LossIdeal.defs (F := Ideal)) (onTc (τ := Cert.LossIdeal.τ) (Cert.LossIdeal.main (F := Ideal))) ⟨m, fun _ => 0, g⟩ (fun r => (∀ c : Dev Cert.LossIdeal.nD,
      r.2.mem ((c.tc : Thread Cert.LossIdeal.nD Cert.LossIdeal.τ).loc Cert.LossIdeal.main_arg0) = m ((c.tc : Thread Cert.LossIdeal.nD Cert.LossIdeal.τ).loc Cert.LossIdeal.main_arg0)
      ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
      ∧ r.2.mem ((c.tc : Thread Cert.LossIdeal.nD Cert.LossIdeal.τ).loc Cert.LossIdeal.main_arg2) = m ((c.tc : Thread Cert.LossIdeal.nD Cert.LossIdeal.τ).loc Cert.LossIdeal.main_arg2)
      ∧ r.2.mem ((c.tc : Thread Cert.LossIdeal.nD Cert.LossIdeal.τ).loc Cert.LossIdeal.main_arg3) = m ((c.tc : Thread Cert.LossIdeal.nD Cert.LossIdeal.τ).loc Cert.LossIdeal.main_arg3)
      ∧ r.2.mem ((c.tc : Thread Cert.LossIdeal.nD Cert.LossIdeal.τ).loc Cert.LossIdeal.main_arg4) = m ((c.tc : Thread Cert.LossIdeal.nD Cert.LossIdeal.τ).loc Cert.LossIdeal.main_arg4)
      ∧ r.2.mem ((c.tc : Thread Cert.LossIdeal.nD Cert.LossIdeal.τ).loc Cert.LossIdeal.main_arg5) = m ((c.tc : Thread Cert.LossIdeal.nD Cert.LossIdeal.τ).loc Cert.LossIdeal.main_arg5))
      ∧ r.2.sem = fun _ => 0)

def quiescent_LossIdeal_pre_finite2 [hLossIdeal : Cert.LossIdeal.Facts] [hPre_finite2 : Cert.Pre_finite2.Facts] : Prop :=
  ∀ (m : (ℓ : Loc Cert.LossIdeal.nD Cert.LossIdeal.τ Cert.LossIdeal.sig) → Buf (Elt Ideal) ℓ) (g : Dev Cert.LossIdeal.nD → PrngReg), Pre_LossIdeal_finite2 m →
    θ_run (Cert.LossIdeal.defs (F := Ideal)) (onTc (τ := Cert.LossIdeal.τ) (Cert.LossIdeal.main (F := Ideal))) ⟨m, fun _ => 0, g⟩ (fun r => (∀ c : Dev Cert.LossIdeal.nD,
      r.2.mem ((c.tc : Thread Cert.LossIdeal.nD Cert.LossIdeal.τ).loc Cert.LossIdeal.main_arg0) = m ((c.tc : Thread Cert.LossIdeal.nD Cert.LossIdeal.τ).loc Cert.LossIdeal.main_arg0)
      ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
      ∧ r.2.mem ((c.tc : Thread Cert.LossIdeal.nD Cert.LossIdeal.τ).loc Cert.LossIdeal.main_arg2) = m ((c.tc : Thread Cert.LossIdeal.nD Cert.LossIdeal.τ).loc Cert.LossIdeal.main_arg2)
      ∧ r.2.mem ((c.tc : Thread Cert.LossIdeal.nD Cert.LossIdeal.τ).loc Cert.LossIdeal.main_arg3) = m ((c.tc : Thread Cert.LossIdeal.nD Cert.LossIdeal.τ).loc Cert.LossIdeal.main_arg3)
      ∧ r.2.mem ((c.tc : Thread Cert.LossIdeal.nD Cert.LossIdeal.τ).loc Cert.LossIdeal.main_arg4) = m ((c.tc : Thread Cert.LossIdeal.nD Cert.LossIdeal.τ).loc Cert.LossIdeal.main_arg4)
      ∧ r.2.mem ((c.tc : Thread Cert.LossIdeal.nD Cert.LossIdeal.τ).loc Cert.LossIdeal.main_arg5) = m ((c.tc : Thread Cert.LossIdeal.nD Cert.LossIdeal.τ).loc Cert.LossIdeal.main_arg5))
      ∧ r.2.sem = fun _ => 0)

def quiescent_LossReferenceIdeal [hLossReferenceIdeal : Cert.LossReferenceIdeal.Facts] : Prop :=
  ∀ (m : (ℓ : Loc Cert.LossReferenceIdeal.nD Cert.LossReferenceIdeal.τ Cert.LossReferenceIdeal.sig) → Buf (Elt Ideal) ℓ) (g : Dev Cert.LossReferenceIdeal.nD → PrngReg), Pre_LossReferenceIdeal m →
    θ_run (Cert.LossReferenceIdeal.defs (F := Ideal)) (onTc (τ := Cert.LossReferenceIdeal.τ) (Cert.LossReferenceIdeal.main (F := Ideal))) ⟨m, fun _ => 0, g⟩ (fun r => (∀ c : Dev Cert.LossReferenceIdeal.nD,
      r.2.mem ((c.tc : Thread Cert.LossReferenceIdeal.nD Cert.LossReferenceIdeal.τ).loc Cert.LossReferenceIdeal.main_arg0) = m ((c.tc : Thread Cert.LossReferenceIdeal.nD Cert.LossReferenceIdeal.τ).loc Cert.LossReferenceIdeal.main_arg0)
      ∧ r.2.mem ((c.tc : Thread Cert.LossReferenceIdeal.nD Cert.LossReferenceIdeal.τ).loc Cert.LossReferenceIdeal.main_arg1) = m ((c.tc : Thread Cert.LossReferenceIdeal.nD Cert.LossReferenceIdeal.τ).loc Cert.LossReferenceIdeal.main_arg1)
      ∧ r.2.mem ((c.tc : Thread Cert.LossReferenceIdeal.nD Cert.LossReferenceIdeal.τ).loc Cert.LossReferenceIdeal.main_arg2) = m ((c.tc : Thread Cert.LossReferenceIdeal.nD Cert.LossReferenceIdeal.τ).loc Cert.LossReferenceIdeal.main_arg2)
      ∧ r.2.mem ((c.tc : Thread Cert.LossReferenceIdeal.nD Cert.LossReferenceIdeal.τ).loc Cert.LossReferenceIdeal.main_arg3) = m ((c.tc : Thread Cert.LossReferenceIdeal.nD Cert.LossReferenceIdeal.τ).loc Cert.LossReferenceIdeal.main_arg3)
      ∧ r.2.mem ((c.tc : Thread Cert.LossReferenceIdeal.nD Cert.LossReferenceIdeal.τ).loc Cert.LossReferenceIdeal.main_arg4) = m ((c.tc : Thread Cert.LossReferenceIdeal.nD Cert.LossReferenceIdeal.τ).loc Cert.LossReferenceIdeal.main_arg4)
      ∧ r.2.mem ((c.tc : Thread Cert.LossReferenceIdeal.nD Cert.LossReferenceIdeal.τ).loc Cert.LossReferenceIdeal.main_arg5) = m ((c.tc : Thread Cert.LossReferenceIdeal.nD Cert.LossReferenceIdeal.τ).loc Cert.LossReferenceIdeal.main_arg5))
      ∧ r.2.sem = fun _ => 0)

def quiescent_LossReferenceIdeal_pre_finite2 [hLossReferenceIdeal : Cert.LossReferenceIdeal.Facts] [hPre_finite2 : Cert.Pre_finite2.Facts] : Prop :=
  ∀ (m : (ℓ : Loc Cert.LossReferenceIdeal.nD Cert.LossReferenceIdeal.τ Cert.LossReferenceIdeal.sig) → Buf (Elt Ideal) ℓ) (g : Dev Cert.LossReferenceIdeal.nD → PrngReg), Pre_LossReferenceIdeal_finite2 m →
    θ_run (Cert.LossReferenceIdeal.defs (F := Ideal)) (onTc (τ := Cert.LossReferenceIdeal.τ) (Cert.LossReferenceIdeal.main (F := Ideal))) ⟨m, fun _ => 0, g⟩ (fun r => (∀ c : Dev Cert.LossReferenceIdeal.nD,
      r.2.mem ((c.tc : Thread Cert.LossReferenceIdeal.nD Cert.LossReferenceIdeal.τ).loc Cert.LossReferenceIdeal.main_arg0) = m ((c.tc : Thread Cert.LossReferenceIdeal.nD Cert.LossReferenceIdeal.τ).loc Cert.LossReferenceIdeal.main_arg0)
      ∧ r.2.mem ((c.tc : Thread Cert.LossReferenceIdeal.nD Cert.LossReferenceIdeal.τ).loc Cert.LossReferenceIdeal.main_arg1) = m ((c.tc : Thread Cert.LossReferenceIdeal.nD Cert.LossReferenceIdeal.τ).loc Cert.LossReferenceIdeal.main_arg1)
      ∧ r.2.mem ((c.tc : Thread Cert.LossReferenceIdeal.nD Cert.LossReferenceIdeal.τ).loc Cert.LossReferenceIdeal.main_arg2) = m ((c.tc : Thread Cert.LossReferenceIdeal.nD Cert.LossReferenceIdeal.τ).loc Cert.LossReferenceIdeal.main_arg2)
      ∧ r.2.mem ((c.tc : Thread Cert.LossReferenceIdeal.nD Cert.LossReferenceIdeal.τ).loc Cert.LossReferenceIdeal.main_arg3) = m ((c.tc : Thread Cert.LossReferenceIdeal.nD Cert.LossReferenceIdeal.τ).loc Cert.LossReferenceIdeal.main_arg3)
      ∧ r.2.mem ((c.tc : Thread Cert.LossReferenceIdeal.nD Cert.LossReferenceIdeal.τ).loc Cert.LossReferenceIdeal.main_arg4) = m ((c.tc : Thread Cert.LossReferenceIdeal.nD Cert.LossReferenceIdeal.τ).loc Cert.LossReferenceIdeal.main_arg4)
      ∧ r.2.mem ((c.tc : Thread Cert.LossReferenceIdeal.nD Cert.LossReferenceIdeal.τ).loc Cert.LossReferenceIdeal.main_arg5) = m ((c.tc : Thread Cert.LossReferenceIdeal.nD Cert.LossReferenceIdeal.τ).loc Cert.LossReferenceIdeal.main_arg5))
      ∧ r.2.sem = fun _ => 0)

def preserves_Resize_ResizeIdeal : Prop :=
  True

def algebraic_ResizeIdeal_ResizeReferenceIdeal_pre_finite1 [hResizeIdeal : Cert.ResizeIdeal.Facts] [hResizeReferenceIdeal : Cert.ResizeReferenceIdeal.Facts] [hPre_finite1 : Cert.Pre_finite1.Facts] : Prop :=
  ∀ (m : (ℓ : Loc Cert.ResizeIdeal.nD Cert.ResizeIdeal.τ Cert.ResizeIdeal.sig) → Buf (Elt Ideal) ℓ) (g : Dev Cert.ResizeIdeal.nD → PrngReg)
    (m' : (ℓ : Loc Cert.ResizeReferenceIdeal.nD Cert.ResizeReferenceIdeal.τ Cert.ResizeReferenceIdeal.sig) → Buf (Elt Ideal) ℓ) (g' : Dev Cert.ResizeReferenceIdeal.nD → PrngReg), Pre_ResizeIdeal_finite1 m →
    (∀ c : Dev Cert.ResizeIdeal.nD,
      m' ((c.tc : Thread Cert.ResizeReferenceIdeal.nD Cert.ResizeReferenceIdeal.τ).loc Cert.ResizeReferenceIdeal.main_arg0) = m ((c.tc : Thread Cert.ResizeIdeal.nD Cert.ResizeIdeal.τ).loc Cert.ResizeIdeal.main_arg0)
      ∧ m' ((c.tc : Thread Cert.ResizeReferenceIdeal.nD Cert.ResizeReferenceIdeal.τ).loc Cert.ResizeReferenceIdeal.main_arg1) = m ((c.tc : Thread Cert.ResizeIdeal.nD Cert.ResizeIdeal.τ).loc Cert.ResizeIdeal.main_arg1)) →
    ∃ (v0 : (c : Dev Cert.ResizeIdeal.nD) → Buf (Elt Ideal) ((c.tc : Thread Cert.ResizeIdeal.nD Cert.ResizeIdeal.τ).loc Cert.ResizeIdeal.main_v124_0)) (v1 : (c : Dev Cert.ResizeIdeal.nD) → Buf (Elt Ideal) ((c.tc : Thread Cert.ResizeIdeal.nD Cert.ResizeIdeal.τ).loc Cert.ResizeIdeal.main_v124_1)) (v2 : (c : Dev Cert.ResizeIdeal.nD) → Buf (Elt Ideal) ((c.tc : Thread Cert.ResizeIdeal.nD Cert.ResizeIdeal.τ).loc Cert.ResizeIdeal.main_v124_2)) (v3 : (c : Dev Cert.ResizeIdeal.nD) → Buf (Elt Ideal) ((c.tc : Thread Cert.ResizeIdeal.nD Cert.ResizeIdeal.τ).loc Cert.ResizeIdeal.main_v124_3)),
      θ_run (Cert.ResizeIdeal.defs (F := Ideal)) (onTc (τ := Cert.ResizeIdeal.τ) (Cert.ResizeIdeal.main (F := Ideal))) ⟨m, fun _ => 0, g⟩ (fun r => ∀ c : Dev Cert.ResizeIdeal.nD,
          r.2.mem ((c.tc : Thread Cert.ResizeIdeal.nD Cert.ResizeIdeal.τ).loc Cert.ResizeIdeal.main_v124_0) = v0 c
          ∧ r.2.mem ((c.tc : Thread Cert.ResizeIdeal.nD Cert.ResizeIdeal.τ).loc Cert.ResizeIdeal.main_v124_1) = v1 c
          ∧ r.2.mem ((c.tc : Thread Cert.ResizeIdeal.nD Cert.ResizeIdeal.τ).loc Cert.ResizeIdeal.main_v124_2) = v2 c
          ∧ r.2.mem ((c.tc : Thread Cert.ResizeIdeal.nD Cert.ResizeIdeal.τ).loc Cert.ResizeIdeal.main_v124_3) = v3 c
          ∧ r.2.mem ((c.tc : Thread Cert.ResizeIdeal.nD Cert.ResizeIdeal.τ).loc Cert.ResizeIdeal.main_arg0) = m ((c.tc : Thread Cert.ResizeIdeal.nD Cert.ResizeIdeal.τ).loc Cert.ResizeIdeal.main_arg0)
          ∧ r.2.mem ((c.tc : Thread Cert.ResizeIdeal.nD Cert.ResizeIdeal.τ).loc Cert.ResizeIdeal.main_arg1) = m ((c.tc : Thread Cert.ResizeIdeal.nD Cert.ResizeIdeal.τ).loc Cert.ResizeIdeal.main_arg1))
      ∧ θ_run (Cert.ResizeReferenceIdeal.defs (F := Ideal)) (onTc (τ := Cert.ResizeReferenceIdeal.τ) (Cert.ResizeReferenceIdeal.main (F := Ideal))) ⟨m', fun _ => 0, g'⟩ (fun r => ∀ c : Dev Cert.ResizeReferenceIdeal.nD,
          r.2.mem ((c.tc : Thread Cert.ResizeReferenceIdeal.nD Cert.ResizeReferenceIdeal.τ).loc Cert.ResizeReferenceIdeal.main_v81) = v0 c
          ∧ r.2.mem ((c.tc : Thread Cert.ResizeReferenceIdeal.nD Cert.ResizeReferenceIdeal.τ).loc Cert.ResizeReferenceIdeal.main_v87) = v1 c
          ∧ r.2.mem ((c.tc : Thread Cert.ResizeReferenceIdeal.nD Cert.ResizeReferenceIdeal.τ).loc Cert.ResizeReferenceIdeal.main_v93) = v2 c
          ∧ r.2.mem ((c.tc : Thread Cert.ResizeReferenceIdeal.nD Cert.ResizeReferenceIdeal.τ).loc Cert.ResizeReferenceIdeal.main_v99) = v3 c
          ∧ r.2.mem ((c.tc : Thread Cert.ResizeReferenceIdeal.nD Cert.ResizeReferenceIdeal.τ).loc Cert.ResizeReferenceIdeal.main_arg0) = m' ((c.tc : Thread Cert.ResizeReferenceIdeal.nD Cert.ResizeReferenceIdeal.τ).loc Cert.ResizeReferenceIdeal.main_arg0)
          ∧ r.2.mem ((c.tc : Thread Cert.ResizeReferenceIdeal.nD Cert.ResizeReferenceIdeal.τ).loc Cert.ResizeReferenceIdeal.main_arg1) = m' ((c.tc : Thread Cert.ResizeReferenceIdeal.nD Cert.ResizeReferenceIdeal.τ).loc Cert.ResizeReferenceIdeal.main_arg1))

def preserves_Loss_LossIdeal : Prop :=
  True

def algebraic_LossIdeal_LossReferenceIdeal_pre_finite2 [hLossIdeal : Cert.LossIdeal.Facts] [hLossReferenceIdeal : Cert.LossReferenceIdeal.Facts] [hPre_finite2 : Cert.Pre_finite2.Facts] : Prop :=
  ∀ (m : (ℓ : Loc Cert.LossIdeal.nD Cert.LossIdeal.τ Cert.LossIdeal.sig) → Buf (Elt Ideal) ℓ) (g : Dev Cert.LossIdeal.nD → PrngReg)
    (m' : (ℓ : Loc Cert.LossReferenceIdeal.nD Cert.LossReferenceIdeal.τ Cert.LossReferenceIdeal.sig) → Buf (Elt Ideal) ℓ) (g' : Dev Cert.LossReferenceIdeal.nD → PrngReg), Pre_LossIdeal_finite2 m →
    (∀ c : Dev Cert.LossIdeal.nD,
      m' ((c.tc : Thread Cert.LossReferenceIdeal.nD Cert.LossReferenceIdeal.τ).loc Cert.LossReferenceIdeal.main_arg0) = m ((c.tc : Thread Cert.LossIdeal.nD Cert.LossIdeal.τ).loc Cert.LossIdeal.main_arg0)
      ∧ m' ((c.tc : Thread Cert.LossReferenceIdeal.nD Cert.LossReferenceIdeal.τ).loc Cert.LossReferenceIdeal.main_arg1) = m ((c.tc : Thread Cert.LossIdeal.nD Cert.LossIdeal.τ).loc Cert.LossIdeal.main_arg1)
      ∧ m' ((c.tc : Thread Cert.LossReferenceIdeal.nD Cert.LossReferenceIdeal.τ).loc Cert.LossReferenceIdeal.main_arg2) = m ((c.tc : Thread Cert.LossIdeal.nD Cert.LossIdeal.τ).loc Cert.LossIdeal.main_arg2)
      ∧ m' ((c.tc : Thread Cert.LossReferenceIdeal.nD Cert.LossReferenceIdeal.τ).loc Cert.LossReferenceIdeal.main_arg3) = m ((c.tc : Thread Cert.LossIdeal.nD Cert.LossIdeal.τ).loc Cert.LossIdeal.main_arg3)
      ∧ m' ((c.tc : Thread Cert.LossReferenceIdeal.nD Cert.LossReferenceIdeal.τ).loc Cert.LossReferenceIdeal.main_arg4) = m ((c.tc : Thread Cert.LossIdeal.nD Cert.LossIdeal.τ).loc Cert.LossIdeal.main_arg4)
      ∧ m' ((c.tc : Thread Cert.LossReferenceIdeal.nD Cert.LossReferenceIdeal.τ).loc Cert.LossReferenceIdeal.main_arg5) = m ((c.tc : Thread Cert.LossIdeal.nD Cert.LossIdeal.τ).loc Cert.LossIdeal.main_arg5)) →
    ∃ (v0 : (c : Dev Cert.LossIdeal.nD) → Buf (Elt Ideal) ((c.tc : Thread Cert.LossIdeal.nD Cert.LossIdeal.τ).loc Cert.LossIdeal.main_v0)),
      θ_run (Cert.LossIdeal.defs (F := Ideal)) (onTc (τ := Cert.LossIdeal.τ) (Cert.LossIdeal.main (F := Ideal))) ⟨m, fun _ => 0, g⟩ (fun r => ∀ c : Dev Cert.LossIdeal.nD,
          r.2.mem ((c.tc : Thread Cert.LossIdeal.nD Cert.LossIdeal.τ).loc Cert.LossIdeal.main_v0) = v0 c
          ∧ r.2.mem ((c.tc : Thread Cert.LossIdeal.nD Cert.LossIdeal.τ).loc Cert.LossIdeal.main_arg0) = m ((c.tc : Thread Cert.LossIdeal.nD Cert.LossIdeal.τ).loc Cert.LossIdeal.main_arg0)
          ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
          ∧ r.2.mem ((c.tc : Thread Cert.LossIdeal.nD Cert.LossIdeal.τ).loc Cert.LossIdeal.main_arg2) = m ((c.tc : Thread Cert.LossIdeal.nD Cert.LossIdeal.τ).loc Cert.LossIdeal.main_arg2)
          ∧ r.2.mem ((c.tc : Thread Cert.LossIdeal.nD Cert.LossIdeal.τ).loc Cert.LossIdeal.main_arg3) = m ((c.tc : Thread Cert.LossIdeal.nD Cert.LossIdeal.τ).loc Cert.LossIdeal.main_arg3)
          ∧ r.2.mem ((c.tc : Thread Cert.LossIdeal.nD Cert.LossIdeal.τ).loc Cert.LossIdeal.main_arg4) = m ((c.tc : Thread Cert.LossIdeal.nD Cert.LossIdeal.τ).loc Cert.LossIdeal.main_arg4)
          ∧ r.2.mem ((c.tc : Thread Cert.LossIdeal.nD Cert.LossIdeal.τ).loc Cert.LossIdeal.main_arg5) = m ((c.tc : Thread Cert.LossIdeal.nD Cert.LossIdeal.τ).loc Cert.LossIdeal.main_arg5))
      ∧ θ_run (Cert.LossReferenceIdeal.defs (F := Ideal)) (onTc (τ := Cert.LossReferenceIdeal.τ) (Cert.LossReferenceIdeal.main (F := Ideal))) ⟨m', fun _ => 0, g'⟩ (fun r => ∀ c : Dev Cert.LossReferenceIdeal.nD,
          r.2.mem ((c.tc : Thread Cert.LossReferenceIdeal.nD Cert.LossReferenceIdeal.τ).loc Cert.LossReferenceIdeal.main_v87) = v0 c
          ∧ r.2.mem ((c.tc : Thread Cert.LossReferenceIdeal.nD Cert.LossReferenceIdeal.τ).loc Cert.LossReferenceIdeal.main_arg0) = m' ((c.tc : Thread Cert.LossReferenceIdeal.nD Cert.LossReferenceIdeal.τ).loc Cert.LossReferenceIdeal.main_arg0)
          ∧ r.2.mem ((c.tc : Thread Cert.LossReferenceIdeal.nD Cert.LossReferenceIdeal.τ).loc Cert.LossReferenceIdeal.main_arg1) = m' ((c.tc : Thread Cert.LossReferenceIdeal.nD Cert.LossReferenceIdeal.τ).loc Cert.LossReferenceIdeal.main_arg1)
          ∧ r.2.mem ((c.tc : Thread Cert.LossReferenceIdeal.nD Cert.LossReferenceIdeal.τ).loc Cert.LossReferenceIdeal.main_arg2) = m' ((c.tc : Thread Cert.LossReferenceIdeal.nD Cert.LossReferenceIdeal.τ).loc Cert.LossReferenceIdeal.main_arg2)
          ∧ r.2.mem ((c.tc : Thread Cert.LossReferenceIdeal.nD Cert.LossReferenceIdeal.τ).loc Cert.LossReferenceIdeal.main_arg3) = m' ((c.tc : Thread Cert.LossReferenceIdeal.nD Cert.LossReferenceIdeal.τ).loc Cert.LossReferenceIdeal.main_arg3)
          ∧ r.2.mem ((c.tc : Thread Cert.LossReferenceIdeal.nD Cert.LossReferenceIdeal.τ).loc Cert.LossReferenceIdeal.main_arg4) = m' ((c.tc : Thread Cert.LossReferenceIdeal.nD Cert.LossReferenceIdeal.τ).loc Cert.LossReferenceIdeal.main_arg4)
          ∧ r.2.mem ((c.tc : Thread Cert.LossReferenceIdeal.nD Cert.LossReferenceIdeal.τ).loc Cert.LossReferenceIdeal.main_arg5) = m' ((c.tc : Thread Cert.LossReferenceIdeal.nD Cert.LossReferenceIdeal.τ).loc Cert.LossReferenceIdeal.main_arg5))

def Claim : Prop :=
  ∃ (hResize : Cert.Resize.Facts) (hResizeIdeal : Cert.ResizeIdeal.Facts) (hResizeReferenceIdeal : Cert.ResizeReferenceIdeal.Facts) (hLoss : Cert.Loss.Facts) (hLossIdeal : Cert.LossIdeal.Facts) (hLossReferenceIdeal : Cert.LossReferenceIdeal.Facts) (hPre_finite1 : Cert.Pre_finite1.Facts) (hPre_finite2 : Cert.Pre_finite2.Facts),
    quiescent_Resize (hResize := hResize)
    ∧ quiescent_ResizeIdeal (hResizeIdeal := hResizeIdeal)
    ∧ quiescent_ResizeIdeal_pre_finite1 (hResizeIdeal := hResizeIdeal) (hPre_finite1 := hPre_finite1)
    ∧ quiescent_ResizeReferenceIdeal (hResizeReferenceIdeal := hResizeReferenceIdeal)
    ∧ quiescent_ResizeReferenceIdeal_pre_finite1 (hResizeReferenceIdeal := hResizeReferenceIdeal) (hPre_finite1 := hPre_finite1)
    ∧ quiescent_Loss (hLoss := hLoss)
    ∧ quiescent_LossIdeal (hLossIdeal := hLossIdeal)
    ∧ quiescent_LossIdeal_pre_finite2 (hLossIdeal := hLossIdeal) (hPre_finite2 := hPre_finite2)
    ∧ quiescent_LossReferenceIdeal (hLossReferenceIdeal := hLossReferenceIdeal)
    ∧ quiescent_LossReferenceIdeal_pre_finite2 (hLossReferenceIdeal := hLossReferenceIdeal) (hPre_finite2 := hPre_finite2)
    ∧ preserves_Resize_ResizeIdeal
    ∧ algebraic_ResizeIdeal_ResizeReferenceIdeal_pre_finite1 (hResizeIdeal := hResizeIdeal) (hResizeReferenceIdeal := hResizeReferenceIdeal) (hPre_finite1 := hPre_finite1)
    ∧ preserves_Loss_LossIdeal
    ∧ algebraic_LossIdeal_LossReferenceIdeal_pre_finite2 (hLossIdeal := hLossIdeal) (hLossReferenceIdeal := hLossReferenceIdeal) (hPre_finite2 := hPre_finite2)
-- ==== Pre_finite1.lean ====
abbrev S1x64x32x32x32 : Shape := ⟨5, ![1, 64, 32, 32, 32]⟩
abbrev S_ : Shape := ⟨0, ![]⟩

class Facts : Prop where
  bcast_S_S1x64x32x32x32 : S_.BroadcastsInDim S1x64x32x32x32 (![] : Fin 0 → Fin S1x64x32x32x32.rank)
  reducesTo_S1x64x32x32x32_S_d0_1_2_3_4 : S1x64x32x32x32.ReducesTo [0, 1, 2, 3, 4] S_
  h_S_ : 0 < S_.numel

variable [Facts]

def fn {F : FTy → Type} [FloatOps F] (main_arg0 : FVec F S1x64x32x32x32 .f32) (main_arg1 : FVec F S1x64x32x32x32 .f32) : IVec S_ 1 :=
  let main_v0 : FVec F S1x64x32x32x32 .f32 := Host.absf main_arg0
  let main_cst : FVec F S_ .f32 := constant S_ .f32 0x7F800000#32
  let main_v1 : FVec F S1x64x32x32x32 .f32 := broadcastInDim S1x64x32x32x32 ![] bcast_S_S1x64x32x32x32 main_cst
  let main_v2 : IVec S1x64x32x32x32 1 := cmpf .olt main_v0 main_v1
  let main_c : IVec S_ 1 := constantI S_ 1 1#1
  let main_v3 : IVec S_ 1 := (fun x v => Host.reduce IntOp.andi x v reducesTo_S1x64x32x32x32_S_d0_1_2_3_4 h_S_) main_v2 main_c
  let main_v4 : FVec F S1x64x32x32x32 .f32 := Host.absf main_arg1
  let main_cst_0 : FVec F S_ .f32 := constant S_ .f32 0x7F800000#32
  let main_v5 : FVec F S1x64x32x32x32 .f32 := broadcastInDim S1x64x32x32x32 ![] bcast_S_S1x64x32x32x32 main_cst_0
  let main_v6 : IVec S1x64x32x32x32 1 := cmpf .olt main_v4 main_v5
  let main_c_1 : IVec S_ 1 := constantI S_ 1 1#1
  let main_v7 : IVec S_ 1 := (fun x v => Host.reduce IntOp.andi x v reducesTo_S1x64x32x32x32_S_d0_1_2_3_4 h_S_) main_v6 main_c_1
  let main_v8 : IVec S_ 1 := andi main_v3 main_v7
  main_v8
-- ==== Pre_finite2.lean ====
abbrev S64x4096 : Shape := ⟨2, ![64, 4096]⟩
abbrev S4096x3 : Shape := ⟨2, ![4096, 3]⟩
abbrev S64x512 : Shape := ⟨2, ![64, 512]⟩
abbrev S512x3 : Shape := ⟨2, ![512, 3]⟩
abbrev S_ : Shape := ⟨0, ![]⟩

class Facts : Prop where
  bcast_S_S64x4096 : S_.BroadcastsInDim S64x4096 (![] : Fin 0 → Fin S64x4096.rank)
  reducesTo_S64x4096_S_d0_1 : S64x4096.ReducesTo [0, 1] S_
  h_S_ : 0 < S_.numel
  bcast_S_S64x512 : S_.BroadcastsInDim S64x512 (![] : Fin 0 → Fin S64x512.rank)
  reducesTo_S64x512_S_d0_1 : S64x512.ReducesTo [0, 1] S_

variable [Facts]

def fn_part1 {F : FTy → Type} [FloatOps F] (main_v13 : IVec S_ 1) (main_v16 : IVec S64x512 1) : IVec S_ 1 :=
  let main_c_5 : IVec S_ 1 := constantI S_ 1 1#1
  let main_v17 : IVec S_ 1 := (fun x v => Host.reduce IntOp.andi x v reducesTo_S64x512_S_d0_1 h_S_) main_v16 main_c_5
  let main_v18 : IVec S_ 1 := andi main_v13 main_v17
  main_v18

def fn {F : FTy → Type} [FloatOps F] (main_arg0 : FVec F S64x4096 .f32) (main_arg1 : FVec F S64x4096 .f32) (main_arg2 : FVec F S4096x3 .f32) (main_arg3 : FVec F S64x512 .f32) (main_arg4 : FVec F S64x512 .f32) (main_arg5 : FVec F S512x3 .f32) : IVec S_ 1 :=
  let main_v0 : FVec F S64x4096 .f32 := Host.absf main_arg0
  let main_cst : FVec F S_ .f32 := constant S_ .f32 0x7F800000#32
  let main_v1 : FVec F S64x4096 .f32 := broadcastInDim S64x4096 ![] bcast_S_S64x4096 main_cst
  let main_v2 : IVec S64x4096 1 := cmpf .olt main_v0 main_v1
  let main_c : IVec S_ 1 := constantI S_ 1 1#1
  let main_v3 : IVec S_ 1 := (fun x v => Host.reduce IntOp.andi x v reducesTo_S64x4096_S_d0_1 h_S_) main_v2 main_c
  let main_v4 : FVec F S64x4096 .f32 := Host.absf main_arg1
  let main_cst_0 : FVec F S_ .f32 := constant S_ .f32 0x7F800000#32
  let main_v5 : FVec F S64x4096 .f32 := broadcastInDim S64x4096 ![] bcast_S_S64x4096 main_cst_0
  let main_v6 : IVec S64x4096 1 := cmpf .olt main_v4 main_v5
  let main_c_1 : IVec S_ 1 := constantI S_ 1 1#1
  let main_v7 : IVec S_ 1 := (fun x v => Host.reduce IntOp.andi x v reducesTo_S64x4096_S_d0_1 h_S_) main_v6 main_c_1
  let main_v8 : IVec S_ 1 := andi main_v3 main_v7
  let main_v9 : FVec F S64x512 .f32 := Host.absf main_arg3
  let main_cst_2 : FVec F S_ .f32 := constant S_ .f32 0x7F800000#32
  let main_v10 : FVec F S64x512 .f32 := broadcastInDim S64x512 ![] bcast_S_S64x512 main_cst_2
  let main_v11 : IVec S64x512 1 := cmpf .olt main_v9 main_v10
  let main_c_3 : IVec S_ 1 := constantI S_ 1 1#1
  let main_v12 : IVec S_ 1 := (fun x v => Host.reduce IntOp.andi x v reducesTo_S64x512_S_d0_1 h_S_) main_v11 main_c_3
  let main_v13 : IVec S_ 1 := andi main_v8 main_v12
  let main_v14 : FVec F S64x512 .f32 := Host.absf main_arg4
  let main_cst_4 : FVec F S_ .f32 := constant S_ .f32 0x7F800000#32
  let main_v15 : FVec F S64x512 .f32 := broadcastInDim S64x512 ![] bcast_S_S64x512 main_cst_4
  let main_v16 : IVec S64x512 1 := cmpf .olt main_v14 main_v15
  fn_part1 (F := F) main_v13 main_v16
-- ==== Resize.lean ====
abbrev S1x64x32x32x32 : Shape := ⟨5, ![1, 64, 32, 32, 32]⟩
abbrev S64x32x1024 : Shape := ⟨3, ![64, 32, 1024]⟩
abbrev S16 : Shape := ⟨1, ![16]⟩
abbrev S_ : Shape := ⟨0, ![]⟩
abbrev S1x16 : Shape := ⟨2, ![1, 16]⟩
abbrev S32 : Shape := ⟨1, ![32]⟩
abbrev S32x1 : Shape := ⟨2, ![32, 1]⟩
abbrev S32x16 : Shape := ⟨2, ![32, 16]⟩
abbrev S8 : Shape := ⟨1, ![8]⟩
abbrev S1x8 : Shape := ⟨2, ![1, 8]⟩
abbrev S32x8 : Shape := ⟨2, ![32, 8]⟩
abbrev S16x16 : Shape := ⟨2, ![16, 16]⟩
abbrev S32x1x16x1 : Shape := ⟨4, ![32, 1, 16, 1]⟩
abbrev S1x32x1x16 : Shape := ⟨4, ![1, 32, 1, 16]⟩
abbrev S32x32x16x16 : Shape := ⟨4, ![32, 32, 16, 16]⟩
abbrev S1024x256 : Shape := ⟨2, ![1024, 256]⟩
abbrev S32x1x8x1 : Shape := ⟨4, ![32, 1, 8, 1]⟩
abbrev S1x32x1x8 : Shape := ⟨4, ![1, 32, 1, 8]⟩
abbrev S32x32x8x8 : Shape := ⟨4, ![32, 32, 8, 8]⟩
abbrev S1024x64 : Shape := ⟨2, ![1024, 64]⟩
abbrev S16x1x16x1 : Shape := ⟨4, ![16, 1, 16, 1]⟩
abbrev S16x32x16x16 : Shape := ⟨4, ![16, 32, 16, 16]⟩
abbrev S512x256 : Shape := ⟨2, ![512, 256]⟩
abbrev S16x32x16x8 : Shape := ⟨4, ![16, 32, 16, 8]⟩
abbrev S512x128 : Shape := ⟨2, ![512, 128]⟩
abbrev S64x16x256 : Shape := ⟨3, ![64, 16, 256]⟩
abbrev S64x8x64 : Shape := ⟨3, ![64, 8, 64]⟩
abbrev S16x32x1024 : Shape := ⟨3, ![16, 32, 1024]⟩
abbrev S16x16x256 : Shape := ⟨3, ![16, 16, 256]⟩
abbrev S16x8x64 : Shape := ⟨3, ![16, 8, 64]⟩
abbrev S512x1024 : Shape := ⟨2, ![512, 1024]⟩
abbrev S512x64 : Shape := ⟨2, ![512, 64]⟩
abbrev S256x512 : Shape := ⟨2, ![256, 512]⟩
abbrev S256x256 : Shape := ⟨2, ![256, 256]⟩
abbrev S64x512 : Shape := ⟨2, ![64, 512]⟩
abbrev S64x128 : Shape := ⟨2, ![64, 128]⟩
abbrev S128x64 : Shape := ⟨2, ![128, 64]⟩

abbrev nBuf : Space → Nat
  | .hbm => 169
  | .vmem => 20
  | .smem => 0
  | _ => 0

abbrev hbmTy0_0 (i : Nat) : BufTy := match i % 128 with
  | 0 => ⟨S1x64x32x32x32, .f32⟩
  | 1 => ⟨S1x64x32x32x32, .f32⟩
  | 2 => ⟨S64x32x1024, .f32⟩
  | 3 => ⟨S64x32x1024, .f32⟩
  | 4 => ⟨S16, .f32⟩
  | 5 => ⟨S_, .f32⟩
  | 6 => ⟨S16, .f32⟩
  | 7 => ⟨S16, .f32⟩
  | 8 => ⟨S_, .f32⟩
  | 9 => ⟨S16, .f32⟩
  | 10 => ⟨S16, .f32⟩
  | 11 => ⟨S_, .f32⟩
  | 12 => ⟨S16, .f32⟩
  | 13 => ⟨S16, .f32⟩
  | 14 => ⟨S1x16, .f32⟩
  | 15 => ⟨S32, .f32⟩
  | 16 => ⟨S32x1, .f32⟩
  | 17 => ⟨S32x16, .f32⟩
  | 18 => ⟨S32x16, .f32⟩
  | 19 => ⟨S32x16, .f32⟩
  | 20 => ⟨S32x16, .f32⟩
  | 21 => ⟨S_, .f32⟩
  | 22 => ⟨S32x16, .f32⟩
  | 23 => ⟨S32x16, .f32⟩
  | 24 => ⟨S_, .f32⟩
  | 25 => ⟨S32x16, .f32⟩
  | 26 => ⟨S32x16, .f32⟩
  | 27 => ⟨S_, .f32⟩
  | 28 => ⟨S32x16, .f32⟩
  | 29 => ⟨S32x16, .f32⟩
  | 30 => ⟨S_, .f32⟩
  | 31 => ⟨S16, .f32⟩
  | 32 => ⟨S1x16, .f32⟩
  | 33 => ⟨S1x16, .f32⟩
  | 34 => ⟨S_, .f32⟩
  | 35 => ⟨S1x16, .f32⟩
  | 36 => ⟨S1x16, .i1⟩
  | 37 => ⟨S_, .f32⟩
  | 38 => ⟨S1x16, .f32⟩
  | 39 => ⟨S1x16, .i1⟩
  | 40 => ⟨S_, .f32⟩
  | 41 => ⟨S1x16, .f32⟩
  | 42 => ⟨S1x16, .f32⟩
  | 43 => ⟨S32x16, .f32⟩
  | 44 => ⟨S32x16, .f32⟩
  | 45 => ⟨S_, .f32⟩
  | 46 => ⟨S32x16, .i1⟩
  | 47 => ⟨S32x16, .f32⟩
  | 48 => ⟨S32x16, .f32⟩
  | 49 => ⟨S_, .f32⟩
  | 50 => ⟨S16, .f32⟩
  | 51 => ⟨S16, .i1⟩
  | 52 => ⟨S_, .f32⟩
  | 53 => ⟨S16, .f32⟩
  | 54 => ⟨S16, .i1⟩
  | 55 => ⟨S16, .i1⟩
  | 56 => ⟨S1x16, .i1⟩
  | 57 => ⟨S_, .f32⟩
  | 58 => ⟨S32x16, .i1⟩
  | 59 => ⟨S32x16, .f32⟩
  | 60 => ⟨S32x16, .f32⟩
  | 61 => ⟨S8, .f32⟩
  | 62 => ⟨S_, .f32⟩
  | 63 => ⟨S8, .f32⟩
  | 64 => ⟨S8, .f32⟩
  | 65 => ⟨S_, .f32⟩
  | 66 => ⟨S8, .f32⟩
  | 67 => ⟨S8, .f32⟩
  | 68 => ⟨S_, .f32⟩
  | 69 => ⟨S8, .f32⟩
  | 70 => ⟨S8, .f32⟩
  | 71 => ⟨S1x8, .f32⟩
  | 72 => ⟨S32, .f32⟩
  | 73 => ⟨S32x1, .f32⟩
  | 74 => ⟨S32x8, .f32⟩
  | 75 => ⟨S32x8, .f32⟩
  | 76 => ⟨S32x8, .f32⟩
  | 77 => ⟨S32x8, .f32⟩
  | 78 => ⟨S_, .f32⟩
  | 79 => ⟨S32x8, .f32⟩
  | 80 => ⟨S32x8, .f32⟩
  | 81 => ⟨S_, .f32⟩
  | 82 => ⟨S32x8, .f32⟩
  | 83 => ⟨S32x8, .f32⟩
  | 84 => ⟨S_, .f32⟩
  | 85 => ⟨S32x8, .f32⟩
  | 86 => ⟨S32x8, .f32⟩
  | 87 => ⟨S_, .f32⟩
  | 88 => ⟨S8, .f32⟩
  | 89 => ⟨S1x8, .f32⟩
  | 90 => ⟨S1x8, .f32⟩
  | 91 => ⟨S_, .f32⟩
  | 92 => ⟨S1x8, .f32⟩
  | 93 => ⟨S1x8, .i1⟩
  | 94 => ⟨S_, .f32⟩
  | 95 => ⟨S1x8, .f32⟩
  | 96 => ⟨S1x8, .i1⟩
  | 97 => ⟨S_, .f32⟩
  | 98 => ⟨S1x8, .f32⟩
  | 99 => ⟨S1x8, .f32⟩
  | 100 => ⟨S32x8, .f32⟩
  | 101 => ⟨S32x8, .f32⟩
  | 102 => ⟨S_, .f32⟩
  | 103 => ⟨S32x8, .i1⟩
  | 104 => ⟨S32x8, .f32⟩
  | 105 => ⟨S32x8, .f32⟩
  | 106 => ⟨S_, .f32⟩
  | 107 => ⟨S8, .f32⟩
  | 108 => ⟨S8, .i1⟩
  | 109 => ⟨S_, .f32⟩
  | 110 => ⟨S8, .f32⟩
  | 111 => ⟨S8, .i1⟩
  | 112 => ⟨S8, .i1⟩
  | 113 => ⟨S1x8, .i1⟩
  | 114 => ⟨S_, .f32⟩
  | 115 => ⟨S32x8, .i1⟩
  | 116 => ⟨S32x8, .f32⟩
  | 117 => ⟨S32x8, .f32⟩
  | 118 => ⟨S16x16, .i32⟩
  | 119 => ⟨S16x16, .i32⟩
  | 120 => ⟨S_, .i32⟩
  | 121 => ⟨S16x16, .i32⟩
  | 122 => ⟨S16x16, .i32⟩
  | 123 => ⟨S16x16, .i1⟩
  | 124 => ⟨S16x16, .f32⟩
  | 125 => ⟨S32x1x16x1, .f32⟩
  | 126 => ⟨S1x32x1x16, .f32⟩
  | 127 => ⟨S32x32x16x16, .f32⟩
  | _ => ⟨S1x64x32x32x32, .f32⟩

abbrev hbmTy0_1 (i : Nat) : BufTy := match i % 128 with
  | 0 => ⟨S32x32x16x16, .f32⟩
  | 1 => ⟨S32x32x16x16, .f32⟩
  | 2 => ⟨S1024x256, .f32⟩
  | 3 => ⟨S1024x256, .bf16⟩
  | 4 => ⟨S1024x256, .f32⟩
  | 5 => ⟨S1024x256, .f32⟩
  | 6 => ⟨S1024x256, .bf16⟩
  | 7 => ⟨S32x1x8x1, .f32⟩
  | 8 => ⟨S1x32x1x8, .f32⟩
  | 9 => ⟨S32x32x8x8, .f32⟩
  | 10 => ⟨S32x32x8x8, .f32⟩
  | 11 => ⟨S32x32x8x8, .f32⟩
  | 12 => ⟨S1024x64, .f32⟩
  | 13 => ⟨S1024x64, .bf16⟩
  | 14 => ⟨S1024x64, .f32⟩
  | 15 => ⟨S1024x64, .f32⟩
  | 16 => ⟨S1024x64, .bf16⟩
  | 17 => ⟨S16x1x16x1, .f32⟩
  | 18 => ⟨S1x32x1x16, .f32⟩
  | 19 => ⟨S16x32x16x16, .f32⟩
  | 20 => ⟨S16x32x16x16, .f32⟩
  | 21 => ⟨S16x32x16x16, .f32⟩
  | 22 => ⟨S512x256, .f32⟩
  | 23 => ⟨S512x256, .bf16⟩
  | 24 => ⟨S512x256, .f32⟩
  | 25 => ⟨S512x256, .f32⟩
  | 26 => ⟨S512x256, .bf16⟩
  | 27 => ⟨S16x1x16x1, .f32⟩
  | 28 => ⟨S1x32x1x8, .f32⟩
  | 29 => ⟨S16x32x16x8, .f32⟩
  | 30 => ⟨S16x32x16x8, .f32⟩
  | 31 => ⟨S16x32x16x8, .f32⟩
  | 32 => ⟨S512x128, .f32⟩
  | 33 => ⟨S512x128, .bf16⟩
  | 34 => ⟨S512x128, .f32⟩
  | 35 => ⟨S512x128, .f32⟩
  | 36 => ⟨S512x128, .bf16⟩
  | 37 => ⟨S64x16x256, .f32⟩
  | 38 => ⟨S64x16x256, .f32⟩
  | 39 => ⟨S64x8x64, .f32⟩
  | 40 => ⟨S64x8x64, .f32⟩
  | _ => ⟨S1x64x32x32x32, .f32⟩

abbrev hbmTy (i : Nat) : BufTy := match i / 128 with
  | 0 => hbmTy0_0 i
  | 1 => hbmTy0_1 i
  | _ => ⟨S1x64x32x32x32, .f32⟩

abbrev bufTy : (tb : Table) → Fin (tcTables nBuf tb) → BufTy
  | .hbm, ⟨i, _⟩ => hbmTy i
  | .local _ .vmem, ⟨0, _⟩ => ⟨S16x32x1024, .f32⟩
  | .local _ .vmem, ⟨1, _⟩ => ⟨S16x32x1024, .f32⟩
  | .local _ .vmem, ⟨2, _⟩ => ⟨S16x32x1024, .f32⟩
  | .local _ .vmem, ⟨3, _⟩ => ⟨S16x32x1024, .f32⟩
  | .local _ .vmem, ⟨4, _⟩ => ⟨S1024x256, .bf16⟩
  | .local _ .vmem, ⟨5, _⟩ => ⟨S1024x256, .bf16⟩
  | .local _ .vmem, ⟨6, _⟩ => ⟨S1024x64, .bf16⟩
  | .local _ .vmem, ⟨7, _⟩ => ⟨S1024x64, .bf16⟩
  | .local _ .vmem, ⟨8, _⟩ => ⟨S512x256, .bf16⟩
  | .local _ .vmem, ⟨9, _⟩ => ⟨S512x256, .bf16⟩
  | .local _ .vmem, ⟨10, _⟩ => ⟨S512x128, .bf16⟩
  | .local _ .vmem, ⟨11, _⟩ => ⟨S512x128, .bf16⟩
  | .local _ .vmem, ⟨12, _⟩ => ⟨S16x16x256, .f32⟩
  | .local _ .vmem, ⟨13, _⟩ => ⟨S16x16x256, .f32⟩
  | .local _ .vmem, ⟨14, _⟩ => ⟨S16x16x256, .f32⟩
  | .local _ .vmem, ⟨15, _⟩ => ⟨S16x16x256, .f32⟩
  | .local _ .vmem, ⟨16, _⟩ => ⟨S16x8x64, .f32⟩
  | .local _ .vmem, ⟨17, _⟩ => ⟨S16x8x64, .f32⟩
  | .local _ .vmem, ⟨18, _⟩ => ⟨S16x8x64, .f32⟩
  | .local _ .vmem, ⟨19, _⟩ => ⟨S16x8x64, .f32⟩
  | _, _ => ⟨S1x64x32x32x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_cst_2 : Ref sig .tc := ⟨.hbm, 21, rfl⟩
abbrev main_v16 : Ref sig .tc := ⟨.hbm, 22, rfl⟩
abbrev main_v17 : Ref sig .tc := ⟨.hbm, 23, rfl⟩
abbrev main_cst_3 : Ref sig .tc := ⟨.hbm, 24, rfl⟩
abbrev main_v18 : Ref sig .tc := ⟨.hbm, 25, rfl⟩
abbrev main_v19 : Ref sig .tc := ⟨.hbm, 26, rfl⟩
abbrev main_cst_4 : Ref sig .tc := ⟨.hbm, 27, rfl⟩
abbrev main_v20 : Ref sig .tc := ⟨.hbm, 28, rfl⟩
abbrev main_v21 : Ref sig .tc := ⟨.hbm, 29, rfl⟩
abbrev main_cst_5 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_cst_6 : Ref sig .tc := ⟨.hbm, 34, rfl⟩
abbrev main_v25 : Ref sig .tc := ⟨.hbm, 35, rfl⟩
abbrev main_v26 : Ref sig .tc := ⟨.hbm, 36, rfl⟩
abbrev main_cst_7 : Ref sig .tc := ⟨.hbm, 37, rfl⟩
abbrev main_v27 : Ref sig .tc := ⟨.hbm, 38, rfl⟩
abbrev main_v28 : Ref sig .tc := ⟨.hbm, 39, rfl⟩
abbrev main_cst_8 : Ref sig .tc := ⟨.hbm, 40, rfl⟩
abbrev main_call0_v0 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_cst_9 : Ref sig .tc := ⟨.hbm, 45, rfl⟩
abbrev main_call1_v0 : Ref sig .tc := ⟨.hbm, 46, rfl⟩
abbrev main_call1_v1 : Ref sig .tc := ⟨.hbm, 47, rfl⟩
abbrev main_v32 : Ref sig .tc := ⟨.hbm, 48, rfl⟩
abbrev main_cst_10 : Ref sig .tc := ⟨.hbm, 49, rfl⟩
abbrev main_v33 : Ref sig .tc := ⟨.hbm, 50, rfl⟩
abbrev main_v34 : Ref sig .tc := ⟨.hbm, 51, rfl⟩
abbrev main_cst_11 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_cst_12 : Ref sig .tc := ⟨.hbm, 57, rfl⟩
abbrev main_call2_v0 : Ref sig .tc := ⟨.hbm, 58, rfl⟩
abbrev main_call2_v1 : Ref sig .tc := ⟨.hbm, 59, rfl⟩
abbrev main_v39 : Ref sig .tc := ⟨.hbm, 60, rfl⟩
abbrev main_v40 : Ref sig .tc := ⟨.hbm, 61, rfl⟩
abbrev main_cst_13 : Ref sig .tc := ⟨.hbm, 62, rfl⟩
abbrev main_v41 : Ref sig .tc := ⟨.hbm, 63, rfl⟩
abbrev main_v42 : Ref sig .tc := ⟨.hbm, 64, rfl⟩
abbrev main_cst_14 : Ref sig .tc := ⟨.hbm, 65, rfl⟩
abbrev main_v43 : Ref sig .tc := ⟨.hbm, 66, rfl⟩
abbrev main_v44 : Ref sig .tc := ⟨.hbm, 67, rfl⟩
abbrev main_cst_15 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_cst_16 : Ref sig .tc := ⟨.hbm, 78, rfl⟩
abbrev main_v54 : Ref sig .tc := ⟨.hbm, 79, rfl⟩
abbrev main_v55 : Ref sig .tc := ⟨.hbm, 80, rfl⟩
abbrev main_cst_17 : Ref sig .tc := ⟨.hbm, 81, rfl⟩
abbrev main_v56 : Ref sig .tc := ⟨.hbm, 82, rfl⟩
abbrev main_v57 : Ref sig .tc := ⟨.hbm, 83, rfl⟩
abbrev main_cst_18 : Ref sig .tc := ⟨.hbm, 84, rfl⟩
abbrev main_v58 : Ref sig .tc := ⟨.hbm, 85, rfl⟩
abbrev main_v59 : Ref sig .tc := ⟨.hbm, 86, rfl⟩
abbrev main_cst_19 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_cst_20 : Ref sig .tc := ⟨.hbm, 91, rfl⟩
abbrev main_v63 : Ref sig .tc := ⟨.hbm, 92, rfl⟩
abbrev main_v64 : Ref sig .tc := ⟨.hbm, 93, rfl⟩
abbrev main_cst_21 : Ref sig .tc := ⟨.hbm, 94, rfl⟩
abbrev main_v65 : Ref sig .tc := ⟨.hbm, 95, rfl⟩
abbrev main_v66 : Ref sig .tc := ⟨.hbm, 96, rfl⟩
abbrev main_cst_22 : Ref sig .tc := ⟨.hbm, 97, rfl⟩
abbrev main_call3_v0 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_cst_23 : Ref sig .tc := ⟨.hbm, 102, rfl⟩
abbrev main_call4_v0 : Ref sig .tc := ⟨.hbm, 103, rfl⟩
abbrev main_call4_v1 : Ref sig .tc := ⟨.hbm, 104, rfl⟩
abbrev main_v70 : Ref sig .tc := ⟨.hbm, 105, rfl⟩
abbrev main_cst_24 : Ref sig .tc := ⟨.hbm, 106, rfl⟩
abbrev main_v71 : Ref sig .tc := ⟨.hbm, 107, rfl⟩
abbrev main_v72 : Ref sig .tc := ⟨.hbm, 108, rfl⟩
abbrev main_cst_25 : Ref sig .tc := ⟨.hbm, 109, rfl⟩
abbrev main_v73 : Ref sig .tc := ⟨.hbm, 110, rfl⟩
abbrev main_v74 : Ref sig .tc := ⟨.hbm, 111, rfl⟩
abbrev main_v75 : Ref sig .tc := ⟨.hbm, 112, rfl⟩
abbrev main_v76 : Ref sig .tc := ⟨.hbm, 113, rfl⟩
abbrev main_cst_26 : Ref sig .tc := ⟨.hbm, 114, rfl⟩
abbrev main_call5_v0 : Ref sig .tc := ⟨.hbm, 115, rfl⟩
abbrev main_call5_v1 : Ref sig .tc := ⟨.hbm, 116, rfl⟩
abbrev main_v77 : Ref sig .tc := ⟨.hbm, 117, rfl⟩
abbrev main_v78 : Ref sig .tc := ⟨.hbm, 118, rfl⟩
abbrev main_v79 : Ref sig .tc := ⟨.hbm, 119, rfl⟩
abbrev main_c : Ref sig .tc := ⟨.hbm, 120, rfl⟩
abbrev main_v80 : Ref sig .tc := ⟨.hbm, 121, rfl⟩
abbrev main_v81 : Ref sig .tc := ⟨.hbm, 122, rfl⟩
abbrev main_v82 : Ref sig .tc := ⟨.hbm, 123, rfl⟩
abbrev main_v83 : Ref sig .tc := ⟨.hbm, 124, rfl⟩
abbrev main_v84 : Ref sig .tc := ⟨.hbm, 125, rfl⟩
abbrev main_v85 : Ref sig .tc := ⟨.hbm, 126, rfl⟩
abbrev main_v86 : Ref sig .tc := ⟨.hbm, 127, rfl⟩
abbrev main_v87 : Ref sig .tc := ⟨.hbm, 128, rfl⟩
abbrev main_v88 : Ref sig .tc := ⟨.hbm, 129, rfl⟩
abbrev main_v89 : Ref sig .tc := ⟨.hbm, 130, rfl⟩
abbrev main_v90 : Ref sig .tc := ⟨.hbm, 131, rfl⟩
abbrev main_v91 : Ref sig .tc := ⟨.hbm, 132, rfl⟩
abbrev main_v92 : Ref sig .tc := ⟨.hbm, 133, rfl⟩
abbrev main_v93 : Ref sig .tc := ⟨.hbm, 134, rfl⟩
abbrev main_v94 : Ref sig .tc := ⟨.hbm, 135, rfl⟩
abbrev main_v95 : Ref sig .tc := ⟨.hbm, 136, rfl⟩
abbrev main_v96 : Ref sig .tc := ⟨.hbm, 137, rfl⟩
abbrev main_v97 : Ref sig .tc := ⟨.hbm, 138, rfl⟩
abbrev main_v98 : Ref sig .tc := ⟨.hbm, 139, rfl⟩
abbrev main_v99 : Ref sig .tc := ⟨.hbm, 140, rfl⟩
abbrev main_v100 : Ref sig .tc := ⟨.hbm, 141, rfl⟩
abbrev main_v101 : Ref sig .tc := ⟨.hbm, 142, rfl⟩
abbrev main_v102 : Ref sig .tc := ⟨.hbm, 143, rfl⟩
abbrev main_v103 : Ref sig .tc := ⟨.hbm, 144, rfl⟩
abbrev main_v104 : Ref sig .tc := ⟨.hbm, 145, rfl⟩
abbrev main_v105 : Ref sig .tc := ⟨.hbm, 146, rfl⟩
abbrev main_v106 : Ref sig .tc := ⟨.hbm, 147, rfl⟩
abbrev main_v107 : Ref sig .tc := ⟨.hbm, 148, rfl⟩
abbrev main_v108 : Ref sig .tc := ⟨.hbm, 149, rfl⟩
abbrev main_v109 : Ref sig .tc := ⟨.hbm, 150, rfl⟩
abbrev main_v110 : Ref sig .tc := ⟨.hbm, 151, rfl⟩
abbrev main_v111 : Ref sig .tc := ⟨.hbm, 152, rfl⟩
abbrev main_v112 : Ref sig .tc := ⟨.hbm, 153, rfl⟩
abbrev main_v113 : Ref sig .tc := ⟨.hbm, 154, rfl⟩
abbrev main_v114 : Ref sig .tc := ⟨.hbm, 155, rfl⟩
abbrev main_v115 : Ref sig .tc := ⟨.hbm, 156, rfl⟩
abbrev main_v116 : Ref sig .tc := ⟨.hbm, 157, rfl⟩
abbrev main_v117 : Ref sig .tc := ⟨.hbm, 158, rfl⟩
abbrev main_v118 : Ref sig .tc := ⟨.hbm, 159, rfl⟩
abbrev main_v119 : Ref sig .tc := ⟨.hbm, 160, rfl⟩
abbrev main_v120 : Ref sig .tc := ⟨.hbm, 161, rfl⟩
abbrev main_v121 : Ref sig .tc := ⟨.hbm, 162, rfl⟩
abbrev main_v122 : Ref sig .tc := ⟨.hbm, 163, rfl⟩
abbrev main_v123 : Ref sig .tc := ⟨.hbm, 164, rfl⟩
abbrev main_v124_0 : Ref sig .tc := ⟨.hbm, 165, rfl⟩
abbrev main_v124_1 : Ref sig .tc := ⟨.hbm, 166, rfl⟩
abbrev main_v124_2 : Ref sig .tc := ⟨.hbm, 167, rfl⟩
abbrev main_v124_3 : Ref sig .tc := ⟨.hbm, 168, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg10_1 : Ref sig .tc := ⟨.vmem, 13, rfl⟩
abbrev cc0_stg11_0 : Ref sig .tc := ⟨.vmem, 14, rfl⟩
abbrev cc0_stg11_1 : Ref sig .tc := ⟨.vmem, 15, rfl⟩
abbrev cc0_stg12_0 : Ref sig .tc := ⟨.vmem, 16, rfl⟩
abbrev cc0_stg12_1 : Ref sig .tc := ⟨.vmem, 17, rfl⟩
abbrev cc0_stg13_0 : Ref sig .tc := ⟨.vmem, 18, rfl⟩
abbrev cc0_stg13_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem10_1 : DmaSem sig := 13
abbrev cc0_sem11_0 : DmaSem sig := 14
abbrev cc0_sem11_1 : DmaSem sig := 15
abbrev cc0_sem12_0 : DmaSem sig := 16
abbrev cc0_sem12_1 : DmaSem sig := 17
abbrev cc0_sem13_0 : DmaSem sig := 18
abbrev cc0_sem13_1 : DmaSem sig := 19

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S16x32x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x32x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x64 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x64 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512x256 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S512x128 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S512x128 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S16x16x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S16x16x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S16x8x64 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S16x8x64 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== ResizeReferenceIdeal.lean ====
abbrev S1x64x32x32x32 : Shape := ⟨5, ![1, 64, 32, 32, 32]⟩
abbrev S16 : Shape := ⟨1, ![16]⟩
abbrev S_ : Shape := ⟨0, ![]⟩
abbrev S1x16 : Shape := ⟨2, ![1, 16]⟩
abbrev S32 : Shape := ⟨1, ![32]⟩
abbrev S32x1 : Shape := ⟨2, ![32, 1]⟩
abbrev S32x16 : Shape := ⟨2, ![32, 16]⟩
abbrev S8 : Shape := ⟨1, ![8]⟩
abbrev S1x8 : Shape := ⟨2, ![1, 8]⟩
abbrev S32x8 : Shape := ⟨2, ![32, 8]⟩
abbrev S16x1x64x32x32 : Shape := ⟨5, ![16, 1, 64, 32, 32]⟩
abbrev S1x64x16x32x32 : Shape := ⟨5, ![1, 64, 16, 32, 32]⟩
abbrev S16x1x64x16x32 : Shape := ⟨5, ![16, 1, 64, 16, 32]⟩
abbrev S1x64x16x16x32 : Shape := ⟨5, ![1, 64, 16, 16, 32]⟩
abbrev S1x64x16x16x16 : Shape := ⟨5, ![1, 64, 16, 16, 16]⟩
abbrev S64x16x256 : Shape := ⟨3, ![64, 16, 256]⟩
abbrev S8x1x64x32x32 : Shape := ⟨5, ![8, 1, 64, 32, 32]⟩
abbrev S1x64x8x32x32 : Shape := ⟨5, ![1, 64, 8, 32, 32]⟩
abbrev S8x1x64x8x32 : Shape := ⟨5, ![8, 1, 64, 8, 32]⟩
abbrev S1x64x8x8x32 : Shape := ⟨5, ![1, 64, 8, 8, 32]⟩
abbrev S1x64x8x8x8 : Shape := ⟨5, ![1, 64, 8, 8, 8]⟩
abbrev S64x8x64 : Shape := ⟨3, ![64, 8, 64]⟩

abbrev nBuf : Space → Nat
  | .hbm => 146
  | .vmem => 0
  | .smem => 0
  | _ => 0

abbrev hbmTy0_0 (i : Nat) : BufTy := match i % 128 with
  | 0 => ⟨S1x64x32x32x32, .f32⟩
  | 1 => ⟨S1x64x32x32x32, .f32⟩
  | 2 => ⟨S16, .f32⟩
  | 3 => ⟨S_, .f32⟩
  | 4 => ⟨S16, .f32⟩
  | 5 => ⟨S16, .f32⟩
  | 6 => ⟨S_, .f32⟩
  | 7 => ⟨S16, .f32⟩
  | 8 => ⟨S16, .f32⟩
  | 9 => ⟨S_, .f32⟩
  | 10 => ⟨S16, .f32⟩
  | 11 => ⟨S16, .f32⟩
  | 12 => ⟨S1x16, .f32⟩
  | 13 => ⟨S32, .f32⟩
  | 14 => ⟨S32x1, .f32⟩
  | 15 => ⟨S32x16, .f32⟩
  | 16 => ⟨S32x16, .f32⟩
  | 17 => ⟨S32x16, .f32⟩
  | 18 => ⟨S32x16, .f32⟩
  | 19 => ⟨S_, .f32⟩
  | 20 => ⟨S32x16, .f32⟩
  | 21 => ⟨S32x16, .f32⟩
  | 22 => ⟨S_, .f32⟩
  | 23 => ⟨S32x16, .f32⟩
  | 24 => ⟨S32x16, .f32⟩
  | 25 => ⟨S_, .f32⟩
  | 26 => ⟨S32x16, .f32⟩
  | 27 => ⟨S32x16, .f32⟩
  | 28 => ⟨S_, .f32⟩
  | 29 => ⟨S16, .f32⟩
  | 30 => ⟨S1x16, .f32⟩
  | 31 => ⟨S1x16, .f32⟩
  | 32 => ⟨S_, .f32⟩
  | 33 => ⟨S1x16, .f32⟩
  | 34 => ⟨S1x16, .i1⟩
  | 35 => ⟨S_, .f32⟩
  | 36 => ⟨S1x16, .f32⟩
  | 37 => ⟨S1x16, .i1⟩
  | 38 => ⟨S_, .f32⟩
  | 39 => ⟨S_, .f32⟩
  | 40 => ⟨S1x16, .f32⟩
  | 41 => ⟨S1x16, .f32⟩
  | 42 => ⟨S32x16, .f32⟩
  | 43 => ⟨S32x16, .f32⟩
  | 44 => ⟨S_, .f32⟩
  | 45 => ⟨S_, .f32⟩
  | 46 => ⟨S32x16, .i1⟩
  | 47 => ⟨S32x16, .f32⟩
  | 48 => ⟨S32x16, .f32⟩
  | 49 => ⟨S_, .f32⟩
  | 50 => ⟨S16, .f32⟩
  | 51 => ⟨S16, .i1⟩
  | 52 => ⟨S_, .f32⟩
  | 53 => ⟨S16, .f32⟩
  | 54 => ⟨S16, .i1⟩
  | 55 => ⟨S16, .i1⟩
  | 56 => ⟨S1x16, .i1⟩
  | 57 => ⟨S_, .f32⟩
  | 58 => ⟨S_, .f32⟩
  | 59 => ⟨S32x16, .i1⟩
  | 60 => ⟨S32x16, .f32⟩
  | 61 => ⟨S32x16, .f32⟩
  | 62 => ⟨S8, .f32⟩
  | 63 => ⟨S_, .f32⟩
  | 64 => ⟨S8, .f32⟩
  | 65 => ⟨S8, .f32⟩
  | 66 => ⟨S_, .f32⟩
  | 67 => ⟨S8, .f32⟩
  | 68 => ⟨S8, .f32⟩
  | 69 => ⟨S_, .f32⟩
  | 70 => ⟨S8, .f32⟩
  | 71 => ⟨S8, .f32⟩
  | 72 => ⟨S1x8, .f32⟩
  | 73 => ⟨S32, .f32⟩
  | 74 => ⟨S32x1, .f32⟩
  | 75 => ⟨S32x8, .f32⟩
  | 76 => ⟨S32x8, .f32⟩
  | 77 => ⟨S32x8, .f32⟩
  | 78 => ⟨S32x8, .f32⟩
  | 79 => ⟨S_, .f32⟩
  | 80 => ⟨S32x8, .f32⟩
  | 81 => ⟨S32x8, .f32⟩
  | 82 => ⟨S_, .f32⟩
  | 83 => ⟨S32x8, .f32⟩
  | 84 => ⟨S32x8, .f32⟩
  | 85 => ⟨S_, .f32⟩
  | 86 => ⟨S32x8, .f32⟩
  | 87 => ⟨S32x8, .f32⟩
  | 88 => ⟨S_, .f32⟩
  | 89 => ⟨S8, .f32⟩
  | 90 => ⟨S1x8, .f32⟩
  | 91 => ⟨S1x8, .f32⟩
  | 92 => ⟨S_, .f32⟩
  | 93 => ⟨S1x8, .f32⟩
  | 94 => ⟨S1x8, .i1⟩
  | 95 => ⟨S_, .f32⟩
  | 96 => ⟨S1x8, .f32⟩
  | 97 => ⟨S1x8, .i1⟩
  | 98 => ⟨S_, .f32⟩
  | 99 => ⟨S_, .f32⟩
  | 100 => ⟨S1x8, .f32⟩
  | 101 => ⟨S1x8, .f32⟩
  | 102 => ⟨S32x8, .f32⟩
  | 103 => ⟨S32x8, .f32⟩
  | 104 => ⟨S_, .f32⟩
  | 105 => ⟨S_, .f32⟩
  | 106 => ⟨S32x8, .i1⟩
  | 107 => ⟨S32x8, .f32⟩
  | 108 => ⟨S32x8, .f32⟩
  | 109 => ⟨S_, .f32⟩
  | 110 => ⟨S8, .f32⟩
  | 111 => ⟨S8, .i1⟩
  | 112 => ⟨S_, .f32⟩
  | 113 => ⟨S8, .f32⟩
  | 114 => ⟨S8, .i1⟩
  | 115 => ⟨S8, .i1⟩
  | 116 => ⟨S1x8, .i1⟩
  | 117 => ⟨S_, .f32⟩
  | 118 => ⟨S_, .f32⟩
  | 119 => ⟨S32x8, .i1⟩
  | 120 => ⟨S32x8, .f32⟩
  | 121 => ⟨S32x8, .f32⟩
  | 122 => ⟨S16x1x64x32x32, .f32⟩
  | 123 => ⟨S1x64x16x32x32, .f32⟩
  | 124 => ⟨S16x1x64x16x32, .f32⟩
  | 125 => ⟨S1x64x16x16x32, .f32⟩
  | 126 => ⟨S1x64x16x16x16, .f32⟩
  | 127 => ⟨S64x16x256, .f32⟩
  | _ => ⟨S1x64x32x32x32, .f32⟩

abbrev hbmTy0_1 (i : Nat) : BufTy := match i % 128 with
  | 0 => ⟨S16x1x64x32x32, .f32⟩
  | 1 => ⟨S1x64x16x32x32, .f32⟩
  | 2 => ⟨S16x1x64x16x32, .f32⟩
  | 3 => ⟨S1x64x16x16x32, .f32⟩
  | 4 => ⟨S1x64x16x16x16, .f32⟩
  | 5 => ⟨S64x16x256, .f32⟩
  | 6 => ⟨S8x1x64x32x32, .f32⟩
  | 7 => ⟨S1x64x8x32x32, .f32⟩
  | 8 => ⟨S8x1x64x8x32, .f32⟩
  | 9 => ⟨S1x64x8x8x32, .f32⟩
  | 10 => ⟨S1x64x8x8x8, .f32⟩
  | 11 => ⟨S64x8x64, .f32⟩
  | 12 => ⟨S8x1x64x32x32, .f32⟩
  | 13 => ⟨S1x64x8x32x32, .f32⟩
  | 14 => ⟨S8x1x64x8x32, .f32⟩
  | 15 => ⟨S1x64x8x8x32, .f32⟩
  | 16 => ⟨S1x64x8x8x8, .f32⟩
  | 17 => ⟨S64x8x64, .f32⟩
  | _ => ⟨S1x64x32x32x32, .f32⟩

abbrev hbmTy (i : Nat) : BufTy := match i / 128 with
  | 0 => hbmTy0_0 i
  | 1 => hbmTy0_1 i
  | _ => ⟨S1x64x32x32x32, .f32⟩

abbrev bufTy : (tb : Table) → Fin (tcTables nBuf tb) → BufTy
  | .hbm, ⟨i, _⟩ => hbmTy i
  | _, _ => ⟨S1x64x32x32x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_2 : Ref sig .tc := ⟨.hbm, 19, rfl⟩
abbrev main_v14 : Ref sig .tc := ⟨.hbm, 20, rfl⟩
abbrev main_v15 : Ref sig .tc := ⟨.hbm, 21, rfl⟩
abbrev main_cst_3 : Ref sig .tc := ⟨.hbm, 22, rfl⟩
abbrev main_v16 : Ref sig .tc := ⟨.hbm, 23, rfl⟩
abbrev main_v17 : Ref sig .tc := ⟨.hbm, 24, rfl⟩
abbrev main_cst_4 : Ref sig .tc := ⟨.hbm, 25, rfl⟩
abbrev main_v18 : Ref sig .tc := ⟨.hbm, 26, rfl⟩
abbrev main_v19 : Ref sig .tc := ⟨.hbm, 27, rfl⟩
abbrev main_cst_5 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst_6 : Ref sig .tc := ⟨.hbm, 32, rfl⟩
abbrev main_v23 : Ref sig .tc := ⟨.hbm, 33, rfl⟩
abbrev main_v24 : Ref sig .tc := ⟨.hbm, 34, rfl⟩
abbrev main_cst_7 : Ref sig .tc := ⟨.hbm, 35, rfl⟩
abbrev main_v25 : Ref sig .tc := ⟨.hbm, 36, rfl⟩
abbrev main_v26 : Ref sig .tc := ⟨.hbm, 37, rfl⟩
abbrev main_cst_8 : Ref sig .tc := ⟨.hbm, 38, rfl⟩
abbrev main_call0_v0 : Ref sig .tc := ⟨.hbm, 39, rfl⟩
abbrev main_call0_v1 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_cst_9 : Ref sig .tc := ⟨.hbm, 44, rfl⟩
abbrev main_call1_v0 : Ref sig .tc := ⟨.hbm, 45, rfl⟩
abbrev main_call1_v1 : Ref sig .tc := ⟨.hbm, 46, rfl⟩
abbrev main_call1_v2 : Ref sig .tc := ⟨.hbm, 47, rfl⟩
abbrev main_v30 : Ref sig .tc := ⟨.hbm, 48, rfl⟩
abbrev main_cst_10 : Ref sig .tc := ⟨.hbm, 49, rfl⟩
abbrev main_v31 : Ref sig .tc := ⟨.hbm, 50, rfl⟩
abbrev main_v32 : Ref sig .tc := ⟨.hbm, 51, rfl⟩
abbrev main_cst_11 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_cst_12 : Ref sig .tc := ⟨.hbm, 57, rfl⟩
abbrev main_call2_v0 : Ref sig .tc := ⟨.hbm, 58, rfl⟩
abbrev main_call2_v1 : Ref sig .tc := ⟨.hbm, 59, rfl⟩
abbrev main_call2_v2 : Ref sig .tc := ⟨.hbm, 60, rfl⟩
abbrev main_v37 : Ref sig .tc := ⟨.hbm, 61, rfl⟩
abbrev main_v38 : Ref sig .tc := ⟨.hbm, 62, rfl⟩
abbrev main_cst_13 : Ref sig .tc := ⟨.hbm, 63, rfl⟩
abbrev main_v39 : Ref sig .tc := ⟨.hbm, 64, rfl⟩
abbrev main_v40 : Ref sig .tc := ⟨.hbm, 65, rfl⟩
abbrev main_cst_14 : Ref sig .tc := ⟨.hbm, 66, rfl⟩
abbrev main_v41 : Ref sig .tc := ⟨.hbm, 67, rfl⟩
abbrev main_v42 : Ref sig .tc := ⟨.hbm, 68, rfl⟩
abbrev main_cst_15 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_cst_16 : Ref sig .tc := ⟨.hbm, 79, rfl⟩
abbrev main_v52 : Ref sig .tc := ⟨.hbm, 80, rfl⟩
abbrev main_v53 : Ref sig .tc := ⟨.hbm, 81, rfl⟩
abbrev main_cst_17 : Ref sig .tc := ⟨.hbm, 82, rfl⟩
abbrev main_v54 : Ref sig .tc := ⟨.hbm, 83, rfl⟩
abbrev main_v55 : Ref sig .tc := ⟨.hbm, 84, rfl⟩
abbrev main_cst_18 : Ref sig .tc := ⟨.hbm, 85, rfl⟩
abbrev main_v56 : Ref sig .tc := ⟨.hbm, 86, rfl⟩
abbrev main_v57 : Ref sig .tc := ⟨.hbm, 87, rfl⟩
abbrev main_cst_19 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_cst_20 : Ref sig .tc := ⟨.hbm, 92, rfl⟩
abbrev main_v61 : Ref sig .tc := ⟨.hbm, 93, rfl⟩
abbrev main_v62 : Ref sig .tc := ⟨.hbm, 94, rfl⟩
abbrev main_cst_21 : Ref sig .tc := ⟨.hbm, 95, rfl⟩
abbrev main_v63 : Ref sig .tc := ⟨.hbm, 96, rfl⟩
abbrev main_v64 : Ref sig .tc := ⟨.hbm, 97, rfl⟩
abbrev main_cst_22 : Ref sig .tc := ⟨.hbm, 98, rfl⟩
abbrev main_call3_v0 : Ref sig .tc := ⟨.hbm, 99, rfl⟩
abbrev main_call3_v1 : Ref sig .tc := ⟨.hbm, 100, rfl⟩
abbrev main_v65 : Ref sig .tc := ⟨.hbm, 101, rfl⟩
abbrev main_v66 : Ref sig .tc := ⟨.hbm, 102, rfl⟩
abbrev main_v67 : Ref sig .tc := ⟨.hbm, 103, rfl⟩
abbrev main_cst_23 : Ref sig .tc := ⟨.hbm, 104, rfl⟩
abbrev main_call4_v0 : Ref sig .tc := ⟨.hbm, 105, rfl⟩
abbrev main_call4_v1 : Ref sig .tc := ⟨.hbm, 106, rfl⟩
abbrev main_call4_v2 : Ref sig .tc := ⟨.hbm, 107, rfl⟩
abbrev main_v68 : Ref sig .tc := ⟨.hbm, 108, rfl⟩
abbrev main_cst_24 : Ref sig .tc := ⟨.hbm, 109, rfl⟩
abbrev main_v69 : Ref sig .tc := ⟨.hbm, 110, rfl⟩
abbrev main_v70 : Ref sig .tc := ⟨.hbm, 111, rfl⟩
abbrev main_cst_25 : Ref sig .tc := ⟨.hbm, 112, rfl⟩
abbrev main_v71 : Ref sig .tc := ⟨.hbm, 113, rfl⟩
abbrev main_v72 : Ref sig .tc := ⟨.hbm, 114, rfl⟩
abbrev main_v73 : Ref sig .tc := ⟨.hbm, 115, rfl⟩
abbrev main_v74 : Ref sig .tc := ⟨.hbm, 116, rfl⟩
abbrev main_cst_26 : Ref sig .tc := ⟨.hbm, 117, rfl⟩
abbrev main_call5_v0 : Ref sig .tc := ⟨.hbm, 118, rfl⟩
abbrev main_call5_v1 : Ref sig .tc := ⟨.hbm, 119, rfl⟩
abbrev main_call5_v2 : Ref sig .tc := ⟨.hbm, 120, rfl⟩
abbrev main_v75 : Ref sig .tc := ⟨.hbm, 121, rfl⟩
abbrev main_v76 : Ref sig .tc := ⟨.hbm, 122, rfl⟩
abbrev main_v77 : Ref sig .tc := ⟨.hbm, 123, rfl⟩
abbrev main_v78 : Ref sig .tc := ⟨.hbm, 124, rfl⟩
abbrev main_v79 : Ref sig .tc := ⟨.hbm, 125, rfl⟩
abbrev main_v80 : Ref sig .tc := ⟨.hbm, 126, rfl⟩
abbrev main_v81 : Ref sig .tc := ⟨.hbm, 127, rfl⟩
abbrev main_v82 : Ref sig .tc := ⟨.hbm, 128, rfl⟩
abbrev main_v83 : Ref sig .tc := ⟨.hbm, 129, rfl⟩
abbrev main_v84 : Ref sig .tc := ⟨.hbm, 130, rfl⟩
abbrev main_v85 : Ref sig .tc := ⟨.hbm, 131, rfl⟩
abbrev main_v86 : Ref sig .tc := ⟨.hbm, 132, rfl⟩
abbrev main_v87 : Ref sig .tc := ⟨.hbm, 133, rfl⟩
abbrev main_v88 : Ref sig .tc := ⟨.hbm, 134, rfl⟩
abbrev main_v89 : Ref sig .tc := ⟨.hbm, 135, rfl⟩
abbrev main_v90 : Ref sig .tc := ⟨.hbm, 136, rfl⟩
abbrev main_v91 : Ref sig .tc := ⟨.hbm, 137, rfl⟩
abbrev main_v92 : Ref sig .tc := ⟨.hbm, 138, rfl⟩
abbrev main_v93 : Ref sig .tc := ⟨.hbm, 139, rfl⟩
abbrev main_v94 : Ref sig .tc := ⟨.hbm, 140, rfl⟩
abbrev main_v95 : Ref sig .tc := ⟨.hbm, 141, rfl⟩
abbrev main_v96 : Ref sig .tc := ⟨.hbm, 142, rfl⟩
abbrev main_v97 : Ref sig .tc := ⟨.hbm, 143, rfl⟩
abbrev main_v98 : Ref sig .tc := ⟨.hbm, 144, rfl⟩
abbrev main_v99 : Ref sig .tc := ⟨.hbm, 145, rfl⟩

abbrev nD : Nat := 1
abbrev τ : Topo := Topo.v7x

variable {F : FTy → Type} [FloatOps F]
-- ==== Loss.lean ====
abbrev S64x4096 : Shape := ⟨2, ![64, 4096]⟩
abbrev S4096x3 : Shape := ⟨2, ![4096, 3]⟩
abbrev S64x512 : Shape := ⟨2, ![64, 512]⟩
abbrev S512x3 : Shape := ⟨2, ![512, 3]⟩
abbrev S1x1 : Shape := ⟨2, ![1, 1]⟩
abbrev S1x4096 : Shape := ⟨2, ![1, 4096]⟩
abbrev S4096x64 : Shape := ⟨2, ![4096, 64]⟩
abbrev S512x64 : Shape := ⟨2, ![512, 64]⟩
abbrev S3x4096 : Shape := ⟨2, ![3, 4096]⟩
abbrev S3x512 : Shape := ⟨2, ![3, 512]⟩
abbrev S512x4096 : Shape := ⟨2, ![512, 4096]⟩
abbrev S512 : Shape := ⟨1, ![512]⟩
abbrev S512x1 : Shape := ⟨2, ![512, 1]⟩
abbrev S4096 : Shape := ⟨1, ![4096]⟩
abbrev S1x1x4096 : Shape := ⟨3, ![1, 1, 4096]⟩
abbrev S1 : Shape := ⟨1, ![1]⟩
abbrev S1x1x1 : Shape := ⟨3, ![1, 1, 1]⟩
abbrev S512x512 : Shape := ⟨2, ![512, 512]⟩
abbrev S1x512 : Shape := ⟨2, ![1, 512]⟩
abbrev S1x1x512 : Shape := ⟨3, ![1, 1, 512]⟩

abbrev nBuf : Space → Nat
  | .hbm => 7
  | .vmem => 13
  | .smem => 0
  | _ => 0

abbrev bufTy : (tb : Table) → Fin (tcTables nBuf tb) → BufTy
  | .hbm, ⟨0, _⟩ => ⟨S64x4096, .f32⟩
  | .hbm, ⟨1, _⟩ => ⟨S64x4096, .f32⟩
  | .hbm, ⟨2, _⟩ => ⟨S4096x3, .f32⟩
  | .hbm, ⟨3, _⟩ => ⟨S64x512, .f32⟩
  | .hbm, ⟨4, _⟩ => ⟨S64x512, .f32⟩
  | .hbm, ⟨5, _⟩ => ⟨S512x3, .f32⟩
  | .hbm, ⟨6, _⟩ => ⟨S1x1, .f32⟩
  | .local _ .vmem, ⟨0, _⟩ => ⟨S64x4096, .f32⟩
  | .local _ .vmem, ⟨1, _⟩ => ⟨S64x4096, .f32⟩
  | .local _ .vmem, ⟨2, _⟩ => ⟨S4096x3, .f32⟩
  | .local _ .vmem, ⟨3, _⟩ => ⟨S64x512, .f32⟩
  | .local _ .vmem, ⟨4, _⟩ => ⟨S64x512, .f32⟩
  | .local _ .vmem, ⟨5, _⟩ => ⟨S512x3, .f32⟩
  | .local _ .vmem, ⟨6, _⟩ => ⟨S1x1, .f32⟩
  | .local _ .vmem, ⟨7, _⟩ => ⟨S1x4096, .f32⟩
  | .local _ .vmem, ⟨8, _⟩ => ⟨S1x4096, .i32⟩
  | .local _ .vmem, ⟨9, _⟩ => ⟨S4096x64, .f32⟩
  | .local _ .vmem, ⟨10, _⟩ => ⟨S512x64, .f32⟩
  | .local _ .vmem, ⟨11, _⟩ => ⟨S3x4096, .f32⟩
  | .local _ .vmem, ⟨12, _⟩ => ⟨S3x512, .f32⟩
  | _, _ => ⟨S64x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_scratch0 : Ref sig .tc := ⟨.vmem, 7, rfl⟩
abbrev cc0_scratch1 : Ref sig .tc := ⟨.vmem, 8, rfl⟩
abbrev cc0_scratch2 : Ref sig .tc := ⟨.vmem, 9, rfl⟩
abbrev cc0_scratch3 : Ref sig .tc := ⟨.vmem, 10, rfl⟩
abbrev cc0_scratch4 : Ref sig .tc := ⟨.vmem, 11, rfl⟩
abbrev cc0_scratch5 : Ref sig .tc := ⟨.vmem, 12, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![8], ![false]⟩

def k0_off1 (i : grid0.Coords) : Fin 2 → Nat :=
  let arg0 : BitVec 32 := BitVec.ofNat 32 (i 0).val
  let c512_i32 : BitVec 32 := 512#32
  let v3 : BitVec 32 := Scalar.muli arg0 c512_i32
  let v4 : Index := Scalar.indexCast v3
  let c0 : Index := 0#32
  ![v4.toNat, 0]
def k0_cond4 (i : grid0.Coords) : BitVec 1 :=
  let arg0 : BitVec 32 := BitVec.ofNat 32 (i 0).val
  let c7_i32 : BitVec 32 := 7#32
  let v35 : BitVec 1 := Scalar.cmpi .eq arg0 c7_i32
  let v36 : BitVec 32 := Scalar.extui v35
  let c0_i32_12 : BitVec 32 := 0#32
  let v37 : BitVec 1 := Scalar.cmpi .ne v36 c0_i32_12
  v37

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S64x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S64x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4096x3 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x3 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== LossReferenceIdeal.lean ====
abbrev S64x4096 : Shape := ⟨2, ![64, 4096]⟩
abbrev S4096x3 : Shape := ⟨2, ![4096, 3]⟩
abbrev S64x512 : Shape := ⟨2, ![64, 512]⟩
abbrev S512x3 : Shape := ⟨2, ![512, 3]⟩
abbrev S1x4096x3 : Shape := ⟨3, ![1, 4096, 3]⟩
abbrev S4096x64 : Shape := ⟨2, ![4096, 64]⟩
abbrev S1x4096x64 : Shape := ⟨3, ![1, 4096, 64]⟩
abbrev S_ : Shape := ⟨0, ![]⟩
abbrev S1x4096 : Shape := ⟨2, ![1, 4096]⟩
abbrev S1x4096x1 : Shape := ⟨3, ![1, 4096, 1]⟩
abbrev S1x1x4096 : Shape := ⟨3, ![1, 1, 4096]⟩
abbrev S1x4096x4096 : Shape := ⟨3, ![1, 4096, 4096]⟩
abbrev S16 : Shape := ⟨1, ![16]⟩
abbrev S16x16x16 : Shape := ⟨3, ![16, 16, 16]⟩
abbrev S1x16x16x16 : Shape := ⟨4, ![1, 16, 16, 16]⟩
abbrev S3x16x16x16 : Shape := ⟨4, ![3, 16, 16, 16]⟩
abbrev S1x3x4096 : Shape := ⟨3, ![1, 3, 4096]⟩
abbrev S4096x3x1 : Shape := ⟨3, ![4096, 3, 1]⟩
abbrev S1 : Shape := ⟨1, ![1]⟩
abbrev S1x1x1 : Shape := ⟨3, ![1, 1, 1]⟩
abbrev S1x512x3 : Shape := ⟨3, ![1, 512, 3]⟩
abbrev S512x64 : Shape := ⟨2, ![512, 64]⟩
abbrev S1x512x64 : Shape := ⟨3, ![1, 512, 64]⟩
abbrev S1x512 : Shape := ⟨2, ![1, 512]⟩
abbrev S1x512x1 : Shape := ⟨3, ![1, 512, 1]⟩
abbrev S1x1x512 : Shape := ⟨3, ![1, 1, 512]⟩
abbrev S1x512x512 : Shape := ⟨3, ![1, 512, 512]⟩
abbrev S8 : Shape := ⟨1, ![8]⟩
abbrev S8x8x8 : Shape := ⟨3, ![8, 8, 8]⟩
abbrev S1x8x8x8 : Shape := ⟨4, ![1, 8, 8, 8]⟩
abbrev S3x8x8x8 : Shape := ⟨4, ![3, 8, 8, 8]⟩
abbrev S1x3x512 : Shape := ⟨3, ![1, 3, 512]⟩
abbrev S512x3x1 : Shape := ⟨3, ![512, 3, 1]⟩
abbrev S2 : Shape := ⟨1, ![2]⟩
abbrev S1x1 : Shape := ⟨2, ![1, 1]⟩

abbrev nBuf : Space → Nat
  | .hbm => 160
  | .vmem => 0
  | .smem => 0
  | _ => 0

abbrev hbmTy0_0 (i : Nat) : BufTy := match i % 128 with
  | 0 => ⟨S64x4096, .f32⟩
  | 1 => ⟨S64x4096, .f32⟩
  | 2 => ⟨S4096x3, .f32⟩
  | 3 => ⟨S64x512, .f32⟩
  | 4 => ⟨S64x512, .f32⟩
  | 5 => ⟨S512x3, .f32⟩
  | 6 => ⟨S1x4096x3, .f32⟩
  | 7 => ⟨S4096x64, .f32⟩
  | 8 => ⟨S1x4096x64, .f32⟩
  | 9 => ⟨S4096x64, .f32⟩
  | 10 => ⟨S1x4096x64, .f32⟩
  | 11 => ⟨S1x4096x64, .f32⟩
  | 12 => ⟨S_, .f32⟩
  | 13 => ⟨S1x4096, .f32⟩
  | 14 => ⟨S1x4096x64, .f32⟩
  | 15 => ⟨S_, .f32⟩
  | 16 => ⟨S1x4096, .f32⟩
  | 17 => ⟨S1x4096x1, .f32⟩
  | 18 => ⟨S1x1x4096, .f32⟩
  | 19 => ⟨S1x4096x4096, .f32⟩
  | 20 => ⟨S1x4096x4096, .f32⟩
  | 21 => ⟨S1x4096x4096, .f32⟩
  | 22 => ⟨S1x4096x4096, .f32⟩
  | 23 => ⟨S_, .f32⟩
  | 24 => ⟨S1x4096x4096, .f32⟩
  | 25 => ⟨S1x4096x4096, .f32⟩
  | 26 => ⟨S1x4096x4096, .f32⟩
  | 27 => ⟨S_, .f32⟩
  | 28 => ⟨S1x4096x4096, .f32⟩
  | 29 => ⟨S1x4096x4096, .f32⟩
  | 30 => ⟨S1x4096x4096, .f32⟩
  | 31 => ⟨S1x4096x4096, .i32⟩
  | 32 => ⟨S_, .f32⟩
  | 33 => ⟨S_, .i32⟩
  | 34 => ⟨S1x4096, .f32⟩
  | 35 => ⟨S1x4096, .i32⟩
  | 36 => ⟨S16, .f32⟩
  | 37 => ⟨S16, .f32⟩
  | 38 => ⟨S16, .f32⟩
  | 39 => ⟨S16x16x16, .f32⟩
  | 40 => ⟨S16x16x16, .f32⟩
  | 41 => ⟨S16x16x16, .f32⟩
  | 42 => ⟨S1x16x16x16, .f32⟩
  | 43 => ⟨S1x16x16x16, .f32⟩
  | 44 => ⟨S1x16x16x16, .f32⟩
  | 45 => ⟨S3x16x16x16, .f32⟩
  | 46 => ⟨S1x3x4096, .f32⟩
  | 47 => ⟨S1x4096x3, .f32⟩
  | 48 => ⟨S1x4096x1, .i32⟩
  | 49 => ⟨S1x4096x3, .i32⟩
  | 50 => ⟨S_, .i32⟩
  | 51 => ⟨S1x4096x3, .i32⟩
  | 52 => ⟨S1x4096x3, .i1⟩
  | 53 => ⟨S_, .i32⟩
  | 54 => ⟨S1x4096x3, .i32⟩
  | 55 => ⟨S1x4096x3, .i32⟩
  | 56 => ⟨S1x4096x3, .i32⟩
  | 57 => ⟨S4096x3x1, .i32⟩
  | 58 => ⟨S1, .i32⟩
  | 59 => ⟨S_, .i32⟩
  | 60 => ⟨S4096x3x1, .i32⟩
  | 61 => ⟨S4096x3x1, .i1⟩
  | 62 => ⟨S1x1x1, .i32⟩
  | 63 => ⟨S4096x3x1, .i32⟩
  | 64 => ⟨S4096x3x1, .i1⟩
  | 65 => ⟨S4096x3x1, .i1⟩
  | 66 => ⟨S_, .i1⟩
  | 67 => ⟨S4096x3, .i1⟩
  | 68 => ⟨S1x4096x3, .f32⟩
  | 69 => ⟨S1x4096x3, .i1⟩
  | 70 => ⟨S_, .f32⟩
  | 71 => ⟨S1x4096x3, .f32⟩
  | 72 => ⟨S1x4096x3, .f32⟩
  | 73 => ⟨S1x4096x3, .f32⟩
  | 74 => ⟨S1x4096x3, .f32⟩
  | 75 => ⟨S_, .f32⟩
  | 76 => ⟨S_, .f32⟩
  | 77 => ⟨S_, .f32⟩
  | 78 => ⟨S_, .f32⟩
  | 79 => ⟨S1x512x3, .f32⟩
  | 80 => ⟨S512x64, .f32⟩
  | 81 => ⟨S1x512x64, .f32⟩
  | 82 => ⟨S512x64, .f32⟩
  | 83 => ⟨S1x512x64, .f32⟩
  | 84 => ⟨S1x512x64, .f32⟩
  | 85 => ⟨S_, .f32⟩
  | 86 => ⟨S1x512, .f32⟩
  | 87 => ⟨S1x512x64, .f32⟩
  | 88 => ⟨S_, .f32⟩
  | 89 => ⟨S1x512, .f32⟩
  | 90 => ⟨S1x512x1, .f32⟩
  | 91 => ⟨S1x1x512, .f32⟩
  | 92 => ⟨S1x512x512, .f32⟩
  | 93 => ⟨S1x512x512, .f32⟩
  | 94 => ⟨S1x512x512, .f32⟩
  | 95 => ⟨S1x512x512, .f32⟩
  | 96 => ⟨S_, .f32⟩
  | 97 => ⟨S1x512x512, .f32⟩
  | 98 => ⟨S1x512x512, .f32⟩
  | 99 => ⟨S1x512x512, .f32⟩
  | 100 => ⟨S_, .f32⟩
  | 101 => ⟨S1x512x512, .f32⟩
  | 102 => ⟨S1x512x512, .f32⟩
  | 103 => ⟨S1x512x512, .f32⟩
  | 104 => ⟨S1x512x512, .i32⟩
  | 105 => ⟨S_, .f32⟩
  | 106 => ⟨S_, .i32⟩
  | 107 => ⟨S1x512, .f32⟩
  | 108 => ⟨S1x512, .i32⟩
  | 109 => ⟨S8, .f32⟩
  | 110 => ⟨S8, .f32⟩
  | 111 => ⟨S8, .f32⟩
  | 112 => ⟨S8x8x8, .f32⟩
  | 113 => ⟨S8x8x8, .f32⟩
  | 114 => ⟨S8x8x8, .f32⟩
  | 115 => ⟨S1x8x8x8, .f32⟩
  | 116 => ⟨S1x8x8x8, .f32⟩
  | 117 => ⟨S1x8x8x8, .f32⟩
  | 118 => ⟨S3x8x8x8, .f32⟩
  | 119 => ⟨S1x3x512, .f32⟩
  | 120 => ⟨S1x512x3, .f32⟩
  | 121 => ⟨S1x512x1, .i32⟩
  | 122 => ⟨S1x512x3, .i32⟩
  | 123 => ⟨S_, .i32⟩
  | 124 => ⟨S1x512x3, .i32⟩
  | 125 => ⟨S1x512x3, .i1⟩
  | 126 => ⟨S_, .i32⟩
  | 127 => ⟨S1x512x3, .i32⟩
  | _ => ⟨S64x4096, .f32⟩

abbrev hbmTy0_1 (i : Nat) : BufTy := match i % 128 with
  | 0 => ⟨S1x512x3, .i32⟩
  | 1 => ⟨S1x512x3, .i32⟩
  | 2 => ⟨S512x3x1, .i32⟩
  | 3 => ⟨S1, .i32⟩
  | 4 => ⟨S_, .i32⟩
  | 5 => ⟨S512x3x1, .i32⟩
  | 6 => ⟨S512x3x1, .i1⟩
  | 7 => ⟨S1x1x1, .i32⟩
  | 8 => ⟨S512x3x1, .i32⟩
  | 9 => ⟨S512x3x1, .i1⟩
  | 10 => ⟨S512x3x1, .i1⟩
  | 11 => ⟨S_, .i1⟩
  | 12 => ⟨S512x3, .i1⟩
  | 13 => ⟨S1x512x3, .f32⟩
  | 14 => ⟨S1x512x3, .i1⟩
  | 15 => ⟨S_, .f32⟩
  | 16 => ⟨S1x512x3, .f32⟩
  | 17 => ⟨S1x512x3, .f32⟩
  | 18 => ⟨S1x512x3, .f32⟩
  | 19 => ⟨S1x512x3, .f32⟩
  | 20 => ⟨S_, .f32⟩
  | 21 => ⟨S_, .f32⟩
  | 22 => ⟨S_, .f32⟩
  | 23 => ⟨S_, .f32⟩
  | 24 => ⟨S1, .f32⟩
  | 25 => ⟨S1, .f32⟩
  | 26 => ⟨S2, .f32⟩
  | 27 => ⟨S_, .f32⟩
  | 28 => ⟨S_, .f32⟩
  | 29 => ⟨S_, .f32⟩
  | 30 => ⟨S_, .f32⟩
  | 31 => ⟨S1x1, .f32⟩
  | _ => ⟨S64x4096, .f32⟩

abbrev hbmTy (i : Nat) : BufTy := match i / 128 with
  | 0 => hbmTy0_0 i
  | 1 => hbmTy0_1 i
  | _ => ⟨S64x4096, .f32⟩

abbrev bufTy : (tb : Table) → Fin (tcTables nBuf tb) → BufTy
  | .hbm, ⟨i, _⟩ => hbmTy i
  | _, _ => ⟨S64x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst : Ref sig .tc := ⟨.hbm, 12, rfl⟩
abbrev main_v6 : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_1 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_2 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_call0_v0 : Ref sig .tc := ⟨.hbm, 31, rfl⟩
abbrev main_call0_cst : Ref sig .tc := ⟨.hbm, 32, rfl⟩
abbrev main_call0_c : Ref sig .tc := ⟨.hbm, 33, rfl⟩
abbrev main_call0_v1_0 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_call1_c : Ref sig .tc := ⟨.hbm, 50, rfl⟩
abbrev main_call1_v0 : Ref sig .tc := ⟨.hbm, 51, rfl⟩
abbrev main_call1_v1 : Ref sig .tc := ⟨.hbm, 52, rfl⟩
abbrev main_call1_c_0 : Ref sig .tc := ⟨.hbm, 53, rfl⟩
abbrev main_call1_v2 : Ref sig .tc := ⟨.hbm, 54, rfl⟩
abbrev main_call1_v3 : Ref sig .tc := ⟨.hbm, 55, rfl⟩
abbrev main_call1_v4 : Ref sig .tc := ⟨.hbm, 56, rfl⟩
abbrev main_call1_v5 : Ref sig .tc := ⟨.hbm, 57, rfl⟩
abbrev main_call1_c_1 : Ref sig .tc := ⟨.hbm, 58, rfl⟩
abbrev main_call1_c_2 : Ref sig .tc := ⟨.hbm, 59, rfl⟩
abbrev main_call1_v6 : Ref sig .tc := ⟨.hbm, 60, rfl⟩
abbrev main_call1_v7 : Ref sig .tc := ⟨.hbm, 61, rfl⟩
abbrev main_call1_v8 : Ref sig .tc := ⟨.hbm, 62, rfl⟩
abbrev main_call1_v9 : Ref sig .tc := ⟨.hbm, 63, rfl⟩
abbrev main_call1_v10 : Ref sig .tc := ⟨.hbm, 64, rfl⟩
abbrev main_call1_v11 : Ref sig .tc := ⟨.hbm, 65, rfl⟩
abbrev main_call1_c_3 : Ref sig .tc := ⟨.hbm, 66, rfl⟩
abbrev main_call1_v12 : Ref sig .tc := ⟨.hbm, 67, rfl⟩
abbrev main_call1_v13 : Ref sig .tc := ⟨.hbm, 68, rfl⟩
abbrev main_call1_v14 : Ref sig .tc := ⟨.hbm, 69, rfl⟩
abbrev main_call1_cst : Ref sig .tc := ⟨.hbm, 70, rfl⟩
abbrev main_call1_v15 : Ref sig .tc := ⟨.hbm, 71, rfl⟩
abbrev main_v36 : Ref sig .tc := ⟨.hbm, 72, rfl⟩
abbrev main_v37 : Ref sig .tc := ⟨.hbm, 73, rfl⟩
abbrev main_v38 : Ref sig .tc := ⟨.hbm, 74, rfl⟩
abbrev main_cst_3 : Ref sig .tc := ⟨.hbm, 75, rfl⟩
abbrev main_v39 : Ref sig .tc := ⟨.hbm, 76, rfl⟩
abbrev main_cst_4 : Ref sig .tc := ⟨.hbm, 77, rfl⟩
abbrev main_v40 : Ref sig .tc := ⟨.hbm, 78, rfl⟩
abbrev main_v41 : Ref sig .tc := ⟨.hbm, 79, rfl⟩
abbrev main_v42 : Ref sig .tc := ⟨.hbm, 80, rfl⟩
abbrev main_v43 : Ref sig .tc := ⟨.hbm, 81, rfl⟩
abbrev main_v44 : Ref sig .tc := ⟨.hbm, 82, rfl⟩
abbrev main_v45 : Ref sig .tc := ⟨.hbm, 83, rfl⟩
abbrev main_v46 : Ref sig .tc := ⟨.hbm, 84, rfl⟩
abbrev main_cst_5 : Ref sig .tc := ⟨.hbm, 85, rfl⟩
abbrev main_v47 : Ref sig .tc := ⟨.hbm, 86, rfl⟩
abbrev main_v48 : Ref sig .tc := ⟨.hbm, 87, rfl⟩
abbrev main_cst_6 : Ref sig .tc := ⟨.hbm, 88, rfl⟩
abbrev main_v49 : Ref sig .tc := ⟨.hbm, 89, rfl⟩
abbrev main_v50 : Ref sig .tc := ⟨.hbm, 90, rfl⟩
abbrev main_v51 : Ref sig .tc := ⟨.hbm, 91, rfl⟩
abbrev main_v52 : Ref sig .tc := ⟨.hbm, 92, rfl⟩
abbrev main_v53 : Ref sig .tc := ⟨.hbm, 93, rfl⟩
abbrev main_v54 : Ref sig .tc := ⟨.hbm, 94, rfl⟩
abbrev main_v55 : Ref sig .tc := ⟨.hbm, 95, rfl⟩
abbrev main_cst_7 : Ref sig .tc := ⟨.hbm, 96, rfl⟩
abbrev main_v56 : Ref sig .tc := ⟨.hbm, 97, rfl⟩
abbrev main_v57 : Ref sig .tc := ⟨.hbm, 98, rfl⟩
abbrev main_v58 : Ref sig .tc := ⟨.hbm, 99, rfl⟩
abbrev main_cst_8 : Ref sig .tc := ⟨.hbm, 100, rfl⟩
abbrev main_v59 : Ref sig .tc := ⟨.hbm, 101, rfl⟩
abbrev main_v60 : Ref sig .tc := ⟨.hbm, 102, rfl⟩
abbrev main_v61 : Ref sig .tc := ⟨.hbm, 103, rfl⟩
abbrev main_call2_v0 : Ref sig .tc := ⟨.hbm, 104, rfl⟩
abbrev main_call2_cst : Ref sig .tc := ⟨.hbm, 105, rfl⟩
abbrev main_call2_c : Ref sig .tc := ⟨.hbm, 106, rfl⟩
abbrev main_call2_v1_0 : Ref sig .tc := ⟨.hbm, 107, rfl⟩
abbrev main_v62 : Ref sig .tc := ⟨.hbm, 108, rfl⟩
abbrev main_v63 : Ref sig .tc := ⟨.hbm, 109, rfl⟩
abbrev main_v64 : Ref sig .tc := ⟨.hbm, 110, rfl⟩
abbrev main_v65 : Ref sig .tc := ⟨.hbm, 111, rfl⟩
abbrev main_v66 : Ref sig .tc := ⟨.hbm, 112, rfl⟩
abbrev main_v67 : Ref sig .tc := ⟨.hbm, 113, rfl⟩
abbrev main_v68 : Ref sig .tc := ⟨.hbm, 114, rfl⟩
abbrev main_v69 : Ref sig .tc := ⟨.hbm, 115, rfl⟩
abbrev main_v70 : Ref sig .tc := ⟨.hbm, 116, rfl⟩
abbrev main_v71 : Ref sig .tc := ⟨.hbm, 117, rfl⟩
abbrev main_v72 : Ref sig .tc := ⟨.hbm, 118, rfl⟩
abbrev main_v73 : Ref sig .tc := ⟨.hbm, 119, rfl⟩
abbrev main_v74 : Ref sig .tc := ⟨.hbm, 120, rfl⟩
abbrev main_v75 : Ref sig .tc := ⟨.hbm, 121, rfl⟩
abbrev main_v76 : Ref sig .tc := ⟨.hbm, 122, rfl⟩
abbrev main_call3_c : Ref sig .tc := ⟨.hbm, 123, rfl⟩
abbrev main_call3_v0 : Ref sig .tc := ⟨.hbm, 124, rfl⟩
abbrev main_call3_v1 : Ref sig .tc := ⟨.hbm, 125, rfl⟩
abbrev main_call3_c_0 : Ref sig .tc := ⟨.hbm, 126, rfl⟩
abbrev main_call3_v2 : Ref sig .tc := ⟨.hbm, 127, rfl⟩
abbrev main_call3_v3 : Ref sig .tc := ⟨.hbm, 128, rfl⟩
abbrev main_call3_v4 : Ref sig .tc := ⟨.hbm, 129, rfl⟩
abbrev main_call3_v5 : Ref sig .tc := ⟨.hbm, 130, rfl⟩
abbrev main_call3_c_1 : Ref sig .tc := ⟨.hbm, 131, rfl⟩
abbrev main_call3_c_2 : Ref sig .tc := ⟨.hbm, 132, rfl⟩
abbrev main_call3_v6 : Ref sig .tc := ⟨.hbm, 133, rfl⟩
abbrev main_call3_v7 : Ref sig .tc := ⟨.hbm, 134, rfl⟩
abbrev main_call3_v8 : Ref sig .tc := ⟨.hbm, 135, rfl⟩
abbrev main_call3_v9 : Ref sig .tc := ⟨.hbm, 136, rfl⟩
abbrev main_call3_v10 : Ref sig .tc := ⟨.hbm, 137, rfl⟩
abbrev main_call3_v11 : Ref sig .tc := ⟨.hbm, 138, rfl⟩
abbrev main_call3_c_3 : Ref sig .tc := ⟨.hbm, 139, rfl⟩
abbrev main_call3_v12 : Ref sig .tc := ⟨.hbm, 140, rfl⟩
abbrev main_call3_v13 : Ref sig .tc := ⟨.hbm, 141, rfl⟩
abbrev main_call3_v14 : Ref sig .tc := ⟨.hbm, 142, rfl⟩
abbrev main_call3_cst : Ref sig .tc := ⟨.hbm, 143, rfl⟩
abbrev main_call3_v15 : Ref sig .tc := ⟨.hbm, 144, rfl⟩
abbrev main_v77 : Ref sig .tc := ⟨.hbm, 145, rfl⟩
abbrev main_v78 : Ref sig .tc := ⟨.hbm, 146, rfl⟩
abbrev main_v79 : Ref sig .tc := ⟨.hbm, 147, rfl⟩
abbrev main_cst_9 : Ref sig .tc := ⟨.hbm, 148, rfl⟩
abbrev main_v80 : Ref sig .tc := ⟨.hbm, 149, rfl⟩
abbrev main_cst_10 : Ref sig .tc := ⟨.hbm, 150, rfl⟩
abbrev main_v81 : Ref sig .tc := ⟨.hbm, 151, rfl⟩
abbrev main_v82 : Ref sig .tc := ⟨.hbm, 152, rfl⟩
abbrev main_v83 : Ref sig .tc := ⟨.hbm, 153, rfl⟩
abbrev main_v84 : Ref sig .tc := ⟨.hbm, 154, rfl⟩
abbrev main_cst_11 : Ref sig .tc := ⟨.hbm, 155, rfl⟩
abbrev main_v85 : Ref sig .tc := ⟨.hbm, 156, rfl⟩
abbrev main_cst_12 : Ref sig .tc := ⟨.hbm, 157, rfl⟩
abbrev main_v86 : Ref sig .tc := ⟨.hbm, 158, rfl⟩
abbrev main_v87 : Ref sig .tc := ⟨.hbm, 159, rfl⟩

abbrev nD : Nat := 1
abbrev τ : Topo := Topo.v7x

variable {F : FTy → Type} [FloatOps F]
-- ==== Proof.LossRefRun.lean ====
/- The loss's reference, run: the LIST of its 154 host operations, and the composed term of the arguments' launch
   contents at which every weakly fair execution leaves its result, the arguments unchanged. -/
module

public import proofs.«01_k».proof.Proof.Gen.LossReferenceIdeal
public import proofs.«01_k».proof.Proof.Gen.ResizeReferenceIdeal.Run
public import Idealize.ShloMosaic.Lib.StableHlo.Run

@[expose] public section

noncomputable section

namespace Cert.LossReferenceIdeal.Value

open Cert.LossReferenceIdeal Cert.LossReferenceIdeal.Gen Idealize.ShloMosaic Idealize.ShloMosaic.TcCoe Idealize.SL.Sem Idealize.ShloMosaic.StableHlo

variable {F : FTy → Type} [FloatOps F]

/-- The function of the operation that writes `main_v31`, named. It packs its operands into a list of dependent pairs
    whose shapes a later argument's type mentions, so `simp` cannot rewrite an operand where it stands; applied by
    name, the operands are plain arguments, which `run`'s simp pass rewrites before the name unfolds. -/
def fn_main_v31 : (main_v28 : Ref sig .tc).ty.Contents (Elt F) → (main_v29 : Ref sig .tc).ty.Contents (Elt F) → (main_v30 : Ref sig .tc).ty.Contents (Elt F) → (main_v31 : Ref sig .tc).ty.Contents (Elt F) :=
  (fun u0 u1 u2 => (concatenate S3x16x16x16 0 [⟨S1x16x16x16, (u0 : (⟨S1x16x16x16, .f32⟩ : BufTy).Contents (Elt F))⟩, ⟨S1x16x16x16, (u1 : (⟨S1x16x16x16, .f32⟩ : BufTy).Contents (Elt F))⟩, ⟨S1x16x16x16, (u2 : (⟨S1x16x16x16, .f32⟩ : BufTy).Contents (Elt F))⟩] concatenates_S1x16x16x16_S1x16x16x16_S1x16x16x16_S3x16x16x16_d0 : (⟨S3x16x16x16, .f32⟩ : BufTy).Contents (Elt F)))

/-- The function of the operation that writes `main_v72`, named. It packs its operands into a list of dependent pairs
    whose shapes a later argument's type mentions, so `simp` cannot rewrite an operand where it stands; applied by
    name, the operands are plain arguments, which `run`'s simp pass rewrites before the name unfolds. -/
def fn_main_v72 : (main_v69 : Ref sig .tc).ty.Contents (Elt F) → (main_v70 : Ref sig .tc).ty.Contents (Elt F) → (main_v71 : Ref sig .tc).ty.Contents (Elt F) → (main_v72 : Ref sig .tc).ty.Contents (Elt F) :=
  (fun u0 u1 u2 => (concatenate S3x8x8x8 0 [⟨S1x8x8x8, (u0 : (⟨S1x8x8x8, .f32⟩ : BufTy).Contents (Elt F))⟩, ⟨S1x8x8x8, (u1 : (⟨S1x8x8x8, .f32⟩ : BufTy).Contents (Elt F))⟩, ⟨S1x8x8x8, (u2 : (⟨S1x8x8x8, .f32⟩ : BufTy).Contents (Elt F))⟩] concatenates_S1x8x8x8_S1x8x8x8_S1x8x8x8_S3x8x8x8_d0 : (⟨S3x8x8x8, .f32⟩ : BufTy).Contents (Elt F)))

/-- The function of the operation that writes `main_v84`, named. It packs its operands into a list of dependent pairs
    whose shapes a later argument's type mentions, so `simp` cannot rewrite an operand where it stands; applied by
    name, the operands are plain arguments, which `run`'s simp pass rewrites before the name unfolds. -/
def fn_main_v84 : (⟨S1, .f32⟩ : BufTy).Contents (Elt F) → (⟨S1, .f32⟩ : BufTy).Contents (Elt F) → (⟨S2, .f32⟩ : BufTy).Contents (Elt F) :=
  (fun a b => concatenate S2 0 [⟨S1, a⟩, ⟨S1, b⟩] concatenates_S1_S1_S2_d0)

/-- @main's 154 operations, in order (a called function's operations stand in its call's place, spelt `TRef.…`). -/
abbrev ops : List (HloOp τ sig (Elt F)) :=
  [ unary main_arg2 main_v0 (broadcastInDim S1x4096x3 ![1, 2] bcast_S4096x3_S1x4096x3_1_2 : (⟨S4096x3, .f32⟩ : BufTy).Contents (Elt F) → (⟨S1x4096x3, .f32⟩ : BufTy).Contents (Elt F)),
    unary main_arg0 main_v1 ((transpose S4096x64 [1, 0] · transposes_S64x4096_S4096x64_1_0) : (⟨S64x4096, .f32⟩ : BufTy).Contents (Elt F) → (⟨S4096x64, .f32⟩ : BufTy).Contents (Elt F)),
    unary main_v1 main_v2 (broadcastInDim S1x4096x64 ![1, 2] bcast_S4096x64_S1x4096x64_1_2 : (⟨S4096x64, .f32⟩ : BufTy).Contents (Elt F) → (⟨S1x4096x64, .f32⟩ : BufTy).Contents (Elt F)),
    unary main_arg1 main_v3 ((transpose S4096x64 [1, 0] · transposes_S64x4096_S4096x64_1_0) : (⟨S64x4096, .f32⟩ : BufTy).Contents (Elt F) → (⟨S4096x64, .f32⟩ : BufTy).Contents (Elt F)),
    unary main_v3 main_v4 (broadcastInDim S1x4096x64 ![1, 2] bcast_S4096x64_S1x4096x64_1_2 : (⟨S4096x64, .f32⟩ : BufTy).Contents (Elt F) → (⟨S1x4096x64, .f32⟩ : BufTy).Contents (Elt F)),
    binary main_v2 main_v2 main_v5 (mulf : (⟨S1x4096x64, .f32⟩ : BufTy).Contents (Elt F) → (⟨S1x4096x64, .f32⟩ : BufTy).Contents (Elt F) → (⟨S1x4096x64, .f32⟩ : BufTy).Contents (Elt F)),
    nullary main_cst (constant S_ .f32 0x00000000#32),
    binary main_v5 main_cst main_v6 ((fun x v => Host.reduceAdd x v reducesTo_S1x4096x64_S1x4096_d2 h_S_) : (⟨S1x4096x64, .f32⟩ : BufTy).Contents (Elt F) → (⟨S_, .f32⟩ : BufTy).Contents (Elt F) → (⟨S1x4096, .f32⟩ : BufTy).Contents (Elt F)),
    binary main_v4 main_v4 main_v7 (mulf : (⟨S1x4096x64, .f32⟩ : BufTy).Contents (Elt F) → (⟨S1x4096x64, .f32⟩ : BufTy).Contents (Elt F) → (⟨S1x4096x64, .f32⟩ : BufTy).Contents (Elt F)),
    nullary main_cst_0 (constant S_ .f32 0x00000000#32),
    binary main_v7 main_cst_0 main_v8 ((fun x v => Host.reduceAdd x v reducesTo_S1x4096x64_S1x4096_d2 h_S_) : (⟨S1x4096x64, .f32⟩ : BufTy).Contents (Elt F) → (⟨S_, .f32⟩ : BufTy).Contents (Elt F) → (⟨S1x4096, .f32⟩ : BufTy).Contents (Elt F)),
    unary main_v6 main_v9 (broadcastInDim S1x4096x1 ![0, 1] bcast_S1x4096_S1x4096x1_0_1 : (⟨S1x4096, .f32⟩ : BufTy).Contents (Elt F) → (⟨S1x4096x1, .f32⟩ : BufTy).Contents (Elt F)),
    unary main_v8 main_v10 (broadcastInDim S1x1x4096 ![0, 2] bcast_S1x4096_S1x1x4096_0_2 : (⟨S1x4096, .f32⟩ : BufTy).Contents (Elt F) → (⟨S1x1x4096, .f32⟩ : BufTy).Contents (Elt F)),
    unary main_v9 main_v11 (broadcastInDim S1x4096x4096 ![0, 1, 2] bcast_S1x4096x1_S1x4096x4096_0_1_2 : (⟨S1x4096x1, .f32⟩ : BufTy).Contents (Elt F) → (⟨S1x4096x4096, .f32⟩ : BufTy).Contents (Elt F)),
    unary main_v10 main_v12 (broadcastInDim S1x4096x4096 ![0, 1, 2] bcast_S1x1x4096_S1x4096x4096_0_1_2 : (⟨S1x1x4096, .f32⟩ : BufTy).Contents (Elt F) → (⟨S1x4096x4096, .f32⟩ : BufTy).Contents (Elt F)),
    binary main_v11 main_v12 main_v13 (addf : (⟨S1x4096x4096, .f32⟩ : BufTy).Contents (Elt F) → (⟨S1x4096x4096, .f32⟩ : BufTy).Contents (Elt F) → (⟨S1x4096x4096, .f32⟩ : BufTy).Contents (Elt F)),
    binary main_v2 main_v4 main_v14 ((fun l r => Host.dotGeneral dot_S1x4096x64_S1x4096x64_S1x4096x4096_2_2_1_1_0_0 none l r) : (⟨S1x4096x64, .f32⟩ : BufTy).Contents (Elt F) → (⟨S1x4096x64, .f32⟩ : BufTy).Contents (Elt F) → (⟨S1x4096x4096, .f32⟩ : BufTy).Contents (Elt F)),
    nullary main_cst_1 (constant S_ .f32 0x40000000#32),
    unary main_cst_1 main_v15 (broadcastInDim S1x4096x4096 ![] bcast_S_S1x4096x4096 : (⟨S_, .f32⟩ : BufTy).Contents (Elt F) → (⟨S1x4096x4096, .f32⟩ : BufTy).Contents (Elt F)),
    binary main_v15 main_v14 main_v16 (mulf : (⟨S1x4096x4096, .f32⟩ : BufTy).Contents (Elt F) → (⟨S1x4096x4096, .f32⟩ : BufTy).Contents (Elt F) → (⟨S1x4096x4096, .f32⟩ : BufTy).Contents (Elt F)),
    binary main_v13 main_v16 main_v17 (subf : (⟨S1x4096x4096, .f32⟩ : BufTy).Contents (Elt F) → (⟨S1x4096x4096, .f32⟩ : BufTy).Contents (Elt F) → (⟨S1x4096x4096, .f32⟩ : BufTy).Contents (Elt F)),
    nullary main_cst_2 (constant S_ .f32 0x00000000#32),
    unary main_cst_2 main_v18 (broadcastInDim S1x4096x4096 ![] bcast_S_S1x4096x4096 : (⟨S_, .f32⟩ : BufTy).Contents (Elt F) → (⟨S1x4096x4096, .f32⟩ : BufTy).Contents (Elt F)),
    binary main_v17 main_v18 main_v19 (maximumf : (⟨S1x4096x4096, .f32⟩ : BufTy).Contents (Elt F) → (⟨S1x4096x4096, .f32⟩ : BufTy).Contents (Elt F) → (⟨S1x4096x4096, .f32⟩ : BufTy).Contents (Elt F)),
    unary main_v19 main_v20 (Host.sqrt : (⟨S1x4096x4096, .f32⟩ : BufTy).Contents (Elt F) → (⟨S1x4096x4096, .f32⟩ : BufTy).Contents (Elt F)),
    TRef.nullary (TRef.of (T := ⟨S1x4096x4096, .i32⟩) main_call0_v0) (iotaInDim S1x4096x4096 32 2),
    TRef.nullary (TRef.of (T := ⟨S_, .f32⟩) main_call0_cst) (constant S_ .f32 0x7F800000#32),
    TRef.nullary (TRef.of (T := ⟨S_, .i32⟩) main_call0_c) (constantI S_ 32 0#32),
    TRef.quaternary (TRef.of (T := ⟨S1x4096x4096, .f32⟩) main_v20) (TRef.of (T := ⟨S1x4096x4096, .i32⟩) main_call0_v0) (TRef.of (T := ⟨S_, .f32⟩) main_call0_cst) (TRef.of (T := ⟨S_, .i32⟩) main_call0_c) (TRef.of (T := ⟨S1x4096, .f32⟩) main_call0_v1_0) (fun x y u v j => (Host.argReduce reducer_argmin_f32_i32 x y u v reducesTo_S1x4096x4096_S1x4096_d2 h_S_ j).1),
    TRef.quaternary (TRef.of (T := ⟨S1x4096x4096, .f32⟩) main_v20) (TRef.of (T := ⟨S1x4096x4096, .i32⟩) main_call0_v0) (TRef.of (T := ⟨S_, .f32⟩) main_call0_cst) (TRef.of (T := ⟨S_, .i32⟩) main_call0_c) (TRef.of (T := ⟨S1x4096, .i32⟩) main_v21) (fun x y u v j => (Host.argReduce reducer_argmin_f32_i32 x y u v reducesTo_S1x4096x4096_S1x4096_d2 h_S_ j).2),
    nullary main_v22 (sitofp .f32 (iotaInDim S16 32 0)),
    nullary main_v23 (sitofp .f32 (iotaInDim S16 32 0)),
    nullary main_v24 (sitofp .f32 (iotaInDim S16 32 0)),
    unary main_v22 main_v25 (broadcastInDim S16x16x16 ![0] bcast_S16_S16x16x16_0 : (⟨S16, .f32⟩ : BufTy).Contents (Elt F) → (⟨S16x16x16, .f32⟩ : BufTy).Contents (Elt F)),
    unary main_v23 main_v26 (broadcastInDim S16x16x16 ![1] bcast_S16_S16x16x16_1 : (⟨S16, .f32⟩ : BufTy).Contents (Elt F) → (⟨S16x16x16, .f32⟩ : BufTy).Contents (Elt F)),
    unary main_v24 main_v27 (broadcastInDim S16x16x16 ![2] bcast_S16_S16x16x16_2 : (⟨S16, .f32⟩ : BufTy).Contents (Elt F) → (⟨S16x16x16, .f32⟩ : BufTy).Contents (Elt F)),
    unary main_v25 main_v28 (broadcastInDim S1x16x16x16 ![1, 2, 3] bcast_S16x16x16_S1x16x16x16_1_2_3 : (⟨S16x16x16, .f32⟩ : BufTy).Contents (Elt F) → (⟨S1x16x16x16, .f32⟩ : BufTy).Contents (Elt F)),
    unary main_v26 main_v29 (broadcastInDim S1x16x16x16 ![1, 2, 3] bcast_S16x16x16_S1x16x16x16_1_2_3 : (⟨S16x16x16, .f32⟩ : BufTy).Contents (Elt F) → (⟨S1x16x16x16, .f32⟩ : BufTy).Contents (Elt F)),
    unary main_v27 main_v30 (broadcastInDim S1x16x16x16 ![1, 2, 3] bcast_S16x16x16_S1x16x16x16_1_2_3 : (⟨S16x16x16, .f32⟩ : BufTy).Contents (Elt F) → (⟨S1x16x16x16, .f32⟩ : BufTy).Contents (Elt F)),
    nary ![main_v28, main_v29, main_v30] main_v31 (fun u => fn_main_v31 (F := F) (u 0) (u 1) (u 2)),
    reshape main_v31 main_v32 (rfl : (.f32 : EltTy) = .f32) shapeCasts_S3x16x16x16_S1x3x4096,
    unary main_v32 main_v33 ((transpose S1x4096x3 [0, 2, 1] · transposes_S1x3x4096_S1x4096x3_0_2_1) : (⟨S1x3x4096, .f32⟩ : BufTy).Contents (Elt F) → (⟨S1x4096x3, .f32⟩ : BufTy).Contents (Elt F)),
    unary main_v21 main_v34 (broadcastInDim S1x4096x1 ![0, 1] bcast_S1x4096_S1x4096x1_0_1 : (⟨S1x4096, .i32⟩ : BufTy).Contents (Elt F) → (⟨S1x4096x1, .i32⟩ : BufTy).Contents (Elt F)),
    unary main_v34 main_v35 (broadcastInDim S1x4096x3 ![0, 1, 2] bcast_S1x4096x1_S1x4096x3_0_1_2 : (⟨S1x4096x1, .i32⟩ : BufTy).Contents (Elt F) → (⟨S1x4096x3, .i32⟩ : BufTy).Contents (Elt F)),
    TRef.nullary (TRef.of (T := ⟨S_, .i32⟩) main_call1_c) (constantI S_ 32 0#32),
    TRef.unary (TRef.of (T := ⟨S_, .i32⟩) main_call1_c) (TRef.of (T := ⟨S1x4096x3, .i32⟩) main_call1_v0) (broadcastInDim S1x4096x3 ![] bcast_S_S1x4096x3),
    TRef.binary (TRef.of (T := ⟨S1x4096x3, .i32⟩) main_v35) (TRef.of (T := ⟨S1x4096x3, .i32⟩) main_call1_v0) (TRef.of (T := ⟨S1x4096x3, .i1⟩) main_call1_v1) (cmpi .slt),
    TRef.nullary (TRef.of (T := ⟨S_, .i32⟩) main_call1_c_0) (constantI S_ 32 4096#32),
    TRef.unary (TRef.of (T := ⟨S_, .i32⟩) main_call1_c_0) (TRef.of (T := ⟨S1x4096x3, .i32⟩) main_call1_v2) (broadcastInDim S1x4096x3 ![] bcast_S_S1x4096x3),
    TRef.binary (TRef.of (T := ⟨S1x4096x3, .i32⟩) main_v35) (TRef.of (T := ⟨S1x4096x3, .i32⟩) main_call1_v2) (TRef.of (T := ⟨S1x4096x3, .i32⟩) main_call1_v3) addi,
    TRef.ternary (TRef.of (T := ⟨S1x4096x3, .i1⟩) main_call1_v1) (TRef.of (T := ⟨S1x4096x3, .i32⟩) main_call1_v3) (TRef.of (T := ⟨S1x4096x3, .i32⟩) main_v35) (TRef.of (T := ⟨S1x4096x3, .i32⟩) main_call1_v4) select,
    TRef.reshape (TRef.of (T := ⟨S1x4096x3, .i32⟩) main_call1_v4) (TRef.of (T := ⟨S4096x3x1, .i32⟩) main_call1_v5) (rfl : (.i32 : EltTy) = .i32) shapeCasts_S1x4096x3_S4096x3x1,
    TRef.nullary (TRef.of (T := ⟨S1, .i32⟩) main_call1_c_1) (constantI S1 32 4095#32),
    TRef.nullary (TRef.of (T := ⟨S_, .i32⟩) main_call1_c_2) (constantI S_ 32 0#32),
    TRef.unary (TRef.of (T := ⟨S_, .i32⟩) main_call1_c_2) (TRef.of (T := ⟨S4096x3x1, .i32⟩) main_call1_v6) (broadcastInDim S4096x3x1 ![] bcast_S_S4096x3x1),
    TRef.binary (TRef.of (T := ⟨S4096x3x1, .i32⟩) main_call1_v5) (TRef.of (T := ⟨S4096x3x1, .i32⟩) main_call1_v6) (TRef.of (T := ⟨S4096x3x1, .i1⟩) main_call1_v7) (cmpi .sge),
    TRef.unary (TRef.of (T := ⟨S1, .i32⟩) main_call1_c_1) (TRef.of (T := ⟨S1x1x1, .i32⟩) main_call1_v8) (broadcastInDim S1x1x1 ![2] bcast_S1_S1x1x1_2),
    TRef.unary (TRef.of (T := ⟨S1x1x1, .i32⟩) main_call1_v8) (TRef.of (T := ⟨S4096x3x1, .i32⟩) main_call1_v9) (broadcastInDim S4096x3x1 ![0, 1, 2] bcast_S1x1x1_S4096x3x1_0_1_2),
    TRef.binary (TRef.of (T := ⟨S4096x3x1, .i32⟩) main_call1_v5) (TRef.of (T := ⟨S4096x3x1, .i32⟩) main_call1_v9) (TRef.of (T := ⟨S4096x3x1, .i1⟩) main_call1_v10) (cmpi .sle),
    TRef.binary (TRef.of (T := ⟨S4096x3x1, .i1⟩) main_call1_v7) (TRef.of (T := ⟨S4096x3x1, .i1⟩) main_call1_v10) (TRef.of (T := ⟨S4096x3x1, .i1⟩) main_call1_v11) andi,
    TRef.nullary (TRef.of (T := ⟨S_, .i1⟩) main_call1_c_3) (constantI S_ 1 1#1),
    TRef.binary (TRef.of (T := ⟨S4096x3x1, .i1⟩) main_call1_v11) (TRef.of (T := ⟨S_, .i1⟩) main_call1_c_3) (TRef.of (T := ⟨S4096x3, .i1⟩) main_call1_v12) (fun x v => Host.reduce IntOp.andi x v reducesTo_S4096x3x1_S4096x3_d2 h_S_),
    TRef.binary (TRef.of (T := ⟨S1x4096x3, .f32⟩) main_v33) (TRef.of (T := ⟨S4096x3x1, .i32⟩) main_call1_v5) (TRef.of (T := ⟨S1x4096x3, .f32⟩) main_call1_v13) (fun x i => Host.gather gather_S1x4096x3_S4096x3x1_S1x4096x3_0_1_2_1_1_2_111 x i),
    TRef.unary (TRef.of (T := ⟨S4096x3, .i1⟩) main_call1_v12) (TRef.of (T := ⟨S1x4096x3, .i1⟩) main_call1_v14) (broadcastInDim S1x4096x3 ![1, 2] bcast_S4096x3_S1x4096x3_1_2),
    TRef.nullary (TRef.of (T := ⟨S_, .f32⟩) main_call1_cst) (constant S_ .f32 0x7FC00000#32),
    TRef.unary (TRef.of (T := ⟨S_, .f32⟩) main_call1_cst) (TRef.of (T := ⟨S1x4096x3, .f32⟩) main_call1_v15) (broadcastInDim S1x4096x3 ![] bcast_S_S1x4096x3),
    TRef.ternary (TRef.of (T := ⟨S1x4096x3, .i1⟩) main_call1_v14) (TRef.of (T := ⟨S1x4096x3, .f32⟩) main_call1_v13) (TRef.of (T := ⟨S1x4096x3, .f32⟩) main_call1_v15) (TRef.of (T := ⟨S1x4096x3, .f32⟩) main_v36) select,
    binary main_v0 main_v36 main_v37 (subf : (⟨S1x4096x3, .f32⟩ : BufTy).Contents (Elt F) → (⟨S1x4096x3, .f32⟩ : BufTy).Contents (Elt F) → (⟨S1x4096x3, .f32⟩ : BufTy).Contents (Elt F)),
    unary main_v37 main_v38 (Host.absf : (⟨S1x4096x3, .f32⟩ : BufTy).Contents (Elt F) → (⟨S1x4096x3, .f32⟩ : BufTy).Contents (Elt F)),
    nullary main_cst_3 (constant S_ .f32 0x00000000#32),
    binary main_v38 main_cst_3 main_v39 ((fun x v => Host.reduceAdd x v reducesTo_S1x4096x3_S_d0_1_2 h_S_) : (⟨S1x4096x3, .f32⟩ : BufTy).Contents (Elt F) → (⟨S_, .f32⟩ : BufTy).Contents (Elt F) → (⟨S_, .f32⟩ : BufTy).Contents (Elt F)),
    nullary main_cst_4 (constant S_ .f32 0x46400000#32),
    binary main_v39 main_cst_4 main_v40 (Host.divf : (⟨S_, .f32⟩ : BufTy).Contents (Elt F) → (⟨S_, .f32⟩ : BufTy).Contents (Elt F) → (⟨S_, .f32⟩ : BufTy).Contents (Elt F)),
    unary main_arg5 main_v41 (broadcastInDim S1x512x3 ![1, 2] bcast_S512x3_S1x512x3_1_2 : (⟨S512x3, .f32⟩ : BufTy).Contents (Elt F) → (⟨S1x512x3, .f32⟩ : BufTy).Contents (Elt F)),
    unary main_arg3 main_v42 ((transpose S512x64 [1, 0] · transposes_S64x512_S512x64_1_0) : (⟨S64x512, .f32⟩ : BufTy).Contents (Elt F) → (⟨S512x64, .f32⟩ : BufTy).Contents (Elt F)),
    unary main_v42 main_v43 (broadcastInDim S1x512x64 ![1, 2] bcast_S512x64_S1x512x64_1_2 : (⟨S512x64, .f32⟩ : BufTy).Contents (Elt F) → (⟨S1x512x64, .f32⟩ : BufTy).Contents (Elt F)),
    unary main_arg4 main_v44 ((transpose S512x64 [1, 0] · transposes_S64x512_S512x64_1_0) : (⟨S64x512, .f32⟩ : BufTy).Contents (Elt F) → (⟨S512x64, .f32⟩ : BufTy).Contents (Elt F)),
    unary main_v44 main_v45 (broadcastInDim S1x512x64 ![1, 2] bcast_S512x64_S1x512x64_1_2 : (⟨S512x64, .f32⟩ : BufTy).Contents (Elt F) → (⟨S1x512x64, .f32⟩ : BufTy).Contents (Elt F)),
    binary main_v43 main_v43 main_v46 (mulf : (⟨S1x512x64, .f32⟩ : BufTy).Contents (Elt F) → (⟨S1x512x64, .f32⟩ : BufTy).Contents (Elt F) → (⟨S1x512x64, .f32⟩ : BufTy).Contents (Elt F)),
    nullary main_cst_5 (constant S_ .f32 0x00000000#32),
    binary main_v46 main_cst_5 main_v47 ((fun x v => Host.reduceAdd x v reducesTo_S1x512x64_S1x512_d2 h_S_) : (⟨S1x512x64, .f32⟩ : BufTy).Contents (Elt F) → (⟨S_, .f32⟩ : BufTy).Contents (Elt F) → (⟨S1x512, .f32⟩ : BufTy).Contents (Elt F)),
    binary main_v45 main_v45 main_v48 (mulf : (⟨S1x512x64, .f32⟩ : BufTy).Contents (Elt F) → (⟨S1x512x64, .f32⟩ : BufTy).Contents (Elt F) → (⟨S1x512x64, .f32⟩ : BufTy).Contents (Elt F)),
    nullary main_cst_6 (constant S_ .f32 0x00000000#32),
    binary main_v48 main_cst_6 main_v49 ((fun x v => Host.reduceAdd x v reducesTo_S1x512x64_S1x512_d2 h_S_) : (⟨S1x512x64, .f32⟩ : BufTy).Contents (Elt F) → (⟨S_, .f32⟩ : BufTy).Contents (Elt F) → (⟨S1x512, .f32⟩ : BufTy).Contents (Elt F)),
    unary main_v47 main_v50 (broadcastInDim S1x512x1 ![0, 1] bcast_S1x512_S1x512x1_0_1 : (⟨S1x512, .f32⟩ : BufTy).Contents (Elt F) → (⟨S1x512x1, .f32⟩ : BufTy).Contents (Elt F)),
    unary main_v49 main_v51 (broadcastInDim S1x1x512 ![0, 2] bcast_S1x512_S1x1x512_0_2 : (⟨S1x512, .f32⟩ : BufTy).Contents (Elt F) → (⟨S1x1x512, .f32⟩ : BufTy).Contents (Elt F)),
    unary main_v50 main_v52 (broadcastInDim S1x512x512 ![0, 1, 2] bcast_S1x512x1_S1x512x512_0_1_2 : (⟨S1x512x1, .f32⟩ : BufTy).Contents (Elt F) → (⟨S1x512x512, .f32⟩ : BufTy).Contents (Elt F)),
    unary main_v51 main_v53 (broadcastInDim S1x512x512 ![0, 1, 2] bcast_S1x1x512_S1x512x512_0_1_2 : (⟨S1x1x512, .f32⟩ : BufTy).Contents (Elt F) → (⟨S1x512x512, .f32⟩ : BufTy).Contents (Elt F)),
    binary main_v52 main_v53 main_v54 (addf : (⟨S1x512x512, .f32⟩ : BufTy).Contents (Elt F) → (⟨S1x512x512, .f32⟩ : BufTy).Contents (Elt F) → (⟨S1x512x512, .f32⟩ : BufTy).Contents (Elt F)),
    binary main_v43 main_v45 main_v55 ((fun l r => Host.dotGeneral dot_S1x512x64_S1x512x64_S1x512x512_2_2_1_1_0_0 none l r) : (⟨S1x512x64, .f32⟩ : BufTy).Contents (Elt F) → (⟨S1x512x64, .f32⟩ : BufTy).Contents (Elt F) → (⟨S1x512x512, .f32⟩ : BufTy).Contents (Elt F)),
    nullary main_cst_7 (constant S_ .f32 0x40000000#32),
    unary main_cst_7 main_v56 (broadcastInDim S1x512x512 ![] bcast_S_S1x512x512 : (⟨S_, .f32⟩ : BufTy).Contents (Elt F) → (⟨S1x512x512, .f32⟩ : BufTy).Contents (Elt F)),
    binary main_v56 main_v55 main_v57 (mulf : (⟨S1x512x512, .f32⟩ : BufTy).Contents (Elt F) → (⟨S1x512x512, .f32⟩ : BufTy).Contents (Elt F) → (⟨S1x512x512, .f32⟩ : BufTy).Contents (Elt F)),
    binary main_v54 main_v57 main_v58 (subf : (⟨S1x512x512, .f32⟩ : BufTy).Contents (Elt F) → (⟨S1x512x512, .f32⟩ : BufTy).Contents (Elt F) → (⟨S1x512x512, .f32⟩ : BufTy).Contents (Elt F)),
    nullary main_cst_8 (constant S_ .f32 0x00000000#32),
    unary main_cst_8 main_v59 (broadcastInDim S1x512x512 ![] bcast_S_S1x512x512 : (⟨S_, .f32⟩ : BufTy).Contents (Elt F) → (⟨S1x512x512, .f32⟩ : BufTy).Contents (Elt F)),
    binary main_v58 main_v59 main_v60 (maximumf : (⟨S1x512x512, .f32⟩ : BufTy).Contents (Elt F) → (⟨S1x512x512, .f32⟩ : BufTy).Contents (Elt F) → (⟨S1x512x512, .f32⟩ : BufTy).Contents (Elt F)),
    unary main_v60 main_v61 (Host.sqrt : (⟨S1x512x512, .f32⟩ : BufTy).Contents (Elt F) → (⟨S1x512x512, .f32⟩ : BufTy).Contents (Elt F)),
    TRef.nullary (TRef.of (T := ⟨S1x512x512, .i32⟩) main_call2_v0) (iotaInDim S1x512x512 32 2),
    TRef.nullary (TRef.of (T := ⟨S_, .f32⟩) main_call2_cst) (constant S_ .f32 0x7F800000#32),
    TRef.nullary (TRef.of (T := ⟨S_, .i32⟩) main_call2_c) (constantI S_ 32 0#32),
    TRef.quaternary (TRef.of (T := ⟨S1x512x512, .f32⟩) main_v61) (TRef.of (T := ⟨S1x512x512, .i32⟩) main_call2_v0) (TRef.of (T := ⟨S_, .f32⟩) main_call2_cst) (TRef.of (T := ⟨S_, .i32⟩) main_call2_c) (TRef.of (T := ⟨S1x512, .f32⟩) main_call2_v1_0) (fun x y u v j => (Host.argReduce reducer_argmin_f32_i32 x y u v reducesTo_S1x512x512_S1x512_d2 h_S_ j).1),
    TRef.quaternary (TRef.of (T := ⟨S1x512x512, .f32⟩) main_v61) (TRef.of (T := ⟨S1x512x512, .i32⟩) main_call2_v0) (TRef.of (T := ⟨S_, .f32⟩) main_call2_cst) (TRef.of (T := ⟨S_, .i32⟩) main_call2_c) (TRef.of (T := ⟨S1x512, .i32⟩) main_v62) (fun x y u v j => (Host.argReduce reducer_argmin_f32_i32 x y u v reducesTo_S1x512x512_S1x512_d2 h_S_ j).2),
    nullary main_v63 (sitofp .f32 (iotaInDim S8 32 0)),
    nullary main_v64 (sitofp .f32 (iotaInDim S8 32 0)),
    nullary main_v65 (sitofp .f32 (iotaInDim S8 32 0)),
    unary main_v63 main_v66 (broadcastInDim S8x8x8 ![0] bcast_S8_S8x8x8_0 : (⟨S8, .f32⟩ : BufTy).Contents (Elt F) → (⟨S8x8x8, .f32⟩ : BufTy).Contents (Elt F)),
    unary main_v64 main_v67 (broadcastInDim S8x8x8 ![1] bcast_S8_S8x8x8_1 : (⟨S8, .f32⟩ : BufTy).Contents (Elt F) → (⟨S8x8x8, .f32⟩ : BufTy).Contents (Elt F)),
    unary main_v65 main_v68 (broadcastInDim S8x8x8 ![2] bcast_S8_S8x8x8_2 : (⟨S8, .f32⟩ : BufTy).Contents (Elt F) → (⟨S8x8x8, .f32⟩ : BufTy).Contents (Elt F)),
    unary main_v66 main_v69 (broadcastInDim S1x8x8x8 ![1, 2, 3] bcast_S8x8x8_S1x8x8x8_1_2_3 : (⟨S8x8x8, .f32⟩ : BufTy).Contents (Elt F) → (⟨S1x8x8x8, .f32⟩ : BufTy).Contents (Elt F)),
    unary main_v67 main_v70 (broadcastInDim S1x8x8x8 ![1, 2, 3] bcast_S8x8x8_S1x8x8x8_1_2_3 : (⟨S8x8x8, .f32⟩ : BufTy).Contents (Elt F) → (⟨S1x8x8x8, .f32⟩ : BufTy).Contents (Elt F)),
    unary main_v68 main_v71 (broadcastInDim S1x8x8x8 ![1, 2, 3] bcast_S8x8x8_S1x8x8x8_1_2_3 : (⟨S8x8x8, .f32⟩ : BufTy).Contents (Elt F) → (⟨S1x8x8x8, .f32⟩ : BufTy).Contents (Elt F)),
    nary ![main_v69, main_v70, main_v71] main_v72 (fun u => fn_main_v72 (F := F) (u 0) (u 1) (u 2)),
    reshape main_v72 main_v73 (rfl : (.f32 : EltTy) = .f32) shapeCasts_S3x8x8x8_S1x3x512,
    unary main_v73 main_v74 ((transpose S1x512x3 [0, 2, 1] · transposes_S1x3x512_S1x512x3_0_2_1) : (⟨S1x3x512, .f32⟩ : BufTy).Contents (Elt F) → (⟨S1x512x3, .f32⟩ : BufTy).Contents (Elt F)),
    unary main_v62 main_v75 (broadcastInDim S1x512x1 ![0, 1] bcast_S1x512_S1x512x1_0_1 : (⟨S1x512, .i32⟩ : BufTy).Contents (Elt F) → (⟨S1x512x1, .i32⟩ : BufTy).Contents (Elt F)),
    unary main_v75 main_v76 (broadcastInDim S1x512x3 ![0, 1, 2] bcast_S1x512x1_S1x512x3_0_1_2 : (⟨S1x512x1, .i32⟩ : BufTy).Contents (Elt F) → (⟨S1x512x3, .i32⟩ : BufTy).Contents (Elt F)),
    TRef.nullary (TRef.of (T := ⟨S_, .i32⟩) main_call3_c) (constantI S_ 32 0#32),
    TRef.unary (TRef.of (T := ⟨S_, .i32⟩) main_call3_c) (TRef.of (T := ⟨S1x512x3, .i32⟩) main_call3_v0) (broadcastInDim S1x512x3 ![] bcast_S_S1x512x3),
    TRef.binary (TRef.of (T := ⟨S1x512x3, .i32⟩) main_v76) (TRef.of (T := ⟨S1x512x3, .i32⟩) main_call3_v0) (TRef.of (T := ⟨S1x512x3, .i1⟩) main_call3_v1) (cmpi .slt),
    TRef.nullary (TRef.of (T := ⟨S_, .i32⟩) main_call3_c_0) (constantI S_ 32 512#32),
    TRef.unary (TRef.of (T := ⟨S_, .i32⟩) main_call3_c_0) (TRef.of (T := ⟨S1x512x3, .i32⟩) main_call3_v2) (broadcastInDim S1x512x3 ![] bcast_S_S1x512x3),
    TRef.binary (TRef.of (T := ⟨S1x512x3, .i32⟩) main_v76) (TRef.of (T := ⟨S1x512x3, .i32⟩) main_call3_v2) (TRef.of (T := ⟨S1x512x3, .i32⟩) main_call3_v3) addi,
    TRef.ternary (TRef.of (T := ⟨S1x512x3, .i1⟩) main_call3_v1) (TRef.of (T := ⟨S1x512x3, .i32⟩) main_call3_v3) (TRef.of (T := ⟨S1x512x3, .i32⟩) main_v76) (TRef.of (T := ⟨S1x512x3, .i32⟩) main_call3_v4) select,
    TRef.reshape (TRef.of (T := ⟨S1x512x3, .i32⟩) main_call3_v4) (TRef.of (T := ⟨S512x3x1, .i32⟩) main_call3_v5) (rfl : (.i32 : EltTy) = .i32) shapeCasts_S1x512x3_S512x3x1,
    TRef.nullary (TRef.of (T := ⟨S1, .i32⟩) main_call3_c_1) (constantI S1 32 511#32),
    TRef.nullary (TRef.of (T := ⟨S_, .i32⟩) main_call3_c_2) (constantI S_ 32 0#32),
    TRef.unary (TRef.of (T := ⟨S_, .i32⟩) main_call3_c_2) (TRef.of (T := ⟨S512x3x1, .i32⟩) main_call3_v6) (broadcastInDim S512x3x1 ![] bcast_S_S512x3x1),
    TRef.binary (TRef.of (T := ⟨S512x3x1, .i32⟩) main_call3_v5) (TRef.of (T := ⟨S512x3x1, .i32⟩) main_call3_v6) (TRef.of (T := ⟨S512x3x1, .i1⟩) main_call3_v7) (cmpi .sge),
    TRef.unary (TRef.of (T := ⟨S1, .i32⟩) main_call3_c_1) (TRef.of (T := ⟨S1x1x1, .i32⟩) main_call3_v8) (broadcastInDim S1x1x1 ![2] bcast_S1_S1x1x1_2),
    TRef.unary (TRef.of (T := ⟨S1x1x1, .i32⟩) main_call3_v8) (TRef.of (T := ⟨S512x3x1, .i32⟩) main_call3_v9) (broadcastInDim S512x3x1 ![0, 1, 2] bcast_S1x1x1_S512x3x1_0_1_2),
    TRef.binary (TRef.of (T := ⟨S512x3x1, .i32⟩) main_call3_v5) (TRef.of (T := ⟨S512x3x1, .i32⟩) main_call3_v9) (TRef.of (T := ⟨S512x3x1, .i1⟩) main_call3_v10) (cmpi .sle),
    TRef.binary (TRef.of (T := ⟨S512x3x1, .i1⟩) main_call3_v7) (TRef.of (T := ⟨S512x3x1, .i1⟩) main_call3_v10) (TRef.of (T := ⟨S512x3x1, .i1⟩) main_call3_v11) andi,
    TRef.nullary (TRef.of (T := ⟨S_, .i1⟩) main_call3_c_3) (constantI S_ 1 1#1),
    TRef.binary (TRef.of (T := ⟨S512x3x1, .i1⟩) main_call3_v11) (TRef.of (T := ⟨S_, .i1⟩) main_call3_c_3) (TRef.of (T := ⟨S512x3, .i1⟩) main_call3_v12) (fun x v => Host.reduce IntOp.andi x v reducesTo_S512x3x1_S512x3_d2 h_S_),
    TRef.binary (TRef.of (T := ⟨S1x512x3, .f32⟩) main_v74) (TRef.of (T := ⟨S512x3x1, .i32⟩) main_call3_v5) (TRef.of (T := ⟨S1x512x3, .f32⟩) main_call3_v13) (fun x i => Host.gather gather_S1x512x3_S512x3x1_S1x512x3_0_1_2_1_1_2_111 x i),
    TRef.unary (TRef.of (T := ⟨S512x3, .i1⟩) main_call3_v12) (TRef.of (T := ⟨S1x512x3, .i1⟩) main_call3_v14) (broadcastInDim S1x512x3 ![1, 2] bcast_S512x3_S1x512x3_1_2),
    TRef.nullary (TRef.of (T := ⟨S_, .f32⟩) main_call3_cst) (constant S_ .f32 0x7FC00000#32),
    TRef.unary (TRef.of (T := ⟨S_, .f32⟩) main_call3_cst) (TRef.of (T := ⟨S1x512x3, .f32⟩) main_call3_v15) (broadcastInDim S1x512x3 ![] bcast_S_S1x512x3),
    TRef.ternary (TRef.of (T := ⟨S1x512x3, .i1⟩) main_call3_v14) (TRef.of (T := ⟨S1x512x3, .f32⟩) main_call3_v13) (TRef.of (T := ⟨S1x512x3, .f32⟩) main_call3_v15) (TRef.of (T := ⟨S1x512x3, .f32⟩) main_v77) select,
    binary main_v41 main_v77 main_v78 (subf : (⟨S1x512x3, .f32⟩ : BufTy).Contents (Elt F) → (⟨S1x512x3, .f32⟩ : BufTy).Contents (Elt F) → (⟨S1x512x3, .f32⟩ : BufTy).Contents (Elt F)),
    unary main_v78 main_v79 (Host.absf : (⟨S1x512x3, .f32⟩ : BufTy).Contents (Elt F) → (⟨S1x512x3, .f32⟩ : BufTy).Contents (Elt F)),
    nullary main_cst_9 (constant S_ .f32 0x00000000#32),
    binary main_v79 main_cst_9 main_v80 ((fun x v => Host.reduceAdd x v reducesTo_S1x512x3_S_d0_1_2 h_S_) : (⟨S1x512x3, .f32⟩ : BufTy).Contents (Elt F) → (⟨S_, .f32⟩ : BufTy).Contents (Elt F) → (⟨S_, .f32⟩ : BufTy).Contents (Elt F)),
    nullary main_cst_10 (constant S_ .f32 0x44C00000#32),
    binary main_v80 main_cst_10 main_v81 (Host.divf : (⟨S_, .f32⟩ : BufTy).Contents (Elt F) → (⟨S_, .f32⟩ : BufTy).Contents (Elt F) → (⟨S_, .f32⟩ : BufTy).Contents (Elt F)),
    unary main_v40 main_v82 (broadcastInDim S1 ![] bcast_S_S1 : (⟨S_, .f32⟩ : BufTy).Contents (Elt F) → (⟨S1, .f32⟩ : BufTy).Contents (Elt F)),
    unary main_v81 main_v83 (broadcastInDim S1 ![] bcast_S_S1 : (⟨S_, .f32⟩ : BufTy).Contents (Elt F) → (⟨S1, .f32⟩ : BufTy).Contents (Elt F)),
    binary main_v82 main_v83 main_v84 (fn_main_v84 (F := F)),
    nullary main_cst_11 (constant S_ .f32 0x00000000#32),
    binary main_v84 main_cst_11 main_v85 ((fun x v => Host.reduceAdd x v reducesTo_S2_S_d0 h_S_) : (⟨S2, .f32⟩ : BufTy).Contents (Elt F) → (⟨S_, .f32⟩ : BufTy).Contents (Elt F) → (⟨S_, .f32⟩ : BufTy).Contents (Elt F)),
    nullary main_cst_12 (constant S_ .f32 0x40000000#32),
    binary main_v85 main_cst_12 main_v86 (Host.divf : (⟨S_, .f32⟩ : BufTy).Contents (Elt F) → (⟨S_, .f32⟩ : BufTy).Contents (Elt F) → (⟨S_, .f32⟩ : BufTy).Contents (Elt F)),
    reshape main_v86 main_v87 (rfl : (.f32 : EltTy) = .f32) shapeCasts_S_S1x1 ]

set_option maxRecDepth 8192 in
set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_sub : (ops : List (HloOp τ sig (Elt F))).Forall fun op => op.bufs ⊆ tcRefs τ sig :=
  ⟨unary_bufs_sub .., unary_bufs_sub .., unary_bufs_sub .., unary_bufs_sub .., unary_bufs_sub .., binary_bufs_sub .., nullary_bufs_sub .., binary_bufs_sub .., binary_bufs_sub .., nullary_bufs_sub .., binary_bufs_sub .., unary_bufs_sub .., unary_bufs_sub .., unary_bufs_sub .., unary_bufs_sub .., binary_bufs_sub .., binary_bufs_sub .., nullary_bufs_sub .., unary_bufs_sub .., binary_bufs_sub .., binary_bufs_sub .., nullary_bufs_sub .., unary_bufs_sub .., binary_bufs_sub .., unary_bufs_sub .., nullary_bufs_sub .., nullary_bufs_sub .., nullary_bufs_sub .., quaternary_bufs_sub .., quaternary_bufs_sub .., nullary_bufs_sub .., nullary_bufs_sub .., nullary_bufs_sub .., unary_bufs_sub .., unary_bufs_sub .., unary_bufs_sub .., unary_bufs_sub .., unary_bufs_sub .., unary_bufs_sub .., nary_bufs_sub .., reshape_bufs_sub .., unary_bufs_sub .., unary_bufs_sub .., unary_bufs_sub .., nullary_bufs_sub .., unary_bufs_sub .., binary_bufs_sub .., nullary_bufs_sub .., unary_bufs_sub .., binary_bufs_sub .., ternary_bufs_sub .., reshape_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub .., binary_bufs_sub .., unary_bufs_sub .., nullary_bufs_sub .., binary_bufs_sub .., nullary_bufs_sub .., binary_bufs_sub .., unary_bufs_sub .., unary_bufs_sub .., unary_bufs_sub .., unary_bufs_sub .., unary_bufs_sub .., binary_bufs_sub .., nullary_bufs_sub .., binary_bufs_sub .., binary_bufs_sub .., nullary_bufs_sub .., binary_bufs_sub .., unary_bufs_sub .., unary_bufs_sub .., unary_bufs_sub .., unary_bufs_sub .., binary_bufs_sub .., binary_bufs_sub .., nullary_bufs_sub .., unary_bufs_sub .., binary_bufs_sub .., binary_bufs_sub .., nullary_bufs_sub .., unary_bufs_sub .., binary_bufs_sub .., unary_bufs_sub .., nullary_bufs_sub .., nullary_bufs_sub .., nullary_bufs_sub .., quaternary_bufs_sub .., quaternary_bufs_sub .., nullary_bufs_sub .., nullary_bufs_sub .., nullary_bufs_sub .., unary_bufs_sub .., unary_bufs_sub .., unary_bufs_sub .., unary_bufs_sub .., unary_bufs_sub .., unary_bufs_sub .., nary_bufs_sub .., reshape_bufs_sub .., unary_bufs_sub .., unary_bufs_sub .., unary_bufs_sub .., nullary_bufs_sub .., unary_bufs_sub .., binary_bufs_sub .., nullary_bufs_sub .., unary_bufs_sub .., binary_bufs_sub .., ternary_bufs_sub .., reshape_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub .., binary_bufs_sub .., unary_bufs_sub .., nullary_bufs_sub .., binary_bufs_sub .., nullary_bufs_sub .., binary_bufs_sub .., unary_bufs_sub .., unary_bufs_sub .., binary_bufs_sub .., nullary_bufs_sub .., binary_bufs_sub .., nullary_bufs_sub .., binary_bufs_sub .., reshape_bufs_sub ..⟩

set_option maxRecDepth 8192 in
/-- `main_v87`'s composed term of the arguments (named: it is long). -/
def res_main_v87 (m : (ℓ : Loc nD τ sig) → Buf (Elt F) ℓ) (c : Dev nD) : Buf (Elt F) ((c.tc : Thread nD τ).loc main_v87) :=
  shapeCast _ (Host.divf (Host.reduceAdd (concatenate S2 0 [⟨S1, (broadcastInDim S1 ![] bcast_S_S1 (Host.divf (Host.reduceAdd (Host.absf (subf (broadcastInDim S1x4096x3 ![1, 2] bcast_S4096x3_S1x4096x3_1_2 (m ((c.tc : Thread nD τ).loc main_arg2))) (select (broadcastInDim S1x4096x3 ![1, 2] bcast_S4096x3_S1x4096x3_1_2 (Host.reduce IntOp.andi (andi (cmpi .sge (shapeCast _ (select (cmpi .slt (broadcastInDim S1x4096x3 ![0, 1, 2] bcast_S1x4096x1_S1x4096x3_0_1_2 (broadcastInDim S1x4096x1 ![0, 1] bcast_S1x4096_S1x4096x1_0_1 (fun j => (Host.argReduce reducer_argmin_f32_i32 (Host.sqrt (maximumf (subf (addf (broadcastInDim S1x4096x4096 ![0, 1, 2] bcast_S1x4096x1_S1x4096x4096_0_1_2 (broadcastInDim S1x4096x1 ![0, 1] bcast_S1x4096_S1x4096x1_0_1 (Host.reduceAdd (mulf (broadcastInDim S1x4096x64 ![1, 2] bcast_S4096x64_S1x4096x64_1_2 (transpose S4096x64 [1, 0] (m ((c.tc : Thread nD τ).loc main_arg0)) transposes_S64x4096_S4096x64_1_0)) (broadcastInDim S1x4096x64 ![1, 2] bcast_S4096x64_S1x4096x64_1_2 (transpose S4096x64 [1, 0] (m ((c.tc : Thread nD τ).loc main_arg0)) transposes_S64x4096_S4096x64_1_0))) (constant S_ .f32 0x00000000#32) reducesTo_S1x4096x64_S1x4096_d2 h_S_))) (broadcastInDim S1x4096x4096 ![0, 1, 2] bcast_S1x1x4096_S1x4096x4096_0_1_2 (broadcastInDim S1x1x4096 ![0, 2] bcast_S1x4096_S1x1x4096_0_2 (Host.reduceAdd (mulf (broadcastInDim S1x4096x64 ![1, 2] bcast_S4096x64_S1x4096x64_1_2 (transpose S4096x64 [1, 0] (m ((c.tc : Thread nD τ).loc main_arg1)) transposes_S64x4096_S4096x64_1_0)) (broadcastInDim S1x4096x64 ![1, 2] bcast_S4096x64_S1x4096x64_1_2 (transpose S4096x64 [1, 0] (m ((c.tc : Thread nD τ).loc main_arg1)) transposes_S64x4096_S4096x64_1_0))) (constant S_ .f32 0x00000000#32) reducesTo_S1x4096x64_S1x4096_d2 h_S_)))) (mulf (broadcastInDim S1x4096x4096 ![] bcast_S_S1x4096x4096 (constant S_ .f32 0x40000000#32)) (Host.dotGeneral dot_S1x4096x64_S1x4096x64_S1x4096x4096_2_2_1_1_0_0 none (broadcastInDim S1x4096x64 ![1, 2] bcast_S4096x64_S1x4096x64_1_2 (transpose S4096x64 [1, 0] (m ((c.tc : Thread nD τ).loc main_arg0)) transposes_S64x4096_S4096x64_1_0)) (broadcastInDim S1x4096x64 ![1, 2] bcast_S4096x64_S1x4096x64_1_2 (transpose S4096x64 [1, 0] (m ((c.tc : Thread nD τ).loc main_arg1)) transposes_S64x4096_S4096x64_1_0))))) (broadcastInDim S1x4096x4096 ![] bcast_S_S1x4096x4096 (constant S_ .f32 0x00000000#32)))) (iotaInDim S1x4096x4096 32 2) (constant S_ .f32 0x7F800000#32) (constantI S_ 32 0#32) reducesTo_S1x4096x4096_S1x4096_d2 h_S_ j).2))) (broadcastInDim S1x4096x3 ![] bcast_S_S1x4096x3 (constantI S_ 32 0#32))) (addi (broadcastInDim S1x4096x3 ![0, 1, 2] bcast_S1x4096x1_S1x4096x3_0_1_2 (broadcastInDim S1x4096x1 ![0, 1] bcast_S1x4096_S1x4096x1_0_1 (fun j => (Host.argReduce reducer_argmin_f32_i32 (Host.sqrt (maximumf (subf (addf (broadcastInDim S1x4096x4096 ![0, 1, 2] bcast_S1x4096x1_S1x4096x4096_0_1_2 (broadcastInDim S1x4096x1 ![0, 1] bcast_S1x4096_S1x4096x1_0_1 (Host.reduceAdd (mulf (broadcastInDim S1x4096x64 ![1, 2] bcast_S4096x64_S1x4096x64_1_2 (transpose S4096x64 [1, 0] (m ((c.tc : Thread nD τ).loc main_arg0)) transposes_S64x4096_S4096x64_1_0)) (broadcastInDim S1x4096x64 ![1, 2] bcast_S4096x64_S1x4096x64_1_2 (transpose S4096x64 [1, 0] (m ((c.tc : Thread nD τ).loc main_arg0)) transposes_S64x4096_S4096x64_1_0))) (constant S_ .f32 0x00000000#32) reducesTo_S1x4096x64_S1x4096_d2 h_S_))) (broadcastInDim S1x4096x4096 ![0, 1, 2] bcast_S1x1x4096_S1x4096x4096_0_1_2 (broadcastInDim S1x1x4096 ![0, 2] bcast_S1x4096_S1x1x4096_0_2 (Host.reduceAdd (mulf (broadcastInDim S1x4096x64 ![1, 2] bcast_S4096x64_S1x4096x64_1_2 (transpose S4096x64 [1, 0] (m ((c.tc : Thread nD τ).loc main_arg1)) transposes_S64x4096_S4096x64_1_0)) (broadcastInDim S1x4096x64 ![1, 2] bcast_S4096x64_S1x4096x64_1_2 (transpose S4096x64 [1, 0] (m ((c.tc : Thread nD τ).loc main_arg1)) transposes_S64x4096_S4096x64_1_0))) (constant S_ .f32 0x00000000#32) reducesTo_S1x4096x64_S1x4096_d2 h_S_)))) (mulf (broadcastInDim S1x4096x4096 ![] bcast_S_S1x4096x4096 (constant S_ .f32 0x40000000#32)) (Host.dotGeneral dot_S1x4096x64_S1x4096x64_S1x4096x4096_2_2_1_1_0_0 none (broadcastInDim S1x4096x64 ![1, 2] bcast_S4096x64_S1x4096x64_1_2 (transpose S4096x64 [1, 0] (m ((c.tc : Thread nD τ).loc main_arg0)) transposes_S64x4096_S4096x64_1_0)) (broadcastInDim S1x4096x64 ![1, 2] bcast_S4096x64_S1x4096x64_1_2 (transpose S4096x64 [1, 0] (m ((c.tc : Thread nD τ).loc main_arg1)) transposes_S64x4096_S4096x64_1_0))))) (broadcastInDim S1x4096x4096 ![] bcast_S_S1x4096x4096 (constant S_ .f32 0x00000000#32)))) (iotaInDim S1x4096x4096 32 2) (constant S_ .f32 0x7F800000#32) (constantI S_ 32 0#32) reducesTo_S1x4096x4096_S1x4096_d2 h_S_ j).2))) (broadcastInDim S1x4096x3 ![] bcast_S_S1x4096x3 (constantI S_ 32 4096#32))) (broadcastInDim S1x4096x3 ![0, 1, 2] bcast_S1x4096x1_S1x4096x3_0_1_2 (broadcastInDim S1x4096x1 ![0, 1] bcast_S1x4096_S1x4096x1_0_1 (fun j => (Host.argReduce reducer_argmin_f32_i32 (Host.sqrt (maximumf (subf (addf (broadcastInDim S1x4096x4096 ![0, 1, 2] bcast_S1x4096x1_S1x4096x4096_0_1_2 (broadcastInDim S1x4096x1 ![0, 1] bcast_S1x4096_S1x4096x1_0_1 (Host.reduceAdd (mulf (broadcastInDim S1x4096x64 ![1, 2] bcast_S4096x64_S1x4096x64_1_2 (transpose S4096x64 [1, 0] (m ((c.tc : Thread nD τ).loc main_arg0)) transposes_S64x4096_S4096x64_1_0)) (broadcastInDim S1x4096x64 ![1, 2] bcast_S4096x64_S1x4096x64_1_2 (transpose S4096x64 [1, 0] (m ((c.tc : Thread nD τ).loc main_arg0)) transposes_S64x4096_S4096x64_1_0))) (constant S_ .f32 0x00000000#32) reducesTo_S1x4096x64_S1x4096_d2 h_S_))) (broadcastInDim S1x4096x4096 ![0, 1, 2] bcast_S1x1x4096_S1x4096x4096_0_1_2 (broadcastInDim S1x1x4096 ![0, 2] bcast_S1x4096_S1x1x4096_0_2 (Host.reduceAdd (mulf (broadcastInDim S1x4096x64 ![1, 2] bcast_S4096x64_S1x4096x64_1_2 (transpose S4096x64 [1, 0] (m ((c.tc : Thread nD τ).loc main_arg1)) transposes_S64x4096_S4096x64_1_0)) (broadcastInDim S1x4096x64 ![1, 2] bcast_S4096x64_S1x4096x64_1_2 (transpose S4096x64 [1, 0] (m ((c.tc : Thread nD τ).loc main_arg1)) transposes_S64x4096_S4096x64_1_0))) (constant S_ .f32 0x00000000#32) reducesTo_S1x4096x64_S1x4096_d2 h_S_)))) (mulf (broadcastInDim S1x4096x4096 ![] bcast_S_S1x4096x4096 (constant S_ .f32 0x40000000#32)) (Host.dotGeneral dot_S1x4096x64_S1x4096x64_S1x4096x4096_2_2_1_1_0_0 none (broadcastInDim S1x4096x64 ![1, 2] bcast_S4096x64_S1x4096x64_1_2 (transpose S4096x64 [1, 0] (m ((c.tc : Thread nD τ).loc main_arg0)) transposes_S64x4096_S4096x64_1_0)) (broadcastInDim S1x4096x64 ![1, 2] bcast_S4096x64_S1x4096x64_1_2 (transpose S4096x64 [1, 0] (m ((c.tc : Thread nD τ).loc main_arg1)) transposes_S64x4096_S4096x64_1_0))))) (broadcastInDim S1x4096x4096 ![] bcast_S_S1x4096x4096 (constant S_ .f32 0x00000000#32)))) (iotaInDim S1x4096x4096 32 2) (constant S_ .f32 0x7F800000#32) (constantI S_ 32 0#32) reducesTo_S1x4096x4096_S1x4096_d2 h_S_ j).2)))) shapeCasts_S1x4096x3_S4096x3x1) (broadcastInDim S4096x3x1 ![] bcast_S_S4096x3x1 (constantI S_ 32 0#32))) (cmpi .sle (shapeCast _ (select (cmpi .slt (broadcastInDim S1x4096x3 ![0, 1, 2] bcast_S1x4096x1_S1x4096x3_0_1_2 (broadcastInDim S1x4096x1 ![0, 1] bcast_S1x4096_S1x4096x1_0_1 (fun j => (Host.argReduce reducer_argmin_f32_i32 (Host.sqrt (maximumf (subf (addf (broadcastInDim S1x4096x4096 ![0, 1, 2] bcast_S1x4096x1_S1x4096x4096_0_1_2 (broadcastInDim S1x4096x1 ![0, 1] bcast_S1x4096_S1x4096x1_0_1 (Host.reduceAdd (mulf (broadcastInDim S1x4096x64 ![1, 2] bcast_S4096x64_S1x4096x64_1_2 (transpose S4096x64 [1, 0] (m ((c.tc : Thread nD τ).loc main_arg0)) transposes_S64x4096_S4096x64_1_0)) (broadcastInDim S1x4096x64 ![1, 2] bcast_S4096x64_S1x4096x64_1_2 (transpose S4096x64 [1, 0] (m ((c.tc : Thread nD τ).loc main_arg0)) transposes_S64x4096_S4096x64_1_0))) (constant S_ .f32 0x00000000#32) reducesTo_S1x4096x64_S1x4096_d2 h_S_))) (broadcastInDim S1x4096x4096 ![0, 1, 2] bcast_S1x1x4096_S1x4096x4096_0_1_2 (broadcastInDim S1x1x4096 ![0, 2] bcast_S1x4096_S1x1x4096_0_2 (Host.reduceAdd (mulf (broadcastInDim S1x4096x64 ![1, 2] bcast_S4096x64_S1x4096x64_1_2 (transpose S4096x64 [1, 0] (m ((c.tc : Thread nD τ).loc main_arg1)) transposes_S64x4096_S4096x64_1_0)) (broadcastInDim S1x4096x64 ![1, 2] bcast_S4096x64_S1x4096x64_1_2 (transpose S4096x64 [1, 0] (m ((c.tc : Thread nD τ).loc main_arg1)) transposes_S64x4096_S4096x64_1_0))) (constant S_ .f32 0x00000000#32) reducesTo_S1x4096x64_S1x4096_d2 h_S_)))) (mulf (broadcastInDim S1x4096x4096 ![] bcast_S_S1x4096x4096 (constant S_ .f32 0x40000000#32)) (Host.dotGeneral dot_S1x4096x64_S1x4096x64_S1x4096x4096_2_2_1_1_0_0 none (broadcastInDim S1x4096x64 ![1, 2] bcast_S4096x64_S1x4096x64_1_2 (transpose S4096x64 [1, 0] (m ((c.tc : Thread nD τ).loc main_arg0)) transposes_S64x4096_S4096x64_1_0)) (broadcastInDim S1x4096x64 ![1, 2] bcast_S4096x64_S1x4096x64_1_2 (transpose S4096x64 [1, 0] (m ((c.tc : Thread nD τ).loc main_arg1)) transposes_S64x4096_S4096x64_1_0))))) (broadcastInDim S1x4096x4096 ![] bcast_S_S1x4096x4096 (constant S_ .f32 0x00000000#32)))) (iotaInDim S1x4096x4096 32 2) (constant S_ .f32 0x7F800000#32) (constantI S_ 32 0#32) reducesTo_S1x4096x4096_S1x4096_d2 h_S_ j).2))) (broadcastInDim S1x4096x3 ![] bcast_S_S1x4096x3 (constantI S_ 32 0#32))) (addi (broadcastInDim S1x4096x3 ![0, 1, 2] bcast_S1x4096x1_S1x4096x3_0_1_2 (broadcastInDim S1x4096x1 ![0, 1] bcast_S1x4096_S1x4096x1_0_1 (fun j => (Host.argReduce reducer_argmin_f32_i32 (Host.sqrt (maximumf (subf (addf (broadcastInDim S1x4096x4096 ![0, 1, 2] bcast_S1x4096x1_S1x4096x4096_0_1_2 (broadcastInDim S1x4096x1 ![0, 1] bcast_S1x4096_S1x4096x1_0_1 (Host.reduceAdd (mulf (broadcastInDim S1x4096x64 ![1, 2] bcast_S4096x64_S1x4096x64_1_2 (transpose S4096x64 [1, 0] (m ((c.tc : Thread nD τ).loc main_arg0)) transposes_S64x4096_S4096x64_1_0)) (broadcastInDim S1x4096x64 ![1, 2] bcast_S4096x64_S1x4096x64_1_2 (transpose S4096x64 [1, 0] (m ((c.tc : Thread nD τ).loc main_arg0)) transposes_S64x4096_S4096x64_1_0))) (constant S_ .f32 0x00000000#32) reducesTo_S1x4096x64_S1x4096_d2 h_S_))) (broadcastInDim S1x4096x4096 ![0, 1, 2] bcast_S1x1x4096_S1x4096x4096_0_1_2 (broadcastInDim S1x1x4096 ![0, 2] bcast_S1x4096_S1x1x4096_0_2 (Host.reduceAdd (mulf (broadcastInDim S1x4096x64 ![1, 2] bcast_S4096x64_S1x4096x64_1_2 (transpose S4096x64 [1, 0] (m ((c.tc : Thread nD τ).loc main_arg1)) transposes_S64x4096_S4096x64_1_0)) (broadcastInDim S1x4096x64 ![1, 2] bcast_S4096x64_S1x4096x64_1_2 (transpose S4096x64 [1, 0] (m ((c.tc : Thread nD τ).loc main_arg1)) transposes_S64x4096_S4096x64_1_0))) (constant S_ .f32 0x00000000#32) reducesTo_S1x4096x64_S1x4096_d2 h_S_)))) (mulf (broadcastInDim S1x4096x4096 ![] bcast_S_S1x4096x4096 (constant S_ .f32 0x40000000#32)) (Host.dotGeneral dot_S1x4096x64_S1x4096x64_S1x4096x4096_2_2_1_1_0_0 none (broadcastInDim S1x4096x64 ![1, 2] bcast_S4096x64_S1x4096x64_1_2 (transpose S4096x64 [1, 0] (m ((c.tc : Thread nD τ).loc main_arg0)) transposes_S64x4096_S4096x64_1_0)) (broadcastInDim S1x4096x64 ![1, 2] bcast_S4096x64_S1x4096x64_1_2 (transpose S4096x64 [1, 0] (m ((c.tc : Thread nD τ).loc main_arg1)) transposes_S64x4096_S4096x64_1_0))))) (broadcastInDim S1x4096x4096 ![] bcast_S_S1x4096x4096 (constant S_ .f32 0x00000000#32)))) (iotaInDim S1x4096x4096 32 2) (constant S_ .f32 0x7F800000#32) (constantI S_ 32 0#32) reducesTo_S1x4096x4096_S1x4096_d2 h_S_ j).2))) (broadcastInDim S1x4096x3 ![] bcast_S_S1x4096x3 (constantI S_ 32 4096#32))) (broadcastInDim S1x4096x3 ![0, 1, 2] bcast_S1x4096x1_S1x4096x3_0_1_2 (broadcastInDim S1x4096x1 ![0, 1] bcast_S1x4096_S1x4096x1_0_1 (fun j => (Host.argReduce reducer_argmin_f32_i32 (Host.sqrt (maximumf (subf (addf (broadcastInDim S1x4096x4096 ![0, 1, 2] bcast_S1x4096x1_S1x4096x4096_0_1_2 (broadcastInDim S1x4096x1 ![0, 1] bcast_S1x4096_S1x4096x1_0_1 (Host.reduceAdd (mulf (broadcastInDim S1x4096x64 ![1, 2] bcast_S4096x64_S1x4096x64_1_2 (transpose S4096x64 [1, 0] (m ((c.tc : Thread nD τ).loc main_arg0)) transposes_S64x4096_S4096x64_1_0)) (broadcastInDim S1x4096x64 ![1, 2] bcast_S4096x64_S1x4096x64_1_2 (transpose S4096x64 [1, 0] (m ((c.tc : Thread nD τ).loc main_arg0)) transposes_S64x4096_S4096x64_1_0))) (constant S_ .f32 0x00000000#32) reducesTo_S1x4096x64_S1x4096_d2 h_S_))) (broadcastInDim S1x4096x4096 ![0, 1, 2] bcast_S1x1x4096_S1x4096x4096_0_1_2 (broadcastInDim S1x1x4096 ![0, 2] bcast_S1x4096_S1x1x4096_0_2 (Host.reduceAdd (mulf (broadcastInDim S1x4096x64 ![1, 2] bcast_S4096x64_S1x4096x64_1_2 (transpose S4096x64 [1, 0] (m ((c.tc : Thread nD τ).loc main_arg1)) transposes_S64x4096_S4096x64_1_0)) (broadcastInDim S1x4096x64 ![1, 2] bcast_S4096x64_S1x4096x64_1_2 (transpose S4096x64 [1, 0] (m ((c.tc : Thread nD τ).loc main_arg1)) transposes_S64x4096_S4096x64_1_0))) (constant S_ .f32 0x00000000#32) reducesTo_S1x4096x64_S1x4096_d2 h_S_)))) (mulf (broadcastInDim S1x4096x4096 ![] bcast_S_S1x4096x4096 (constant S_ .f32 0x40000000#32)) (Host.dotGeneral dot_S1x4096x64_S1x4096x64_S1x4096x4096_2_2_1_1_0_0 none (broadcastInDim S1x4096x64 ![1, 2] bcast_S4096x64_S1x4096x64_1_2 (transpose S4096x64 [1, 0] (m ((c.tc : Thread nD τ).loc main_arg0)) transposes_S64x4096_S4096x64_1_0)) (broadcastInDim S1x4096x64 ![1, 2] bcast_S4096x64_S1x4096x64_1_2 (transpose S4096x64 [1, 0] (m ((c.tc : Thread nD τ).loc main_arg1)) transposes_S64x4096_S4096x64_1_0))))) (broadcastInDim S1x4096x4096 ![] bcast_S_S1x4096x4096 (constant S_ .f32 0x00000000#32)))) (iotaInDim S1x4096x4096 32 2) (constant S_ .f32 0x7F800000#32) (constantI S_ 32 0#32) reducesTo_S1x4096x4096_S1x4096_d2 h_S_ j).2)))) shapeCasts_S1x4096x3_S4096x3x1) (broadcastInDim S4096x3x1 ![0, 1, 2] bcast_S1x1x1_S4096x3x1_0_1_2 (broadcastInDim S1x1x1 ![2] bcast_S1_S1x1x1_2 (constantI S1 32 4095#32))))) (constantI S_ 1 1#1) reducesTo_S4096x3x1_S4096x3_d2 h_S_)) (Host.gather gather_S1x4096x3_S4096x3x1_S1x4096x3_0_1_2_1_1_2_111 (transpose S1x4096x3 [0, 2, 1] (shapeCast _ ((concatenate S3x16x16x16 0 [⟨S1x16x16x16, ((broadcastInDim S1x16x16x16 ![1, 2, 3] bcast_S16x16x16_S1x16x16x16_1_2_3 (broadcastInDim S16x16x16 ![0] bcast_S16_S16x16x16_0 (sitofp .f32 (iotaInDim S16 32 0)))) : (⟨S1x16x16x16, .f32⟩ : BufTy).Contents (Elt F))⟩, ⟨S1x16x16x16, ((broadcastInDim S1x16x16x16 ![1, 2, 3] bcast_S16x16x16_S1x16x16x16_1_2_3 (broadcastInDim S16x16x16 ![1] bcast_S16_S16x16x16_1 (sitofp .f32 (iotaInDim S16 32 0)))) : (⟨S1x16x16x16, .f32⟩ : BufTy).Contents (Elt F))⟩, ⟨S1x16x16x16, ((broadcastInDim S1x16x16x16 ![1, 2, 3] bcast_S16x16x16_S1x16x16x16_1_2_3 (broadcastInDim S16x16x16 ![2] bcast_S16_S16x16x16_2 (sitofp .f32 (iotaInDim S16 32 0)))) : (⟨S1x16x16x16, .f32⟩ : BufTy).Contents (Elt F))⟩] concatenates_S1x16x16x16_S1x16x16x16_S1x16x16x16_S3x16x16x16_d0 : (⟨S3x16x16x16, .f32⟩ : BufTy).Contents (Elt F))) shapeCasts_S3x16x16x16_S1x3x4096) transposes_S1x3x4096_S1x4096x3_0_2_1) (shapeCast _ (select (cmpi .slt (broadcastInDim S1x4096x3 ![0, 1, 2] bcast_S1x4096x1_S1x4096x3_0_1_2 (broadcastInDim S1x4096x1 ![0, 1] bcast_S1x4096_S1x4096x1_0_1 (fun j => (Host.argReduce reducer_argmin_f32_i32 (Host.sqrt (maximumf (subf (addf (broadcastInDim S1x4096x4096 ![0, 1, 2] bcast_S1x4096x1_S1x4096x4096_0_1_2 (broadcastInDim S1x4096x1 ![0, 1] bcast_S1x4096_S1x4096x1_0_1 (Host.reduceAdd (mulf (broadcastInDim S1x4096x64 ![1, 2] bcast_S4096x64_S1x4096x64_1_2 (transpose S4096x64 [1, 0] (m ((c.tc : Thread nD τ).loc main_arg0)) transposes_S64x4096_S4096x64_1_0)) (broadcastInDim S1x4096x64 ![1, 2] bcast_S4096x64_S1x4096x64_1_2 (transpose S4096x64 [1, 0] (m ((c.tc : Thread nD τ).loc main_arg0)) transposes_S64x4096_S4096x64_1_0))) (constant S_ .f32 0x00000000#32) reducesTo_S1x4096x64_S1x4096_d2 h_S_))) (broadcastInDim S1x4096x4096 ![0, 1, 2] bcast_S1x1x4096_S1x4096x4096_0_1_2 (broadcastInDim S1x1x4096 ![0, 2] bcast_S1x4096_S1x1x4096_0_2 (Host.reduceAdd (mulf (broadcastInDim S1x4096x64 ![1, 2] bcast_S4096x64_S1x4096x64_1_2 (transpose S4096x64 [1, 0] (m ((c.tc : Thread nD τ).loc main_arg1)) transposes_S64x4096_S4096x64_1_0)) (broadcastInDim S1x4096x64 ![1, 2] bcast_S4096x64_S1x4096x64_1_2 (transpose S4096x64 [1, 0] (m ((c.tc : Thread nD τ).loc main_arg1)) transposes_S64x4096_S4096x64_1_0))) (constant S_ .f32 0x00000000#32) reducesTo_S1x4096x64_S1x4096_d2 h_S_)))) (mulf (broadcastInDim S1x4096x4096 ![] bcast_S_S1x4096x4096 (constant S_ .f32 0x40000000#32)) (Host.dotGeneral dot_S1x4096x64_S1x4096x64_S1x4096x4096_2_2_1_1_0_0 none (broadcastInDim S1x4096x64 ![1, 2] bcast_S4096x64_S1x4096x64_1_2 (transpose S4096x64 [1, 0] (m ((c.tc : Thread nD τ).loc main_arg0)) transposes_S64x4096_S4096x64_1_0)) (broadcastInDim S1x4096x64 ![1, 2] bcast_S4096x64_S1x4096x64_1_2 (transpose S4096x64 [1, 0] (m ((c.tc : Thread nD τ).loc main_arg1)) transposes_S64x4096_S4096x64_1_0))))) (broadcastInDim S1x4096x4096 ![] bcast_S_S1x4096x4096 (constant S_ .f32 0x00000000#32)))) (iotaInDim S1x4096x4096 32 2) (constant S_ .f32 0x7F800000#32) (constantI S_ 32 0#32) reducesTo_S1x4096x4096_S1x4096_d2 h_S_ j).2))) (broadcastInDim S1x4096x3 ![] bcast_S_S1x4096x3 (constantI S_ 32 0#32))) (addi (broadcastInDim S1x4096x3 ![0, 1, 2] bcast_S1x4096x1_S1x4096x3_0_1_2 (broadcastInDim S1x4096x1 ![0, 1] bcast_S1x4096_S1x4096x1_0_1 (fun j => (Host.argReduce reducer_argmin_f32_i32 (Host.sqrt (maximumf (subf (addf (broadcastInDim S1x4096x4096 ![0, 1, 2] bcast_S1x4096x1_S1x4096x4096_0_1_2 (broadcastInDim S1x4096x1 ![0, 1] bcast_S1x4096_S1x4096x1_0_1 (Host.reduceAdd (mulf (broadcastInDim S1x4096x64 ![1, 2] bcast_S4096x64_S1x4096x64_1_2 (transpose S4096x64 [1, 0] (m ((c.tc : Thread nD τ).loc main_arg0)) transposes_S64x4096_S4096x64_1_0)) (broadcastInDim S1x4096x64 ![1, 2] bcast_S4096x64_S1x4096x64_1_2 (transpose S4096x64 [1, 0] (m ((c.tc : Thread nD τ).loc main_arg0)) transposes_S64x4096_S4096x64_1_0))) (constant S_ .f32 0x00000000#32) reducesTo_S1x4096x64_S1x4096_d2 h_S_))) (broadcastInDim S1x4096x4096 ![0, 1, 2] bcast_S1x1x4096_S1x4096x4096_0_1_2 (broadcastInDim S1x1x4096 ![0, 2] bcast_S1x4096_S1x1x4096_0_2 (Host.reduceAdd (mulf (broadcastInDim S1x4096x64 ![1, 2] bcast_S4096x64_S1x4096x64_1_2 (transpose S4096x64 [1, 0] (m ((c.tc : Thread nD τ).loc main_arg1)) transposes_S64x4096_S4096x64_1_0)) (broadcastInDim S1x4096x64 ![1, 2] bcast_S4096x64_S1x4096x64_1_2 (transpose S4096x64 [1, 0] (m ((c.tc : Thread nD τ).loc main_arg1)) transposes_S64x4096_S4096x64_1_0))) (constant S_ .f32 0x00000000#32) reducesTo_S1x4096x64_S1x4096_d2 h_S_)))) (mulf (broadcastInDim S1x4096x4096 ![] bcast_S_S1x4096x4096 (constant S_ .f32 0x40000000#32)) (Host.dotGeneral dot_S1x4096x64_S1x4096x64_S1x4096x4096_2_2_1_1_0_0 none (broadcastInDim S1x4096x64 ![1, 2] bcast_S4096x64_S1x4096x64_1_2 (transpose S4096x64 [1, 0] (m ((c.tc : Thread nD τ).loc main_arg0)) transposes_S64x4096_S4096x64_1_0)) (broadcastInDim S1x4096x64 ![1, 2] bcast_S4096x64_S1x4096x64_1_2 (transpose S4096x64 [1, 0] (m ((c.tc : Thread nD τ).loc main_arg1)) transposes_S64x4096_S4096x64_1_0))))) (broadcastInDim S1x4096x4096 ![] bcast_S_S1x4096x4096 (constant S_ .f32 0x00000000#32)))) (iotaInDim S1x4096x4096 32 2) (constant S_ .f32 0x7F800000#32) (constantI S_ 32 0#32) reducesTo_S1x4096x4096_S1x4096_d2 h_S_ j).2))) (broadcastInDim S1x4096x3 ![] bcast_S_S1x4096x3 (constantI S_ 32 4096#32))) (broadcastInDim S1x4096x3 ![0, 1, 2] bcast_S1x4096x1_S1x4096x3_0_1_2 (broadcastInDim S1x4096x1 ![0, 1] bcast_S1x4096_S1x4096x1_0_1 (fun j => (Host.argReduce reducer_argmin_f32_i32 (Host.sqrt (maximumf (subf (addf (broadcastInDim S1x4096x4096 ![0, 1, 2] bcast_S1x4096x1_S1x4096x4096_0_1_2 (broadcastInDim S1x4096x1 ![0, 1] bcast_S1x4096_S1x4096x1_0_1 (Host.reduceAdd (mulf (broadcastInDim S1x4096x64 ![1, 2] bcast_S4096x64_S1x4096x64_1_2 (transpose S4096x64 [1, 0] (m ((c.tc : Thread nD τ).loc main_arg0)) transposes_S64x4096_S4096x64_1_0)) (broadcastInDim S1x4096x64 ![1, 2] bcast_S4096x64_S1x4096x64_1_2 (transpose S4096x64 [1, 0] (m ((c.tc : Thread nD τ).loc main_arg0)) transposes_S64x4096_S4096x64_1_0))) (constant S_ .f32 0x00000000#32) reducesTo_S1x4096x64_S1x4096_d2 h_S_))) (broadcastInDim S1x4096x4096 ![0, 1, 2] bcast_S1x1x4096_S1x4096x4096_0_1_2 (broadcastInDim S1x1x4096 ![0, 2] bcast_S1x4096_S1x1x4096_0_2 (Host.reduceAdd (mulf (broadcastInDim S1x4096x64 ![1, 2] bcast_S4096x64_S1x4096x64_1_2 (transpose S4096x64 [1, 0] (m ((c.tc : Thread nD τ).loc main_arg1)) transposes_S64x4096_S4096x64_1_0)) (broadcastInDim S1x4096x64 ![1, 2] bcast_S4096x64_S1x4096x64_1_2 (transpose S4096x64 [1, 0] (m ((c.tc : Thread nD τ).loc main_arg1)) transposes_S64x4096_S4096x64_1_0))) (constant S_ .f32 0x00000000#32) reducesTo_S1x4096x64_S1x4096_d2 h_S_)))) (mulf (broadcastInDim S1x4096x4096 ![] bcast_S_S1x4096x4096 (constant S_ .f32 0x40000000#32)) (Host.dotGeneral dot_S1x4096x64_S1x4096x64_S1x4096x4096_2_2_1_1_0_0 none (broadcastInDim S1x4096x64 ![1, 2] bcast_S4096x64_S1x4096x64_1_2 (transpose S4096x64 [1, 0] (m ((c.tc : Thread nD τ).loc main_arg0)) transposes_S64x4096_S4096x64_1_0)) (broadcastInDim S1x4096x64 ![1, 2] bcast_S4096x64_S1x4096x64_1_2 (transpose S4096x64 [1, 0] (m ((c.tc : Thread nD τ).loc main_arg1)) transposes_S64x4096_S4096x64_1_0))))) (broadcastInDim S1x4096x4096 ![] bcast_S_S1x4096x4096 (constant S_ .f32 0x00000000#32)))) (iotaInDim S1x4096x4096 32 2) (constant S_ .f32 0x7F800000#32) (constantI S_ 32 0#32) reducesTo_S1x4096x4096_S1x4096_d2 h_S_ j).2)))) shapeCasts_S1x4096x3_S4096x3x1)) (broadcastInDim S1x4096x3 ![] bcast_S_S1x4096x3 (constant S_ .f32 0x7FC00000#32))))) (constant S_ .f32 0x00000000#32) reducesTo_S1x4096x3_S_d0_1_2 h_S_) (constant S_ .f32 0x46400000#32)))⟩, ⟨S1, (broadcastInDim S1 ![] bcast_S_S1 (Host.divf (Host.reduceAdd (Host.absf (subf (broadcastInDim S1x512x3 ![1, 2] bcast_S512x3_S1x512x3_1_2 (m ((c.tc : Thread nD τ).loc main_arg5))) (select (broadcastInDim S1x512x3 ![1, 2] bcast_S512x3_S1x512x3_1_2 (Host.reduce IntOp.andi (andi (cmpi .sge (shapeCast _ (select (cmpi .slt (broadcastInDim S1x512x3 ![0, 1, 2] bcast_S1x512x1_S1x512x3_0_1_2 (broadcastInDim S1x512x1 ![0, 1] bcast_S1x512_S1x512x1_0_1 (fun j => (Host.argReduce reducer_argmin_f32_i32 (Host.sqrt (maximumf (subf (addf (broadcastInDim S1x512x512 ![0, 1, 2] bcast_S1x512x1_S1x512x512_0_1_2 (broadcastInDim S1x512x1 ![0, 1] bcast_S1x512_S1x512x1_0_1 (Host.reduceAdd (mulf (broadcastInDim S1x512x64 ![1, 2] bcast_S512x64_S1x512x64_1_2 (transpose S512x64 [1, 0] (m ((c.tc : Thread nD τ).loc main_arg3)) transposes_S64x512_S512x64_1_0)) (broadcastInDim S1x512x64 ![1, 2] bcast_S512x64_S1x512x64_1_2 (transpose S512x64 [1, 0] (m ((c.tc : Thread nD τ).loc main_arg3)) transposes_S64x512_S512x64_1_0))) (constant S_ .f32 0x00000000#32) reducesTo_S1x512x64_S1x512_d2 h_S_))) (broadcastInDim S1x512x512 ![0, 1, 2] bcast_S1x1x512_S1x512x512_0_1_2 (broadcastInDim S1x1x512 ![0, 2] bcast_S1x512_S1x1x512_0_2 (Host.reduceAdd (mulf (broadcastInDim S1x512x64 ![1, 2] bcast_S512x64_S1x512x64_1_2 (transpose S512x64 [1, 0] (m ((c.tc : Thread nD τ).loc main_arg4)) transposes_S64x512_S512x64_1_0)) (broadcastInDim S1x512x64 ![1, 2] bcast_S512x64_S1x512x64_1_2 (transpose S512x64 [1, 0] (m ((c.tc : Thread nD τ).loc main_arg4)) transposes_S64x512_S512x64_1_0))) (constant S_ .f32 0x00000000#32) reducesTo_S1x512x64_S1x512_d2 h_S_)))) (mulf (broadcastInDim S1x512x512 ![] bcast_S_S1x512x512 (constant S_ .f32 0x40000000#32)) (Host.dotGeneral dot_S1x512x64_S1x512x64_S1x512x512_2_2_1_1_0_0 none (broadcastInDim S1x512x64 ![1, 2] bcast_S512x64_S1x512x64_1_2 (transpose S512x64 [1, 0] (m ((c.tc : Thread nD τ).loc main_arg3)) transposes_S64x512_S512x64_1_0)) (broadcastInDim S1x512x64 ![1, 2] bcast_S512x64_S1x512x64_1_2 (transpose S512x64 [1, 0] (m ((c.tc : Thread nD τ).loc main_arg4)) transposes_S64x512_S512x64_1_0))))) (broadcastInDim S1x512x512 ![] bcast_S_S1x512x512 (constant S_ .f32 0x00000000#32)))) (iotaInDim S1x512x512 32 2) (constant S_ .f32 0x7F800000#32) (constantI S_ 32 0#32) reducesTo_S1x512x512_S1x512_d2 h_S_ j).2))) (broadcastInDim S1x512x3 ![] bcast_S_S1x512x3 (constantI S_ 32 0#32))) (addi (broadcastInDim S1x512x3 ![0, 1, 2] bcast_S1x512x1_S1x512x3_0_1_2 (broadcastInDim S1x512x1 ![0, 1] bcast_S1x512_S1x512x1_0_1 (fun j => (Host.argReduce reducer_argmin_f32_i32 (Host.sqrt (maximumf (subf (addf (broadcastInDim S1x512x512 ![0, 1, 2] bcast_S1x512x1_S1x512x512_0_1_2 (broadcastInDim S1x512x1 ![0, 1] bcast_S1x512_S1x512x1_0_1 (Host.reduceAdd (mulf (broadcastInDim S1x512x64 ![1, 2] bcast_S512x64_S1x512x64_1_2 (transpose S512x64 [1, 0] (m ((c.tc : Thread nD τ).loc main_arg3)) transposes_S64x512_S512x64_1_0)) (broadcastInDim S1x512x64 ![1, 2] bcast_S512x64_S1x512x64_1_2 (transpose S512x64 [1, 0] (m ((c.tc : Thread nD τ).loc main_arg3)) transposes_S64x512_S512x64_1_0))) (constant S_ .f32 0x00000000#32) reducesTo_S1x512x64_S1x512_d2 h_S_))) (broadcastInDim S1x512x512 ![0, 1, 2] bcast_S1x1x512_S1x512x512_0_1_2 (broadcastInDim S1x1x512 ![0, 2] bcast_S1x512_S1x1x512_0_2 (Host.reduceAdd (mulf (broadcastInDim S1x512x64 ![1, 2] bcast_S512x64_S1x512x64_1_2 (transpose S512x64 [1, 0] (m ((c.tc : Thread nD τ).loc main_arg4)) transposes_S64x512_S512x64_1_0)) (broadcastInDim S1x512x64 ![1, 2] bcast_S512x64_S1x512x64_1_2 (transpose S512x64 [1, 0] (m ((c.tc : Thread nD τ).loc main_arg4)) transposes_S64x512_S512x64_1_0))) (constant S_ .f32 0x00000000#32) reducesTo_S1x512x64_S1x512_d2 h_S_)))) (mulf (broadcastInDim S1x512x512 ![] bcast_S_S1x512x512 (constant S_ .f32 0x40000000#32)) (Host.dotGeneral dot_S1x512x64_S1x512x64_S1x512x512_2_2_1_1_0_0 none (broadcastInDim S1x512x64 ![1, 2] bcast_S512x64_S1x512x64_1_2 (transpose S512x64 [1, 0] (m ((c.tc : Thread nD τ).loc main_arg3)) transposes_S64x512_S512x64_1_0)) (broadcastInDim S1x512x64 ![1, 2] bcast_S512x64_S1x512x64_1_2 (transpose S512x64 [1, 0] (m ((c.tc : Thread nD τ).loc main_arg4)) transposes_S64x512_S512x64_1_0))))) (broadcastInDim S1x512x512 ![] bcast_S_S1x512x512 (constant S_ .f32 0x00000000#32)))) (iotaInDim S1x512x512 32 2) (constant S_ .f32 0x7F800000#32) (constantI S_ 32 0#32) reducesTo_S1x512x512_S1x512_d2 h_S_ j).2))) (broadcastInDim S1x512x3 ![] bcast_S_S1x512x3 (constantI S_ 32 512#32))) (broadcastInDim S1x512x3 ![0, 1, 2] bcast_S1x512x1_S1x512x3_0_1_2 (broadcastInDim S1x512x1 ![0, 1] bcast_S1x512_S1x512x1_0_1 (fun j => (Host.argReduce reducer_argmin_f32_i32 (Host.sqrt (maximumf (subf (addf (broadcastInDim S1x512x512 ![0, 1, 2] bcast_S1x512x1_S1x512x512_0_1_2 (broadcastInDim S1x512x1 ![0, 1] bcast_S1x512_S1x512x1_0_1 (Host.reduceAdd (mulf (broadcastInDim S1x512x64 ![1, 2] bcast_S512x64_S1x512x64_1_2 (transpose S512x64 [1, 0] (m ((c.tc : Thread nD τ).loc main_arg3)) transposes_S64x512_S512x64_1_0)) (broadcastInDim S1x512x64 ![1, 2] bcast_S512x64_S1x512x64_1_2 (transpose S512x64 [1, 0] (m ((c.tc : Thread nD τ).loc main_arg3)) transposes_S64x512_S512x64_1_0))) (constant S_ .f32 0x00000000#32) reducesTo_S1x512x64_S1x512_d2 h_S_))) (broadcastInDim S1x512x512 ![0, 1, 2] bcast_S1x1x512_S1x512x512_0_1_2 (broadcastInDim S1x1x512 ![0, 2] bcast_S1x512_S1x1x512_0_2 (Host.reduceAdd (mulf (broadcastInDim S1x512x64 ![1, 2] bcast_S512x64_S1x512x64_1_2 (transpose S512x64 [1, 0] (m ((c.tc : Thread nD τ).loc main_arg4)) transposes_S64x512_S512x64_1_0)) (broadcastInDim S1x512x64 ![1, 2] bcast_S512x64_S1x512x64_1_2 (transpose S512x64 [1, 0] (m ((c.tc : Thread nD τ).loc main_arg4)) transposes_S64x512_S512x64_1_0))) (constant S_ .f32 0x00000000#32) reducesTo_S1x512x64_S1x512_d2 h_S_)))) (mulf (broadcastInDim S1x512x512 ![] bcast_S_S1x512x512 (constant S_ .f32 0x40000000#32)) (Host.dotGeneral dot_S1x512x64_S1x512x64_S1x512x512_2_2_1_1_0_0 none (broadcastInDim S1x512x64 ![1, 2] bcast_S512x64_S1x512x64_1_2 (transpose S512x64 [1, 0] (m ((c.tc : Thread nD τ).loc main_arg3)) transposes_S64x512_S512x64_1_0)) (broadcastInDim S1x512x64 ![1, 2] bcast_S512x64_S1x512x64_1_2 (transpose S512x64 [1, 0] (m ((c.tc : Thread nD τ).loc main_arg4)) transposes_S64x512_S512x64_1_0))))) (broadcastInDim S1x512x512 ![] bcast_S_S1x512x512 (constant S_ .f32 0x00000000#32)))) (iotaInDim S1x512x512 32 2) (constant S_ .f32 0x7F800000#32) (constantI S_ 32 0#32) reducesTo_S1x512x512_S1x512_d2 h_S_ j).2)))) shapeCasts_S1x512x3_S512x3x1) (broadcastInDim S512x3x1 ![] bcast_S_S512x3x1 (constantI S_ 32 0#32))) (cmpi .sle (shapeCast _ (select (cmpi .slt (broadcastInDim S1x512x3 ![0, 1, 2] bcast_S1x512x1_S1x512x3_0_1_2 (broadcastInDim S1x512x1 ![0, 1] bcast_S1x512_S1x512x1_0_1 (fun j => (Host.argReduce reducer_argmin_f32_i32 (Host.sqrt (maximumf (subf (addf (broadcastInDim S1x512x512 ![0, 1, 2] bcast_S1x512x1_S1x512x512_0_1_2 (broadcastInDim S1x512x1 ![0, 1] bcast_S1x512_S1x512x1_0_1 (Host.reduceAdd (mulf (broadcastInDim S1x512x64 ![1, 2] bcast_S512x64_S1x512x64_1_2 (transpose S512x64 [1, 0] (m ((c.tc : Thread nD τ).loc main_arg3)) transposes_S64x512_S512x64_1_0)) (broadcastInDim S1x512x64 ![1, 2] bcast_S512x64_S1x512x64_1_2 (transpose S512x64 [1, 0] (m ((c.tc : Thread nD τ).loc main_arg3)) transposes_S64x512_S512x64_1_0))) (constant S_ .f32 0x00000000#32) reducesTo_S1x512x64_S1x512_d2 h_S_))) (broadcastInDim S1x512x512 ![0, 1, 2] bcast_S1x1x512_S1x512x512_0_1_2 (broadcastInDim S1x1x512 ![0, 2] bcast_S1x512_S1x1x512_0_2 (Host.reduceAdd (mulf (broadcastInDim S1x512x64 ![1, 2] bcast_S512x64_S1x512x64_1_2 (transpose S512x64 [1, 0] (m ((c.tc : Thread nD τ).loc main_arg4)) transposes_S64x512_S512x64_1_0)) (broadcastInDim S1x512x64 ![1, 2] bcast_S512x64_S1x512x64_1_2 (transpose S512x64 [1, 0] (m ((c.tc : Thread nD τ).loc main_arg4)) transposes_S64x512_S512x64_1_0))) (constant S_ .f32 0x00000000#32) reducesTo_S1x512x64_S1x512_d2 h_S_)))) (mulf (broadcastInDim S1x512x512 ![] bcast_S_S1x512x512 (constant S_ .f32 0x40000000#32)) (Host.dotGeneral dot_S1x512x64_S1x512x64_S1x512x512_2_2_1_1_0_0 none (broadcastInDim S1x512x64 ![1, 2] bcast_S512x64_S1x512x64_1_2 (transpose S512x64 [1, 0] (m ((c.tc : Thread nD τ).loc main_arg3)) transposes_S64x512_S512x64_1_0)) (broadcastInDim S1x512x64 ![1, 2] bcast_S512x64_S1x512x64_1_2 (transpose S512x64 [1, 0] (m ((c.tc : Thread nD τ).loc main_arg4)) transposes_S64x512_S512x64_1_0))))) (broadcastInDim S1x512x512 ![] bcast_S_S1x512x512 (constant S_ .f32 0x00000000#32)))) (iotaInDim S1x512x512 32 2) (constant S_ .f32 0x7F800000#32) (constantI S_ 32 0#32) reducesTo_S1x512x512_S1x512_d2 h_S_ j).2))) (broadcastInDim S1x512x3 ![] bcast_S_S1x512x3 (constantI S_ 32 0#32))) (addi (broadcastInDim S1x512x3 ![0, 1, 2] bcast_S1x512x1_S1x512x3_0_1_2 (broadcastInDim S1x512x1 ![0, 1] bcast_S1x512_S1x512x1_0_1 (fun j => (Host.argReduce reducer_argmin_f32_i32 (Host.sqrt (maximumf (subf (addf (broadcastInDim S1x512x512 ![0, 1, 2] bcast_S1x512x1_S1x512x512_0_1_2 (broadcastInDim S1x512x1 ![0, 1] bcast_S1x512_S1x512x1_0_1 (Host.reduceAdd (mulf (broadcastInDim S1x512x64 ![1, 2] bcast_S512x64_S1x512x64_1_2 (transpose S512x64 [1, 0] (m ((c.tc : Thread nD τ).loc main_arg3)) transposes_S64x512_S512x64_1_0)) (broadcastInDim S1x512x64 ![1, 2] bcast_S512x64_S1x512x64_1_2 (transpose S512x64 [1, 0] (m ((c.tc : Thread nD τ).loc main_arg3)) transposes_S64x512_S512x64_1_0))) (constant S_ .f32 0x00000000#32) reducesTo_S1x512x64_S1x512_d2 h_S_))) (broadcastInDim S1x512x512 ![0, 1, 2] bcast_S1x1x512_S1x512x512_0_1_2 (broadcastInDim S1x1x512 ![0, 2] bcast_S1x512_S1x1x512_0_2 (Host.reduceAdd (mulf (broadcastInDim S1x512x64 ![1, 2] bcast_S512x64_S1x512x64_1_2 (transpose S512x64 [1, 0] (m ((c.tc : Thread nD τ).loc main_arg4)) transposes_S64x512_S512x64_1_0)) (broadcastInDim S1x512x64 ![1, 2] bcast_S512x64_S1x512x64_1_2 (transpose S512x64 [1, 0] (m ((c.tc : Thread nD τ).loc main_arg4)) transposes_S64x512_S512x64_1_0))) (constant S_ .f32 0x00000000#32) reducesTo_S1x512x64_S1x512_d2 h_S_)))) (mulf (broadcastInDim S1x512x512 ![] bcast_S_S1x512x512 (constant S_ .f32 0x40000000#32)) (Host.dotGeneral dot_S1x512x64_S1x512x64_S1x512x512_2_2_1_1_0_0 none (broadcastInDim S1x512x64 ![1, 2] bcast_S512x64_S1x512x64_1_2 (transpose S512x64 [1, 0] (m ((c.tc : Thread nD τ).loc main_arg3)) transposes_S64x512_S512x64_1_0)) (broadcastInDim S1x512x64 ![1, 2] bcast_S512x64_S1x512x64_1_2 (transpose S512x64 [1, 0] (m ((c.tc : Thread nD τ).loc main_arg4)) transposes_S64x512_S512x64_1_0))))) (broadcastInDim S1x512x512 ![] bcast_S_S1x512x512 (constant S_ .f32 0x00000000#32)))) (iotaInDim S1x512x512 32 2) (constant S_ .f32 0x7F800000#32) (constantI S_ 32 0#32) reducesTo_S1x512x512_S1x512_d2 h_S_ j).2))) (broadcastInDim S1x512x3 ![] bcast_S_S1x512x3 (constantI S_ 32 512#32))) (broadcastInDim S1x512x3 ![0, 1, 2] bcast_S1x512x1_S1x512x3_0_1_2 (broadcastInDim S1x512x1 ![0, 1] bcast_S1x512_S1x512x1_0_1 (fun j => (Host.argReduce reducer_argmin_f32_i32 (Host.sqrt (maximumf (subf (addf (broadcastInDim S1x512x512 ![0, 1, 2] bcast_S1x512x1_S1x512x512_0_1_2 (broadcastInDim S1x512x1 ![0, 1] bcast_S1x512_S1x512x1_0_1 (Host.reduceAdd (mulf (broadcastInDim S1x512x64 ![1, 2] bcast_S512x64_S1x512x64_1_2 (transpose S512x64 [1, 0] (m ((c.tc : Thread nD τ).loc main_arg3)) transposes_S64x512_S512x64_1_0)) (broadcastInDim S1x512x64 ![1, 2] bcast_S512x64_S1x512x64_1_2 (transpose S512x64 [1, 0] (m ((c.tc : Thread nD τ).loc main_arg3)) transposes_S64x512_S512x64_1_0))) (constant S_ .f32 0x00000000#32) reducesTo_S1x512x64_S1x512_d2 h_S_))) (broadcastInDim S1x512x512 ![0, 1, 2] bcast_S1x1x512_S1x512x512_0_1_2 (broadcastInDim S1x1x512 ![0, 2] bcast_S1x512_S1x1x512_0_2 (Host.reduceAdd (mulf (broadcastInDim S1x512x64 ![1, 2] bcast_S512x64_S1x512x64_1_2 (transpose S512x64 [1, 0] (m ((c.tc : Thread nD τ).loc main_arg4)) transposes_S64x512_S512x64_1_0)) (broadcastInDim S1x512x64 ![1, 2] bcast_S512x64_S1x512x64_1_2 (transpose S512x64 [1, 0] (m ((c.tc : Thread nD τ).loc main_arg4)) transposes_S64x512_S512x64_1_0))) (constant S_ .f32 0x00000000#32) reducesTo_S1x512x64_S1x512_d2 h_S_)))) (mulf (broadcastInDim S1x512x512 ![] bcast_S_S1x512x512 (constant S_ .f32 0x40000000#32)) (Host.dotGeneral dot_S1x512x64_S1x512x64_S1x512x512_2_2_1_1_0_0 none (broadcastInDim S1x512x64 ![1, 2] bcast_S512x64_S1x512x64_1_2 (transpose S512x64 [1, 0] (m ((c.tc : Thread nD τ).loc main_arg3)) transposes_S64x512_S512x64_1_0)) (broadcastInDim S1x512x64 ![1, 2] bcast_S512x64_S1x512x64_1_2 (transpose S512x64 [1, 0] (m ((c.tc : Thread nD τ).loc main_arg4)) transposes_S64x512_S512x64_1_0))))) (broadcastInDim S1x512x512 ![] bcast_S_S1x512x512 (constant S_ .f32 0x00000000#32)))) (iotaInDim S1x512x512 32 2) (constant S_ .f32 0x7F800000#32) (constantI S_ 32 0#32) reducesTo_S1x512x512_S1x512_d2 h_S_ j).2)))) shapeCasts_S1x512x3_S512x3x1) (broadcastInDim S512x3x1 ![0, 1, 2] bcast_S1x1x1_S512x3x1_0_1_2 (broadcastInDim S1x1x1 ![2] bcast_S1_S1x1x1_2 (constantI S1 32 511#32))))) (constantI S_ 1 1#1) reducesTo_S512x3x1_S512x3_d2 h_S_)) (Host.gather gather_S1x512x3_S512x3x1_S1x512x3_0_1_2_1_1_2_111 (transpose S1x512x3 [0, 2, 1] (shapeCast _ ((concatenate S3x8x8x8 0 [⟨S1x8x8x8, ((broadcastInDim S1x8x8x8 ![1, 2, 3] bcast_S8x8x8_S1x8x8x8_1_2_3 (broadcastInDim S8x8x8 ![0] bcast_S8_S8x8x8_0 (sitofp .f32 (iotaInDim S8 32 0)))) : (⟨S1x8x8x8, .f32⟩ : BufTy).Contents (Elt F))⟩, ⟨S1x8x8x8, ((broadcastInDim S1x8x8x8 ![1, 2, 3] bcast_S8x8x8_S1x8x8x8_1_2_3 (broadcastInDim S8x8x8 ![1] bcast_S8_S8x8x8_1 (sitofp .f32 (iotaInDim S8 32 0)))) : (⟨S1x8x8x8, .f32⟩ : BufTy).Contents (Elt F))⟩, ⟨S1x8x8x8, ((broadcastInDim S1x8x8x8 ![1, 2, 3] bcast_S8x8x8_S1x8x8x8_1_2_3 (broadcastInDim S8x8x8 ![2] bcast_S8_S8x8x8_2 (sitofp .f32 (iotaInDim S8 32 0)))) : (⟨S1x8x8x8, .f32⟩ : BufTy).Contents (Elt F))⟩] concatenates_S1x8x8x8_S1x8x8x8_S1x8x8x8_S3x8x8x8_d0 : (⟨S3x8x8x8, .f32⟩ : BufTy).Contents (Elt F))) shapeCasts_S3x8x8x8_S1x3x512) transposes_S1x3x512_S1x512x3_0_2_1) (shapeCast _ (select (cmpi .slt (broadcastInDim S1x512x3 ![0, 1, 2] bcast_S1x512x1_S1x512x3_0_1_2 (broadcastInDim S1x512x1 ![0, 1] bcast_S1x512_S1x512x1_0_1 (fun j => (Host.argReduce reducer_argmin_f32_i32 (Host.sqrt (maximumf (subf (addf (broadcastInDim S1x512x512 ![0, 1, 2] bcast_S1x512x1_S1x512x512_0_1_2 (broadcastInDim S1x512x1 ![0, 1] bcast_S1x512_S1x512x1_0_1 (Host.reduceAdd (mulf (broadcastInDim S1x512x64 ![1, 2] bcast_S512x64_S1x512x64_1_2 (transpose S512x64 [1, 0] (m ((c.tc : Thread nD τ).loc main_arg3)) transposes_S64x512_S512x64_1_0)) (broadcastInDim S1x512x64 ![1, 2] bcast_S512x64_S1x512x64_1_2 (transpose S512x64 [1, 0] (m ((c.tc : Thread nD τ).loc main_arg3)) transposes_S64x512_S512x64_1_0))) (constant S_ .f32 0x00000000#32) reducesTo_S1x512x64_S1x512_d2 h_S_))) (broadcastInDim S1x512x512 ![0, 1, 2] bcast_S1x1x512_S1x512x512_0_1_2 (broadcastInDim S1x1x512 ![0, 2] bcast_S1x512_S1x1x512_0_2 (Host.reduceAdd (mulf (broadcastInDim S1x512x64 ![1, 2] bcast_S512x64_S1x512x64_1_2 (transpose S512x64 [1, 0] (m ((c.tc : Thread nD τ).loc main_arg4)) transposes_S64x512_S512x64_1_0)) (broadcastInDim S1x512x64 ![1, 2] bcast_S512x64_S1x512x64_1_2 (transpose S512x64 [1, 0] (m ((c.tc : Thread nD τ).loc main_arg4)) transposes_S64x512_S512x64_1_0))) (constant S_ .f32 0x00000000#32) reducesTo_S1x512x64_S1x512_d2 h_S_)))) (mulf (broadcastInDim S1x512x512 ![] bcast_S_S1x512x512 (constant S_ .f32 0x40000000#32)) (Host.dotGeneral dot_S1x512x64_S1x512x64_S1x512x512_2_2_1_1_0_0 none (broadcastInDim S1x512x64 ![1, 2] bcast_S512x64_S1x512x64_1_2 (transpose S512x64 [1, 0] (m ((c.tc : Thread nD τ).loc main_arg3)) transposes_S64x512_S512x64_1_0)) (broadcastInDim S1x512x64 ![1, 2] bcast_S512x64_S1x512x64_1_2 (transpose S512x64 [1, 0] (m ((c.tc : Thread nD τ).loc main_arg4)) transposes_S64x512_S512x64_1_0))))) (broadcastInDim S1x512x512 ![] bcast_S_S1x512x512 (constant S_ .f32 0x00000000#32)))) (iotaInDim S1x512x512 32 2) (constant S_ .f32 0x7F800000#32) (constantI S_ 32 0#32) reducesTo_S1x512x512_S1x512_d2 h_S_ j).2))) (broadcastInDim S1x512x3 ![] bcast_S_S1x512x3 (constantI S_ 32 0#32))) (addi (broadcastInDim S1x512x3 ![0, 1, 2] bcast_S1x512x1_S1x512x3_0_1_2 (broadcastInDim S1x512x1 ![0, 1] bcast_S1x512_S1x512x1_0_1 (fun j => (Host.argReduce reducer_argmin_f32_i32 (Host.sqrt (maximumf (subf (addf (broadcastInDim S1x512x512 ![0, 1, 2] bcast_S1x512x1_S1x512x512_0_1_2 (broadcastInDim S1x512x1 ![0, 1] bcast_S1x512_S1x512x1_0_1 (Host.reduceAdd (mulf (broadcastInDim S1x512x64 ![1, 2] bcast_S512x64_S1x512x64_1_2 (transpose S512x64 [1, 0] (m ((c.tc : Thread nD τ).loc main_arg3)) transposes_S64x512_S512x64_1_0)) (broadcastInDim S1x512x64 ![1, 2] bcast_S512x64_S1x512x64_1_2 (transpose S512x64 [1, 0] (m ((c.tc : Thread nD τ).loc main_arg3)) transposes_S64x512_S512x64_1_0))) (constant S_ .f32 0x00000000#32) reducesTo_S1x512x64_S1x512_d2 h_S_))) (broadcastInDim S1x512x512 ![0, 1, 2] bcast_S1x1x512_S1x512x512_0_1_2 (broadcastInDim S1x1x512 ![0, 2] bcast_S1x512_S1x1x512_0_2 (Host.reduceAdd (mulf (broadcastInDim S1x512x64 ![1, 2] bcast_S512x64_S1x512x64_1_2 (transpose S512x64 [1, 0] (m ((c.tc : Thread nD τ).loc main_arg4)) transposes_S64x512_S512x64_1_0)) (broadcastInDim S1x512x64 ![1, 2] bcast_S512x64_S1x512x64_1_2 (transpose S512x64 [1, 0] (m ((c.tc : Thread nD τ).loc main_arg4)) transposes_S64x512_S512x64_1_0))) (constant S_ .f32 0x00000000#32) reducesTo_S1x512x64_S1x512_d2 h_S_)))) (mulf (broadcastInDim S1x512x512 ![] bcast_S_S1x512x512 (constant S_ .f32 0x40000000#32)) (Host.dotGeneral dot_S1x512x64_S1x512x64_S1x512x512_2_2_1_1_0_0 none (broadcastInDim S1x512x64 ![1, 2] bcast_S512x64_S1x512x64_1_2 (transpose S512x64 [1, 0] (m ((c.tc : Thread nD τ).loc main_arg3)) transposes_S64x512_S512x64_1_0)) (broadcastInDim S1x512x64 ![1, 2] bcast_S512x64_S1x512x64_1_2 (transpose S512x64 [1, 0] (m ((c.tc : Thread nD τ).loc main_arg4)) transposes_S64x512_S512x64_1_0))))) (broadcastInDim S1x512x512 ![] bcast_S_S1x512x512 (constant S_ .f32 0x00000000#32)))) (iotaInDim S1x512x512 32 2) (constant S_ .f32 0x7F800000#32) (constantI S_ 32 0#32) reducesTo_S1x512x512_S1x512_d2 h_S_ j).2))) (broadcastInDim S1x512x3 ![] bcast_S_S1x512x3 (constantI S_ 32 512#32))) (broadcastInDim S1x512x3 ![0, 1, 2] bcast_S1x512x1_S1x512x3_0_1_2 (broadcastInDim S1x512x1 ![0, 1] bcast_S1x512_S1x512x1_0_1 (fun j => (Host.argReduce reducer_argmin_f32_i32 (Host.sqrt (maximumf (subf (addf (broadcastInDim S1x512x512 ![0, 1, 2] bcast_S1x512x1_S1x512x512_0_1_2 (broadcastInDim S1x512x1 ![0, 1] bcast_S1x512_S1x512x1_0_1 (Host.reduceAdd (mulf (broadcastInDim S1x512x64 ![1, 2] bcast_S512x64_S1x512x64_1_2 (transpose S512x64 [1, 0] (m ((c.tc : Thread nD τ).loc main_arg3)) transposes_S64x512_S512x64_1_0)) (broadcastInDim S1x512x64 ![1, 2] bcast_S512x64_S1x512x64_1_2 (transpose S512x64 [1, 0] (m ((c.tc : Thread nD τ).loc main_arg3)) transposes_S64x512_S512x64_1_0))) (constant S_ .f32 0x00000000#32) reducesTo_S1x512x64_S1x512_d2 h_S_))) (broadcastInDim S1x512x512 ![0, 1, 2] bcast_S1x1x512_S1x512x512_0_1_2 (broadcastInDim S1x1x512 ![0, 2] bcast_S1x512_S1x1x512_0_2 (Host.reduceAdd (mulf (broadcastInDim S1x512x64 ![1, 2] bcast_S512x64_S1x512x64_1_2 (transpose S512x64 [1, 0] (m ((c.tc : Thread nD τ).loc main_arg4)) transposes_S64x512_S512x64_1_0)) (broadcastInDim S1x512x64 ![1, 2] bcast_S512x64_S1x512x64_1_2 (transpose S512x64 [1, 0] (m ((c.tc : Thread nD τ).loc main_arg4)) transposes_S64x512_S512x64_1_0))) (constant S_ .f32 0x00000000#32) reducesTo_S1x512x64_S1x512_d2 h_S_)))) (mulf (broadcastInDim S1x512x512 ![] bcast_S_S1x512x512 (constant S_ .f32 0x40000000#32)) (Host.dotGeneral dot_S1x512x64_S1x512x64_S1x512x512_2_2_1_1_0_0 none (broadcastInDim S1x512x64 ![1, 2] bcast_S512x64_S1x512x64_1_2 (transpose S512x64 [1, 0] (m ((c.tc : Thread nD τ).loc main_arg3)) transposes_S64x512_S512x64_1_0)) (broadcastInDim S1x512x64 ![1, 2] bcast_S512x64_S1x512x64_1_2 (transpose S512x64 [1, 0] (m ((c.tc : Thread nD τ).loc main_arg4)) transposes_S64x512_S512x64_1_0))))) (broadcastInDim S1x512x512 ![] bcast_S_S1x512x512 (constant S_ .f32 0x00000000#32)))) (iotaInDim S1x512x512 32 2) (constant S_ .f32 0x7F800000#32) (constantI S_ 32 0#32) reducesTo_S1x512x512_S1x512_d2 h_S_ j).2)))) shapeCasts_S1x512x3_S512x3x1)) (broadcastInDim S1x512x3 ![] bcast_S_S1x512x3 (constant S_ .f32 0x7FC00000#32))))) (constant S_ .f32 0x00000000#32) reducesTo_S1x512x3_S_d0_1_2 h_S_) (constant S_ .f32 0x44C00000#32)))⟩] concatenates_S1_S1_S2_d0) (constant S_ .f32 0x00000000#32) reducesTo_S2_S_d0 h_S_) (constant S_ .f32 0x40000000#32)) shapeCasts_S_S1x1

/-- `res_main_v87` by its position among the values @main returns, 0 counting from 0: the name for hand proofs to cite, since
    a re-print renumbers `main_v87`. An abbreviation: it unfolds to the `res_main_v87` that `run` states. -/
abbrev res_out0 (m : (ℓ : Loc nD τ sig) → Buf (Elt F) ℓ) (c : Dev nD) : Buf (Elt F) ((c.tc : Thread nD τ).loc main_v87) := res_main_v87 m c

set_option maxRecDepth 8192 in
set_option maxHeartbeats 61600000 in
/-- On every device, for any float values, from any memory with zero counters: every weakly fair execution of
    @main terminates with each result at the operations' composed term of the arguments and the arguments
    unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v87) = res_main_v87 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c main_v87).trans (by simp only [ops, TRef.binary, TRef.nullary, TRef.quaternary, TRef.reshape, TRef.ternary, TRef.unary, TRef.toBuf, TRef.ofBuf, cast_eq]; after_results_simp <;> (try dsimp only [Matrix.cons_val]) <;> (try after_results_simp) <;> rfl <;> (unfold res_main_v87; rfl)),
      (h c main_arg0).trans (by simp only [ops, TRef.binary, TRef.nullary, TRef.quaternary, TRef.reshape, TRef.ternary, TRef.unary, TRef.toBuf, TRef.ofBuf, cast_eq]; after_results_simp <;> (try dsimp only [Matrix.cons_val]) <;> (try after_results_simp) <;> rfl),
      (h c main_arg1).trans (by simp only [ops, TRef.binary, TRef.nullary, TRef.quaternary, TRef.reshape, TRef.ternary, TRef.unary, TRef.toBuf, TRef.ofBuf, cast_eq]; after_results_simp <;> (try dsimp only [Matrix.cons_val]) <;> (try after_results_simp) <;> rfl),
      (h c main_arg2).trans (by simp only [ops, TRef.binary, TRef.nullary, TRef.quaternary, TRef.reshape, TRef.ternary, TRef.unary, TRef.toBuf, TRef.ofBuf, cast_eq]; after_results_simp <;> (try dsimp only [Matrix.cons_val]) <;> (try after_results_simp) <;> rfl),
      (h c main_arg3).trans (by simp only [ops, TRef.binary, TRef.nullary, TRef.quaternary, TRef.reshape, TRef.ternary, TRef.unary, TRef.toBuf, TRef.ofBuf, cast_eq]; after_results_simp <;> (try dsimp only [Matrix.cons_val]) <;> (try after_results_simp) <;> rfl),
      (h c main_arg4).trans (by simp only [ops, TRef.binary, TRef.nullary, TRef.quaternary, TRef.reshape, TRef.ternary, TRef.unary, TRef.toBuf, TRef.ofBuf, cast_eq]; after_results_simp <;> (try dsimp only [Matrix.cons_val]) <;> (try after_results_simp) <;> rfl),
      (h c main_arg5).trans (by simp only [ops, TRef.binary, TRef.nullary, TRef.quaternary, TRef.reshape, TRef.ternary, TRef.unary, TRef.toBuf, TRef.ofBuf, cast_eq]; after_results_simp <;> (try dsimp only [Matrix.cons_val]) <;> (try after_results_simp) <;> rfl)⟩)
    (run_seq scopedRefs_eq scopedSems_eq defs main (fun _ => ops) main_eq (fun _ => ops_sub) m ρ)

end Cert.LossReferenceIdeal.Value

end
-- ==== Proof.FirstMin.lean ====
/- The position of the FIRST least value among finitely many, and the two ways in which it is computed here:
   a reduction of (value, index) pairs, and a minimum of the indices at which the minimum is met,
   taken block by block with a running minimum. Nothing here speaks of a program. -/
module

public import Idealize.ShloMosaic.Lib.Pointwise
public import Idealize.ShloMosaic.PureOps.Ideal.Laws
public import Idealize.ShloMosaic.Lib.SortNet.Extract

@[expose] public section

noncomputable section

namespace Cert.FirstMin

open Idealize.ShloMosaic

/-- `k` is the first position below `N` at which `g` takes its least value there. -/
def At (g : ℕ → EReal) (N k : ℕ) : Prop := k < N ∧ (∀ j, j < N → g k ≤ g j) ∧ ∀ j, j < k → g k < g j

theorem At.unique {g : ℕ → EReal} {N k l : ℕ} (hk : At g N k) (hl : At g N l) : k = l := by
  rcases lt_trichotomy k l with h | h | h
  · exact absurd (hl.2.2 k h) (not_lt.mpr (hk.2.1 l hl.1))
  · exact h
  · exact absurd (hk.2.2 l h) (not_lt.mpr (hl.2.1 k hk.1))

theorem At.exists (g : ℕ → EReal) (N : ℕ) (hN : 0 < N) : ∃ k, At g N k := by
  classical
  have hex : ∃ k, k < N ∧ ∀ j, j < N → g k ≤ g j := by
    obtain ⟨k, hk, hm⟩ := Finset.exists_min_image (Finset.range N) g ⟨0, Finset.mem_range.mpr hN⟩
    exact ⟨k, Finset.mem_range.mp hk, fun j hj => hm j (Finset.mem_range.mpr hj)⟩
  refine ⟨Nat.find hex, (Nat.find_spec hex).1, (Nat.find_spec hex).2, fun j hj => ?_⟩
  have hn := Nat.find_min hex hj
  have hjN : j < N := hj.trans (Nat.find_spec hex).1
  refine lt_of_not_ge fun hle => hn ⟨hjN, fun i hi => hle.trans ((Nat.find_spec hex).2 i hi)⟩

/-- Only the order of the values matters. -/
theorem At.of_le_iff {g g' : ℕ → EReal} {N k : ℕ} (h : At g N k)
    (hle : ∀ i j, i < N → j < N → (g i ≤ g j ↔ g' i ≤ g' j)) : At g' N k := by
  refine ⟨h.1, fun j hj => (hle k j h.1 hj).mp (h.2.1 j hj), fun j hj => ?_⟩
  have hjN := hj.trans h.1
  exact lt_of_not_ge fun hc => absurd ((hle j k hjN h.1).mpr hc) (not_le.mpr (h.2.2 j hj))

/-- One more block of `B` values after the first `M`: the block's first least value replaces the
    running one only where it is strictly below it. -/
theorem At.merge {g : ℕ → EReal} {M B k l : ℕ} (hk : At g M k) (hl : At (fun j => g (M + j)) B l) :
    At g (M + B) (if g (M + l) < g k then M + l else k) := by
  split
  case isTrue h =>
    refine ⟨by have := hl.1; omega, fun j hj => ?_, fun j hj => ?_⟩
    · rcases lt_or_ge j M with hjM | hjM
      · exact h.le.trans (hk.2.1 j hjM)
      · have := hl.2.1 (j - M) (by omega)
        simpa only [Nat.add_sub_cancel' hjM] using this
    · rcases lt_or_ge j M with hjM | hjM
      · exact h.trans_le (hk.2.1 j hjM)
      · have := hl.2.2 (j - M) (by omega)
        simpa only [Nat.add_sub_cancel' hjM] using this
  case isFalse h =>
    refine ⟨by have := hk.1; omega, fun j hj => ?_, hk.2.2⟩
    rcases lt_or_ge j M with hjM | hjM
    · exact hk.2.1 j hjM
    · have := hl.2.1 (j - M) (by omega)
      simp only [Nat.add_sub_cancel' hjM] at this
      exact (not_lt.mp h).trans this

/-! ## A minimum over a finite set as the value at the first least position -/

theorem fold_min {N : ℕ} (g : ℕ → EReal) (k : ℕ) (hk : At g N k) :
    Finset.univ.fold min (⊤ : EReal) (fun j : Fin N => g j.val) = g k := by
  apply le_antisymm
  · exact (Finset.fold_min_le _).mpr (.inr ⟨⟨k, hk.1⟩, Finset.mem_univ _, le_rfl⟩)
  · exact (Finset.le_fold_min _).mpr ⟨le_top, fun j _ => hk.2.1 j.val j.isLt⟩

theorem toInt_fold_minsi {ι : Type} [DecidableEq ι] (s : Finset ι) (b : BitVec 32) (f : ι → BitVec 32) :
    (s.fold IntOp.minsi b f).toInt = s.fold min b.toInt fun i => (f i).toInt := by
  induction s using Finset.induction_on with
  | empty => simp
  | insert a s ha ih => rw [Finset.fold_insert ha, Finset.fold_insert ha, SortNet.toInt_minsi, ih]

theorem toInt_ofNat {k : ℕ} (h : k < 2 ^ 31) : (BitVec.ofNat 32 k).toInt = k := by
  rw [BitVec.toInt_eq_toNat_of_lt (by rw [BitVec.toNat_ofNat]; omega), BitVec.toNat_ofNat, Nat.mod_eq_of_lt (by omega)]

/-- The least index among those at which the value is met, the others counted as `big`. -/
theorem fold_minsi {N : ℕ} (hN : N ≤ 2 ^ 30) (g : ℕ → EReal) (k : ℕ) (hk : At g N k) (f : Fin N → BitVec 32)
    (hf : ∀ j : Fin N, f j = if g j.val = g k then BitVec.ofNat 32 j.val else 1073741824#32) :
    Finset.univ.fold IntOp.minsi 2147483647#32 f = BitVec.ofNat 32 k := by
  classical
  apply BitVec.eq_of_toInt_eq
  have hkN := hk.1
  rw [toInt_fold_minsi, toInt_ofNat (k := k) (by omega)]
  apply le_antisymm
  · refine (Finset.fold_min_le _).mpr (.inr ⟨⟨k, hk.1⟩, Finset.mem_univ _, ?_⟩)
    rw [hf, if_pos rfl, toInt_ofNat (k := k) (by omega)]
  · refine (Finset.le_fold_min _).mpr ⟨?_, fun j _ => ?_⟩
    · have : (2147483647#32 : BitVec 32).toInt = 2147483647 := by decide
      rw [this]; omega
    · rw [hf]
      split
      case isTrue h =>
        rw [toInt_ofNat (k := j.val) (by have := j.isLt; omega)]
        have : ¬ j.val < k := fun hc => absurd (hk.2.2 j.val hc) (by rw [h]; exact lt_irrefl _)
        omega
      case isFalse h =>
        have : (1073741824#32 : BitVec 32).toInt = 1073741824 := by decide
        rw [this]; omega

/-! ## The reduction of (value, index) pairs -/

/-- `a` before `b`: by value, then by the index read signed. -/
def Before (a b : EReal × BitVec 32) : Prop := a.1 < b.1 ∨ (a.1 = b.1 ∧ a.2.toInt ≤ b.2.toInt)

theorem Before.trans {a b c : EReal × BitVec 32} (h : Before a b) (h' : Before b c) : Before a c := by
  rcases h with h | ⟨h, e⟩ <;> rcases h' with h' | ⟨h', e'⟩
  · exact .inl (h.trans h')
  · exact .inl (h' ▸ h)
  · exact .inl (h ▸ h')
  · exact .inr ⟨h.trans h', e.trans e'⟩

theorem Before.refl (a : EReal × BitVec 32) : Before a a := .inr ⟨rfl, le_rfl⟩

/-- A reduction whose body keeps one of two pairs, the one before the other, ends at a pair of the list or
    at the initial one, before all of them. -/
theorem foldl_before (f : EReal × BitVec 32 → EReal × BitVec 32 → EReal × BitVec 32)
    (hf : ∀ a b, (f a b = a ∨ f a b = b) ∧ Before (f a b) a ∧ Before (f a b) b) (L : List (EReal × BitVec 32))
    (a : EReal × BitVec 32) :
    (L.foldl f a = a ∨ L.foldl f a ∈ L) ∧ Before (L.foldl f a) a ∧ ∀ b ∈ L, Before (L.foldl f a) b := by
  induction L generalizing a with
  | nil => exact ⟨.inl rfl, Before.refl a, by simp⟩
  | cons b L ih =>
    obtain ⟨h1, h2, h3⟩ := ih (f a b)
    obtain ⟨g1, g2, g3⟩ := hf a b
    rw [List.foldl_cons]
    refine ⟨?_, h2.trans g2, fun d hd => ?_⟩
    · rcases h1 with h1 | h1
      · rw [h1]
        rcases g1 with g1 | g1
        · exact .inl g1
        · exact .inr (by rw [g1]; exact List.mem_cons_self)
      · exact .inr (List.mem_cons_of_mem _ h1)
    · rcases List.mem_cons.mp hd with rfl | hd
      · exact h2.trans g3
      · exact h3 d hd

/-- The reduction over pairs `(g k, k)` in any order, started above them all, is at the first least position. -/
theorem foldl_first {N : ℕ} (hN : N ≤ 2 ^ 31) (g : ℕ → EReal) (k : ℕ) (hk : At g N k) (htop : g k < ⊤)
    (f : EReal × BitVec 32 → EReal × BitVec 32 → EReal × BitVec 32)
    (hf : ∀ a b, (f a b = a ∨ f a b = b) ∧ Before (f a b) a ∧ Before (f a b) b) (L : List (EReal × BitVec 32))
    (hL : ∀ p, p ∈ L ↔ ∃ j, j < N ∧ p = (g j, BitVec.ofNat 32 j)) (w : BitVec 32) :
    (L.foldl f (⊤, w)).2 = BitVec.ofNat 32 k := by
  obtain ⟨h1, h2, h3⟩ := foldl_before f hf L (⊤, w)
  have hkm := h3 _ ((hL _).mpr ⟨k, hk.1, rfl⟩)
  have hne : L.foldl f (⊤, w) ∈ L := by
    rcases h1 with h1 | h1
    · rw [h1] at hkm
      rcases hkm with hc | ⟨hc, _⟩
      · exact absurd hc not_top_lt
      · exact absurd hc htop.ne'
    · exact h1
  obtain ⟨j, hj, he⟩ := (hL _).mp hne
  rw [he] at hkm ⊢
  have hk' := hk.1
  have hjk : j = k := by
    rcases hkm with hc | ⟨hc, hi⟩
    · exact absurd hc (not_lt.mpr (hk.2.1 j hj))
    · dsimp only at hc hi
      rw [toInt_ofNat (k := j) (by omega), toInt_ofNat (k := k) (by omega)] at hi
      rcases lt_or_eq_of_le (Int.ofNat_le.mp hi) with h | h
      · exact absurd (hk.2.2 j h) (by rw [hc]; exact lt_irrefl _)
      · exact h
  rw [hjk]

/-- The body that jax prints for an arg-min, over the extended reals. -/
theorem body_before (a b : EReal × BitVec 32) (f : EReal × BitVec 32 → EReal × BitVec 32 → EReal × BitVec 32)
    (hf : f a b = (if a.1 < b.1 then a.1 else b.1,
      if a.1 < b.1 ∨ (a.1 = b.1 ∧ a.2.toInt < b.2.toInt) then a.2 else b.2)) :
    (f a b = a ∨ f a b = b) ∧ Before (f a b) a ∧ Before (f a b) b := by
  obtain ⟨a1, a2⟩ := a
  obtain ⟨b1, b2⟩ := b
  rw [hf]
  dsimp only
  by_cases h : a1 < b1
  · simp [h, Before]
  · by_cases e : a1 = b1
    · subst e
      by_cases i : a2.toInt < b2.toInt
      · simp [i, Before, le_of_lt i]
      · simp [i, Before, not_lt.mp i]
    · have hlt : b1 < a1 := lt_of_le_of_ne (not_lt.mp h) (Ne.symm e)
      simp [h, e, Before, hlt]

end Cert.FirstMin

end
-- ==== Proof.ArgMin.lean ====
/- jax's arg-min of a table of extended reals along its last axis: at each row the index of the row's first
   least entry. -/
module

public import proofs.«01_k».proof.Proof.FirstMin

@[expose] public section

noncomputable section

namespace Cert.FirstMin

open Idealize.ShloMosaic

/-- The reduction of (entry, column) pairs along the rows of an `N × N` table, started at `(⊤, w)`. -/
theorem argReduce_first {N : ℕ} (hN : N ≤ 2 ^ 31) {u : Shape} (h : (⟨3, ![1, N, N]⟩ : Shape).ReducesTo [2] ⟨2, ![1, N]⟩)
    (hu : 0 < u.numel) (f : Ideal .f32 × BitVec 32 → Ideal .f32 × BitVec 32 → Ideal .f32 × BitVec 32)
    (hf : ∀ a b, f a b = (if a.1 < b.1 then a.1 else b.1,
      if a.1 < b.1 ∨ (a.1 = b.1 ∧ a.2.toInt < b.2.toInt) then a.2 else b.2))
    (x : FVec Ideal ⟨3, ![1, N, N]⟩ .f32) (ix : FVec Ideal u .f32) (iy : IVec u 32) (hix : ∀ i, ix i = (⊤ : EReal))
    (n : Fin N) (g : ℕ → EReal) (k : ℕ) (hg : ∀ m : Fin N, x (ix3 0 n m) = g m.val) (hk : At g N k) (htop : g k < ⊤) :
    (Host.argReduce f x (iotaInDim ⟨3, ![1, N, N]⟩ 32 2) ix iy h hu (ix2 0 n)).2 = BitVec.ofNat 32 k := by
  rw [Ideal.argReduce_eq_reduce2, Host.reduce2_eq_foldl_fiber, hix]
  refine foldl_first hN g k hk htop f (fun a b => body_before a b f (hf a b)) _ (fun p => ?_) _
  unfold Host.argReduceFiber
  rw [List.mem_map]
  constructor
  · rintro ⟨q, hq, rfl⟩
    have hq' := (List.mem_filter.mp hq).2
    rw [decide_eq_true_eq, Shape.ReducesTo.fiber_r3_a2] at hq'
    obtain ⟨m, hm⟩ := hq'
    refine ⟨m.val, m.isLt, ?_⟩
    rw [← hm]
    exact Prod.ext (hg m) rfl
  · rintro ⟨j, hj, rfl⟩
    refine ⟨(⟨3, ![1, N, N]⟩ : Shape).rowMajor (ix3 0 n ⟨j, hj⟩), List.mem_filter.mpr ⟨List.mem_finRange _, ?_⟩, ?_⟩
    · rw [decide_eq_true_eq, Equiv.symm_apply_apply, Shape.ReducesTo.fiber_r3_a2]
      exact ⟨⟨j, hj⟩, rfl⟩
    · rw [Equiv.symm_apply_apply]
      exact Prod.ext (hg ⟨j, hj⟩) rfl

/-- The second components of that reduction, row by row. -/
def cols {N : ℕ} {u : Shape} (h : (⟨3, ![1, N, N]⟩ : Shape).ReducesTo [2] ⟨2, ![1, N]⟩) (hu : 0 < u.numel)
    (f : Ideal .f32 × BitVec 32 → Ideal .f32 × BitVec 32 → Ideal .f32 × BitVec 32) (x : FVec Ideal ⟨3, ![1, N, N]⟩ .f32)
    (ix : FVec Ideal u .f32) (iy : IVec u 32) : IVec ⟨2, ![1, N]⟩ 32 :=
  fun j => (Host.argReduce f x (iotaInDim ⟨3, ![1, N, N]⟩ 32 2) ix iy h hu j).2

theorem cols_first {N : ℕ} (hN : N ≤ 2 ^ 31) {u : Shape} (h : (⟨3, ![1, N, N]⟩ : Shape).ReducesTo [2] ⟨2, ![1, N]⟩)
    (hu : 0 < u.numel) (f : Ideal .f32 × BitVec 32 → Ideal .f32 × BitVec 32 → Ideal .f32 × BitVec 32)
    (hf : ∀ a b, f a b = (if a.1 < b.1 then a.1 else b.1,
      if a.1 < b.1 ∨ (a.1 = b.1 ∧ a.2.toInt < b.2.toInt) then a.2 else b.2))
    (x : FVec Ideal ⟨3, ![1, N, N]⟩ .f32) (ix : FVec Ideal u .f32) (iy : IVec u 32) (hix : ∀ i, ix i = (⊤ : EReal))
    (n : Fin N) (g : ℕ → EReal) (k : ℕ) (hg : ∀ m : Fin N, x (ix3 0 n m) = g m.val) (hk : At g N k) (htop : g k < ⊤) :
    cols h hu f x ix iy (ix2 0 n) = BitVec.ofNat 32 k :=
  argReduce_first hN h hu f hf x ix iy hix n g k hg hk htop

end Cert.FirstMin

end
-- ==== Proof.LossRef.lean ====
/- The loss's reference as a composition of short definitions: the distance table, the nearest tokens, the
   positions looked up, the two means and their mean. -/
module

public import proofs.«01_k».proof.Proof.LossRefRun
public import proofs.«01_k».proof.Proof.ArgMin
public import Idealize.ShloMosaic.Lib.Pointwise
public import Idealize.ShloMosaic.PureOps.Ideal.Laws

@[expose] public section

set_option maxRecDepth 16384

noncomputable section

namespace Cert.LossRef

open Cert.LossReferenceIdeal Cert.LossReferenceIdeal.Gen Idealize.ShloMosaic Idealize.ShloMosaic.TcCoe Idealize.SL.Sem

/-! ## 4096 tokens, a grid of 16 × 16 × 16 positions -/

/-- The tokens of an array, one row per token. -/
def rows0 (x : FVec Ideal S64x4096 .f32) : FVec Ideal S1x4096x64 .f32 :=
  broadcastInDim S1x4096x64 ![1, 2] bcast_S4096x64_S1x4096x64_1_2 (transpose S4096x64 [1, 0] x transposes_S64x4096_S4096x64_1_0)

/-- The squared lengths of the rows. -/
def sq0 (r : FVec Ideal S1x4096x64 .f32) : FVec Ideal S1x4096 .f32 :=
  Host.reduceAdd (mulf r r) (constant S_ .f32 0x00000000#32) reducesTo_S1x4096x64_S1x4096_d2 h_S_

/-- The distance of each source row to each target row. -/
def dist0 (s t : FVec Ideal S64x4096 .f32) : FVec Ideal S1x4096x4096 .f32 :=
  Host.sqrt (maximumf (subf
    (addf (broadcastInDim S1x4096x4096 ![0, 1, 2] bcast_S1x4096x1_S1x4096x4096_0_1_2 (broadcastInDim S1x4096x1 ![0, 1] bcast_S1x4096_S1x4096x1_0_1 (sq0 (rows0 s))))
      (broadcastInDim S1x4096x4096 ![0, 1, 2] bcast_S1x1x4096_S1x4096x4096_0_1_2 (broadcastInDim S1x1x4096 ![0, 2] bcast_S1x4096_S1x1x4096_0_2 (sq0 (rows0 t)))))
    (mulf (broadcastInDim S1x4096x4096 ![] bcast_S_S1x4096x4096 (constant S_ .f32 0x40000000#32))
      (Host.dotGeneral dot_S1x4096x64_S1x4096x64_S1x4096x4096_2_2_1_1_0_0 none (rows0 s) (rows0 t))))
    (broadcastInDim S1x4096x4096 ![] bcast_S_S1x4096x4096 (constant S_ .f32 0x00000000#32)))

/-- The index of each source row's nearest target row. -/
def near0 (s t : FVec Ideal S64x4096 .f32) : IVec S1x4096 32 :=
  FirstMin.cols (N := 4096) reducesTo_S1x4096x4096_S1x4096_d2 h_S_ reducer_argmin_f32_i32 (dist0 s t) (constant S_ .f32 0x7F800000#32) (constantI S_ 32 0#32)

/-- The grid's positions, one row per token. -/
def grid0 : FVec Ideal S1x4096x3 .f32 :=
  transpose S1x4096x3 [0, 2, 1] (shapeCast S1x3x4096 (concatenate S3x16x16x16 0
    [⟨S1x16x16x16, broadcastInDim S1x16x16x16 ![1, 2, 3] bcast_S16x16x16_S1x16x16x16_1_2_3 (broadcastInDim S16x16x16 ![0] bcast_S16_S16x16x16_0 (sitofp .f32 (iotaInDim S16 32 0)))⟩,
     ⟨S1x16x16x16, broadcastInDim S1x16x16x16 ![1, 2, 3] bcast_S16x16x16_S1x16x16x16_1_2_3 (broadcastInDim S16x16x16 ![1] bcast_S16_S16x16x16_1 (sitofp .f32 (iotaInDim S16 32 0)))⟩,
     ⟨S1x16x16x16, broadcastInDim S1x16x16x16 ![1, 2, 3] bcast_S16x16x16_S1x16x16x16_1_2_3 (broadcastInDim S16x16x16 ![2] bcast_S16_S16x16x16_2 (sitofp .f32 (iotaInDim S16 32 0)))⟩]
    concatenates_S1x16x16x16_S1x16x16x16_S1x16x16x16_S3x16x16x16_d0) shapeCasts_S3x16x16x16_S1x3x4096) transposes_S1x3x4096_S1x4096x3_0_2_1

/-- The row indices, one per coordinate; negative ones wrapped. -/
def wrap0 (k : IVec S1x4096 32) : IVec S4096x3x1 32 :=
  let b : IVec S1x4096x3 32 := broadcastInDim S1x4096x3 ![0, 1, 2] bcast_S1x4096x1_S1x4096x3_0_1_2 (broadcastInDim S1x4096x1 ![0, 1] bcast_S1x4096_S1x4096x1_0_1 k)
  shapeCast S4096x3x1 (select (cmpi .slt b (broadcastInDim S1x4096x3 ![] bcast_S_S1x4096x3 (constantI S_ 32 0#32)))
    (addi b (broadcastInDim S1x4096x3 ![] bcast_S_S1x4096x3 (constantI S_ 32 4096#32))) b) shapeCasts_S1x4096x3_S4096x3x1

/-- Which of those indices are in range. -/
def inRange0 (k : IVec S4096x3x1 32) : IVec S4096x3 1 :=
  Host.reduce IntOp.andi (andi (cmpi .sge k (broadcastInDim S4096x3x1 ![] bcast_S_S4096x3x1 (constantI S_ 32 0#32)))
    (cmpi .sle k (broadcastInDim S4096x3x1 ![0, 1, 2] bcast_S1x1x1_S4096x3x1_0_1_2 (broadcastInDim S1x1x1 ![2] bcast_S1_S1x1x1_2 (constantI S1 32 4095#32)))))
    (constantI S_ 1 1#1) reducesTo_S4096x3x1_S4096x3_d2 h_S_

/-- The positions at those rows. -/
def found0 (k : IVec S1x4096 32) : FVec Ideal S1x4096x3 .f32 :=
  select (broadcastInDim S1x4096x3 ![1, 2] bcast_S4096x3_S1x4096x3_1_2 (inRange0 (wrap0 k)))
    (Host.gather gather_S1x4096x3_S4096x3x1_S1x4096x3_0_1_2_1_1_2_111 grid0 (wrap0 k))
    (broadcastInDim S1x4096x3 ![] bcast_S_S1x4096x3 (constant S_ .f32 0x7FC00000#32))

/-- The mean distance of the expected positions to those of the nearest tokens. -/
def loss0 (s t : FVec Ideal S64x4096 .f32) (e : FVec Ideal S4096x3 .f32) : FVec Ideal S_ .f32 :=
  Host.divf (Host.reduceAdd (Host.absf (subf (broadcastInDim S1x4096x3 ![1, 2] bcast_S4096x3_S1x4096x3_1_2 e) (found0 (near0 s t))))
    (constant S_ .f32 0x00000000#32) reducesTo_S1x4096x3_S_d0_1_2 h_S_) (constant S_ .f32 0x46400000#32)

/-! ## 512 tokens, a grid of 8 × 8 × 8 positions -/

/-- The tokens of an array, one row per token. -/
def rows1 (x : FVec Ideal S64x512 .f32) : FVec Ideal S1x512x64 .f32 :=
  broadcastInDim S1x512x64 ![1, 2] bcast_S512x64_S1x512x64_1_2 (transpose S512x64 [1, 0] x transposes_S64x512_S512x64_1_0)

/-- The squared lengths of the rows. -/
def sq1 (r : FVec Ideal S1x512x64 .f32) : FVec Ideal S1x512 .f32 :=
  Host.reduceAdd (mulf r r) (constant S_ .f32 0x00000000#32) reducesTo_S1x512x64_S1x512_d2 h_S_

/-- The distance of each source row to each target row. -/
def dist1 (s t : FVec Ideal S64x512 .f32) : FVec Ideal S1x512x512 .f32 :=
  Host.sqrt (maximumf (subf
    (addf (broadcastInDim S1x512x512 ![0, 1, 2] bcast_S1x512x1_S1x512x512_0_1_2 (broadcastInDim S1x512x1 ![0, 1] bcast_S1x512_S1x512x1_0_1 (sq1 (rows1 s))))
      (broadcastInDim S1x512x512 ![0, 1, 2] bcast_S1x1x512_S1x512x512_0_1_2 (broadcastInDim S1x1x512 ![0, 2] bcast_S1x512_S1x1x512_0_2 (sq1 (rows1 t)))))
    (mulf (broadcastInDim S1x512x512 ![] bcast_S_S1x512x512 (constant S_ .f32 0x40000000#32))
      (Host.dotGeneral dot_S1x512x64_S1x512x64_S1x512x512_2_2_1_1_0_0 none (rows1 s) (rows1 t))))
    (broadcastInDim S1x512x512 ![] bcast_S_S1x512x512 (constant S_ .f32 0x00000000#32)))

/-- The index of each source row's nearest target row. -/
def near1 (s t : FVec Ideal S64x512 .f32) : IVec S1x512 32 :=
  FirstMin.cols (N := 512) reducesTo_S1x512x512_S1x512_d2 h_S_ reducer_argmin_f32_i32 (dist1 s t) (constant S_ .f32 0x7F800000#32) (constantI S_ 32 0#32)

/-- The grid's positions, one row per token. -/
def grid1 : FVec Ideal S1x512x3 .f32 :=
  transpose S1x512x3 [0, 2, 1] (shapeCast S1x3x512 (concatenate S3x8x8x8 0
    [⟨S1x8x8x8, broadcastInDim S1x8x8x8 ![1, 2, 3] bcast_S8x8x8_S1x8x8x8_1_2_3 (broadcastInDim S8x8x8 ![0] bcast_S8_S8x8x8_0 (sitofp .f32 (iotaInDim S8 32 0)))⟩,
     ⟨S1x8x8x8, broadcastInDim S1x8x8x8 ![1, 2, 3] bcast_S8x8x8_S1x8x8x8_1_2_3 (broadcastInDim S8x8x8 ![1] bcast_S8_S8x8x8_1 (sitofp .f32 (iotaInDim S8 32 0)))⟩,
     ⟨S1x8x8x8, broadcastInDim S1x8x8x8 ![1, 2, 3] bcast_S8x8x8_S1x8x8x8_1_2_3 (broadcastInDim S8x8x8 ![2] bcast_S8_S8x8x8_2 (sitofp .f32 (iotaInDim S8 32 0)))⟩]
    concatenates_S1x8x8x8_S1x8x8x8_S1x8x8x8_S3x8x8x8_d0) shapeCasts_S3x8x8x8_S1x3x512) transposes_S1x3x512_S1x512x3_0_2_1

/-- The row indices, one per coordinate; negative ones wrapped. -/
def wrap1 (k : IVec S1x512 32) : IVec S512x3x1 32 :=
  let b : IVec S1x512x3 32 := broadcastInDim S1x512x3 ![0, 1, 2] bcast_S1x512x1_S1x512x3_0_1_2 (broadcastInDim S1x512x1 ![0, 1] bcast_S1x512_S1x512x1_0_1 k)
  shapeCast S512x3x1 (select (cmpi .slt b (broadcastInDim S1x512x3 ![] bcast_S_S1x512x3 (constantI S_ 32 0#32)))
    (addi b (broadcastInDim S1x512x3 ![] bcast_S_S1x512x3 (constantI S_ 32 512#32))) b) shapeCasts_S1x512x3_S512x3x1

/-- Which of those indices are in range. -/
def inRange1 (k : IVec S512x3x1 32) : IVec S512x3 1 :=
  Host.reduce IntOp.andi (andi (cmpi .sge k (broadcastInDim S512x3x1 ![] bcast_S_S512x3x1 (constantI S_ 32 0#32)))
    (cmpi .sle k (broadcastInDim S512x3x1 ![0, 1, 2] bcast_S1x1x1_S512x3x1_0_1_2 (broadcastInDim S1x1x1 ![2] bcast_S1_S1x1x1_2 (constantI S1 32 511#32)))))
    (constantI S_ 1 1#1) reducesTo_S512x3x1_S512x3_d2 h_S_

/-- The positions at those rows. -/
def found1 (k : IVec S1x512 32) : FVec Ideal S1x512x3 .f32 :=
  select (broadcastInDim S1x512x3 ![1, 2] bcast_S512x3_S1x512x3_1_2 (inRange1 (wrap1 k)))
    (Host.gather gather_S1x512x3_S512x3x1_S1x512x3_0_1_2_1_1_2_111 grid1 (wrap1 k))
    (broadcastInDim S1x512x3 ![] bcast_S_S1x512x3 (constant S_ .f32 0x7FC00000#32))

/-- The mean distance of the expected positions to those of the nearest tokens. -/
def loss1 (s t : FVec Ideal S64x512 .f32) (e : FVec Ideal S512x3 .f32) : FVec Ideal S_ .f32 :=
  Host.divf (Host.reduceAdd (Host.absf (subf (broadcastInDim S1x512x3 ![1, 2] bcast_S512x3_S1x512x3_1_2 e) (found1 (near1 s t))))
    (constant S_ .f32 0x00000000#32) reducesTo_S1x512x3_S_d0_1_2 h_S_) (constant S_ .f32 0x44C00000#32)

/-- The mean of the two stages' losses, as a one-element array. -/
def total (l0 l1 : FVec Ideal S_ .f32) : FVec Ideal S1x1 .f32 :=
  shapeCast S1x1 (Host.divf (Host.reduceAdd (concatenate S2 0 [⟨S1, broadcastInDim S1 ![] bcast_S_S1 l0⟩, ⟨S1, broadcastInDim S1 ![] bcast_S_S1 l1⟩]
    concatenates_S1_S1_S2_d0) (constant S_ .f32 0x00000000#32) reducesTo_S2_S_d0 h_S_) (constant S_ .f32 0x40000000#32)) shapeCasts_S_S1x1

/-- The reference's result is that composition. -/
theorem result_eq (m : (ℓ : Loc nD τ sig) → Buf (Elt Ideal) ℓ) (c : Dev nD) :
    Value.res_out0 (F := Ideal) m c
      = total (loss0 (m ((c.tc : Thread nD τ).loc main_arg0)) (m ((c.tc : Thread nD τ).loc main_arg1)) (m ((c.tc : Thread nD τ).loc main_arg2)))
          (loss1 (m ((c.tc : Thread nD τ).loc main_arg3)) (m ((c.tc : Thread nD τ).loc main_arg4)) (m ((c.tc : Thread nD τ).loc main_arg5))) := rfl

end Cert.LossRef

end
-- ==== Proof.LossSpec.lean ====
/- The mathematics of the loss, no program in it: the score by which the kernel ranks the target tokens, the
   distance by which the reference ranks them, and that on finite tokens both rank them alike. -/
module

public import proofs.«01_k».proof.Proof.FirstMin

@[expose] public section

noncomputable section

namespace Cert.LossSpec

open Idealize.ShloMosaic

variable {N : ℕ}

/-- An array of 64-entry tokens, one per column. -/
abbrev Toks (N : ℕ) := (⟨2, ![64, N]⟩ : Shape).Idx → EReal

/-- Every entry is a real. -/
def Fin' (x : Toks N) : Prop := ∀ i, ∃ r : ℝ, x i = r

/-- The kernel's score of target `m` for source `n`: `‖t‖² − 2 t·s`. -/
def score (s t : Toks N) (n : Fin N) (m : ℕ) : EReal :=
  if h : m < N then ∑ c : Fin 64, t (ix2 c ⟨m, h⟩) * t (ix2 c ⟨m, h⟩) - 2 * ∑ c : Fin 64, t (ix2 c ⟨m, h⟩) * s (ix2 c n) else 0

/-- The reference's distance of source `n` to target `m`: `√max(‖s‖² + ‖t‖² − 2 s·t, 0)`. -/
def dist (s t : Toks N) (n : Fin N) (m : ℕ) : EReal :=
  if h : m < N then Ideal.sqrt (max (∑ c : Fin 64, s (ix2 c n) * s (ix2 c n) + ∑ c : Fin 64, t (ix2 c ⟨m, h⟩) * t (ix2 c ⟨m, h⟩)
    - 2 * ∑ c : Fin 64, s (ix2 c n) * t (ix2 c ⟨m, h⟩)) 0) else 0

theorem coe_sum {ι : Type} (S : Finset ι) (f : ι → ℝ) : ∑ i ∈ S, (f i : EReal) = ((∑ i ∈ S, f i : ℝ) : EReal) := by
  classical
  induction S using Finset.induction_on with
  | empty => simp
  | insert a S ha ih => rw [Finset.sum_insert ha, Finset.sum_insert ha, ih, EReal.coe_add]

theorem score_real (s t : Toks N) (S T : (⟨2, ![64, N]⟩ : Shape).Idx → ℝ) (hs : ∀ i, s i = S i) (ht : ∀ i, t i = T i)
    (n : Fin N) (m : ℕ) (h : m < N) :
    score s t n m = ((∑ c : Fin 64, (T (ix2 c ⟨m, h⟩) - S (ix2 c n)) ^ 2 - ∑ c : Fin 64, S (ix2 c n) ^ 2 : ℝ) : EReal) := by
  unfold score
  rw [dif_pos h]
  simp only [hs, ht, ← EReal.coe_mul, coe_sum]
  rw [show (2 : EReal) = ((2 : ℝ) : EReal) from rfl, ← EReal.coe_mul, ← EReal.coe_sub, EReal.coe_eq_coe_iff, Finset.mul_sum,
    ← Finset.sum_sub_distrib, ← Finset.sum_sub_distrib]
  exact Finset.sum_congr rfl fun c _ => by ring

theorem dist_real (s t : Toks N) (S T : (⟨2, ![64, N]⟩ : Shape).Idx → ℝ) (hs : ∀ i, s i = S i) (ht : ∀ i, t i = T i)
    (n : Fin N) (m : ℕ) (h : m < N) :
    dist s t n m = (Real.sqrt (∑ c : Fin 64, (T (ix2 c ⟨m, h⟩) - S (ix2 c n)) ^ 2) : EReal) := by
  unfold dist
  rw [dif_pos h]
  simp only [hs, ht, ← EReal.coe_mul, coe_sum]
  rw [show (2 : EReal) = ((2 : ℝ) : EReal) from rfl, ← EReal.coe_mul, ← EReal.coe_add, ← EReal.coe_sub, Finset.mul_sum,
    ← Finset.sum_add_distrib, ← Finset.sum_sub_distrib,
    Finset.sum_congr rfl (g := fun c => (T (ix2 c ⟨m, h⟩) - S (ix2 c n)) ^ 2) fun c _ => by ring]
  have h0 : (0 : ℝ) ≤ ∑ c : Fin 64, (T (ix2 c ⟨m, h⟩) - S (ix2 c n)) ^ 2 := Finset.sum_nonneg fun c _ => sq_nonneg _
  rw [max_eq_left (by rw [← EReal.coe_zero, EReal.coe_le_coe_iff]; exact h0), Ideal.sqrt_coe, if_neg (not_lt.mpr h0)]

/-- The first least score is at the first least distance. -/
theorem first_dist (s t : Toks N) (hs : Fin' s) (ht : Fin' t) (n : Fin N) (k : ℕ) (hk : FirstMin.At (score s t n) N k) :
    FirstMin.At (dist s t n) N k := by
  choose S hS using hs
  choose T hT using ht
  refine hk.of_le_iff fun i j hi hj => ?_
  rw [score_real s t S T hS hT n i hi, score_real s t S T hS hT n j hj, dist_real s t S T hS hT n i hi,
    dist_real s t S T hS hT n j hj, EReal.coe_le_coe_iff, EReal.coe_le_coe_iff,
    Real.sqrt_le_sqrt_iff (Finset.sum_nonneg fun c _ => sq_nonneg _), sub_le_sub_iff_right]

theorem dist_lt_top (s t : Toks N) (hs : Fin' s) (ht : Fin' t) (n : Fin N) (m : ℕ) (h : m < N) : dist s t n m < ⊤ := by
  choose S hS using hs
  choose T hT using ht
  rw [dist_real s t S T hS hT n m h]
  exact EReal.coe_lt_top _

/-- The real number `a` as an extended real. -/
def nat (a : ℕ) : EReal := ((a : ℝ) : EReal)

theorem sitofp_ofNat {a : ℕ} (h : a < 2 ^ 31) : FloatOps.sitofp (F := Ideal) .f32 (BitVec.ofNat 32 a) = nat a := by
  show (((BitVec.ofNat 32 a).toInt : ℝ) : EReal) = _
  rw [FirstMin.toInt_ofNat h]
  rfl

/-- Coordinate `j` of the position of token `k` on a grid of side `D`. -/
def pos (D k : ℕ) (j : Fin 3) : EReal :=
  if j.val = 0 then nat (k / (D * D)) else if j.val = 1 then nat (k / D % D) else nat (k % D)

/-- The sum of the distances, coordinate by coordinate, of the expected positions to those of the tokens `k n`. -/
def sumAbs (D : ℕ) (e : (⟨2, ![N, 3]⟩ : Shape).Idx → EReal) (k : Fin N → ℕ) : EReal :=
  ∑ n : Fin N, ∑ j : Fin 3, max (e (ix2 n j) - pos D (k n) j) (-(e (ix2 n j) - pos D (k n) j))

/-- The first target of least score for source `n`. -/
def nearest (s t : Toks N) (n : Fin N) : ℕ := (FirstMin.At.exists (score s t n) N n.pos).choose

theorem nearest_at (s t : Toks N) (n : Fin N) : FirstMin.At (score s t n) N (nearest s t n) :=
  (FirstMin.At.exists (score s t n) N n.pos).choose_spec

/-- The loss of one stage: that sum at the nearest tokens, divided by the number of coordinates. -/
def loss (D : ℕ) (s t : Toks N) (e : (⟨2, ![N, 3]⟩ : Shape).Idx → EReal) (b : EReal) : EReal := Ideal.div (sumAbs D e (nearest s t)) b

theorem sumAbs_eq (D : ℕ) (e : (⟨2, ![N, 3]⟩ : Shape).Idx → EReal) (k : Fin N → ℕ) : sumAbs D e k =
    ∑ _x : Fin 1, ∑ n : Fin N, max (e (ix2 n 0) - nat (k n / (D * D))) (-(e (ix2 n 0) - nat (k n / (D * D)))) +
    ∑ _x : Fin 1, ∑ n : Fin N, max (e (ix2 n 1) - nat (k n / D % D)) (-(e (ix2 n 1) - nat (k n / D % D))) +
    ∑ _x : Fin 1, ∑ n : Fin N, max (e (ix2 n 2) - nat (k n % D)) (-(e (ix2 n 2) - nat (k n % D))) := by
  unfold sumAbs
  rw [Finset.sum_comm, Fin.sum_univ_three, Fin.sum_univ_one, Fin.sum_univ_one, Fin.sum_univ_one]
  rfl

theorem half_mul (x : EReal) : ((1 / 2 : ℝ) : EReal) * x = Ideal.div x 2 := by
  have h : (2 : EReal) = ((2 : ℝ) : EReal) := rfl
  unfold Ideal.div
  rw [h, if_neg (by norm_num), ← EReal.coe_inv, mul_comm, one_div]

/-! ## The bits of a small natural number -/

theorem shift_ofNat {k : ℕ} (h : k < 2 ^ 31) (a : ℕ) (ha : a < 32) :
    IntOp.shrsi .vector (BitVec.ofNat 32 k) (BitVec.ofNat 32 a) = BitVec.ofNat 32 (k / 2 ^ a) := by
  have hm : (BitVec.ofNat 32 k).msb = false := by
    rw [BitVec.msb_eq_decide]
    simp
    omega
  have e : (BitVec.ofNat 32 k).sshiftRight a = BitVec.ofNat 32 (k / 2 ^ a) := by
    rw [BitVec.sshiftRight_eq_of_msb_false hm]
    refine BitVec.eq_of_toNat_eq ?_
    rw [BitVec.toNat_ushiftRight, BitVec.toNat_ofNat, BitVec.toNat_ofNat, Nat.shiftRight_eq_div_pow, Nat.mod_eq_of_lt (by omega)]
    have := Nat.div_le_self k (2 ^ a)
    rw [Nat.mod_eq_of_lt (by omega)]
  rw [← e]
  unfold IntOp.shrsi
  simp [BitVec.toNat_ofNat, Nat.mod_eq_of_lt (show a < 4294967296 by omega), ha]

theorem mask_ofNat (k a c : ℕ) (ha : a ≤ 32) (hc : c = 2 ^ a - 1) :
    IntOp.andi (BitVec.ofNat 32 k) (BitVec.ofNat 32 c) = BitVec.ofNat 32 (k % 2 ^ a) := by
  subst hc
  unfold IntOp.andi
  refine BitVec.eq_of_toNat_eq ?_
  have h1 : 2 ^ a ≤ 2 ^ 32 := Nat.pow_le_pow_right (by norm_num) ha
  have h2 : 0 < 2 ^ a := by positivity
  rw [BitVec.toNat_and, BitVec.toNat_ofNat, BitVec.toNat_ofNat, BitVec.toNat_ofNat, Nat.mod_eq_of_lt (show 2 ^ a - 1 < 2 ^ 32 by omega),
    Nat.and_two_pow_sub_one_eq_mod, Nat.mod_mod_of_dvd _ (pow_dvd_pow 2 ha),
    Nat.mod_eq_of_lt (lt_of_lt_of_le (Nat.mod_lt k h2) h1)]

end Cert.LossSpec

end
-- ==== Proof.Look.lean ====
/- Looking positions up by token: a gather along the rows of a table, batched over its columns. -/
module

public import Idealize.ShloMosaic.Lib.ValueIdx
public import Idealize.ShloMosaic.Lib.Pointwise

@[expose] public section

noncomputable section

namespace Cert.Look

open Idealize.ShloMosaic

/-- Dimension numbers of a gather that reads, in each column of a `1 × N × C` table, the rows asked for. -/
abbrev dims (N C B : ℕ) (wf : GatherDims.WF ⟨3, ![1, N, C]⟩ ⟨3, ![B, C, 1]⟩ ⟨3, ![1, B, C]⟩ [0] [1] [2] [1] [1] 2 ![1, 1, 1]) :
    GatherDims ⟨3, ![1, N, C]⟩ ⟨3, ![B, C, 1]⟩ ⟨3, ![1, B, C]⟩ where
  offsetDims := [0]
  collapsedSliceDims := [1]
  operandBatchingDims := [2]
  startIndicesBatchingDims := [1]
  startIndexMap := [1]
  indexVectorDim := 2
  sliceSizes := ![1, 1, 1]
  wf := wf

/-- What it reads at row `b` of column `c`. -/
theorem gather_apply {α : Type} {N C B w : ℕ} (hN : 0 < N)
    (wf : GatherDims.WF ⟨3, ![1, N, C]⟩ ⟨3, ![B, C, 1]⟩ ⟨3, ![1, B, C]⟩ [0] [1] [2] [1] [1] 2 ![1, 1, 1])
    (x : (⟨3, ![1, N, C]⟩ : Shape).Idx → α) (idx : IVec ⟨3, ![B, C, 1]⟩ w) (b : Fin B) (c : Fin C) (k : Fin N)
    (hk : (idx (ix3 b c 0)).toInt = k.val) : Host.gather (dims N C B wf) x idx (ix3 0 b c) = x (ix3 0 k c) := by
  unfold Host.gather
  congr 1
  funext a
  match a with
  | ⟨0, _⟩ => exact Subsingleton.elim (α := Fin 1) _ _
  | ⟨1, h⟩ =>
    refine Fin.ext ?_
    show (dims N C B wf).start _ idx 1 + (dims N C B wf).batchCoord _ 1 + (dims N C B wf).offCoord _ 1 = k.val
    rw [GatherDims.batchCoord_eq_zero _ _ _ (fun h => by simp at h),
      GatherDims.offCoord_eq_zero _ _ _ (fun h => ((GatherDims.mem_sKept _ _).mp h).1 (List.mem_singleton.mpr rfl)),
      Nat.add_zero]
    unfold GatherDims.start
    rw [dif_pos (show (1 : Fin 3) ∈ (dims N C B wf).startIndexMap from List.mem_singleton.mpr rfl),
      show (dims N C B wf).siIdx (ix3 0 b c) ⟨List.idxOf (1 : Fin 3) (dims N C B wf).startIndexMap,
        List.idxOf_lt_length_iff.2 (List.mem_singleton.mpr rfl)⟩ = ix3 b c 0 from ?_, hk]
    · show min (Int.toNat (k.val : ℤ)) (N - 1) = k.val
      rw [Int.toNat_natCast]
      exact min_eq_left (by omega)
    · funext e
      refine Fin.ext ?_
      match e with
      | ⟨0, _⟩ => rfl
      | ⟨1, _⟩ => rfl
      | ⟨2, _⟩ => rfl
  | ⟨2, h⟩ =>
    refine Fin.ext ?_
    show (dims N C B wf).start _ idx 2 + (dims N C B wf).batchCoord _ 2 + (dims N C B wf).offCoord _ 2 = c.val
    rw [GatherDims.start_batching _ _ _ _ (List.mem_singleton.mpr rfl),
      GatherDims.offCoord_eq_zero _ _ _ (fun h => ((GatherDims.mem_sKept _ _).mp h).2 (List.mem_singleton.mpr rfl)),
      Nat.zero_add, Nat.add_zero]
    unfold GatherDims.batchCoord
    rw [dif_pos (List.mem_singleton.mpr rfl)]
    rfl

end Cert.Look

end
-- ==== Proof.LossRefVal.lean ====
/- What the loss's reference computes, in terms of the first least score of each source token. -/
module

public import proofs.«01_k».proof.Proof.LossRef
public import proofs.«01_k».proof.Proof.LossSpec
public import proofs.«01_k».proof.Proof.ArgMin
public import proofs.«01_k».proof.Proof.Look

@[expose] public section

set_option maxRecDepth 16384

noncomputable section

namespace Cert.LossRef

open Cert.LossReferenceIdeal Cert.LossReferenceIdeal.Gen Idealize.ShloMosaic Idealize.ShloMosaic.TcCoe Idealize.SL.Sem
open Cert.LossSpec Cert.FirstMin

theorem two_eq : Ideal.ofBits .f32 1073741824#32 = 2 := by
  simp [Ideal.ofBits, Ideal.ieee]
  norm_num [← EReal.coe_mul]
  rfl

theorem top_eq : Ideal.ofBits .f32 2139095040#32 = ⊤ := by
  simp [Ideal.ofBits, Ideal.ieee]

theorem argmin_eq (a b : Ideal .f32 × BitVec 32) : reducer_argmin_f32_i32 (F := Ideal) a b =
    (if a.1 < b.1 then a.1 else b.1, if a.1 < b.1 ∨ (a.1 = b.1 ∧ a.2.toInt < b.2.toInt) then a.2 else b.2) := by
  have h1 : FloatOps.cmpf .olt a.1 b.1 = BitVec.ofBool (decide (a.1 < b.1)) := rfl
  have h2 : FloatOps.cmpf .une a.1 a.1 = 0#1 := by
    show BitVec.ofBool (decide (a.1 ≠ a.1)) = 0#1
    simp
  have h3 : FloatOps.cmpf .oeq a.1 b.1 = BitVec.ofBool (decide (a.1 = b.1)) := rfl
  have h4 : IntOp.cmpi .slt a.2 b.2 = BitVec.ofBool (decide (a.2.toInt < b.2.toInt)) := rfl
  unfold reducer_argmin_f32_i32
  simp only [h1, h2, h3, h4]
  by_cases p : a.1 < b.1 <;> by_cases q : a.1 = b.1 <;> by_cases r : a.2.toInt < b.2.toInt <;>
    simp [p, q, r, IntOp.ori, IntOp.andi, Scalar.select]

/-! ## 4096 tokens -/

theorem dist0_eq (s t : FVec Ideal S64x4096 .f32) (n m : Fin 4096) : dist0 s t (ix3 0 n m) = LossSpec.dist s t n m.val := by
  unfold dist0 sq0 rows0 LossSpec.dist
  rw [dif_pos m.isLt]
  pointwise
  rw [two_eq]

/-- The nearest target of source `n` is the first target of least score. -/
theorem near0_eq (s t : FVec Ideal S64x4096 .f32) (hs : Fin' s) (ht : Fin' t) (n : Fin 4096) (k : ℕ) (hk : At (score s t n) 4096 k) :
    near0 s t (ix2 0 n) = BitVec.ofNat 32 k := by
  have hg := dist0_eq s t n
  have h0 (i) : (constant S_ .f32 0x7F800000#32 : FVec Ideal S_ .f32) i = (⊤ : EReal) := top_eq
  have hN : 4096 ≤ 2 ^ 31 := by norm_num
  unfold near0
  exact cols_first hN _ _ _ argmin_eq _ _ _ h0 n _ k hg (first_dist s t hs ht n k hk) (dist_lt_top s t hs ht n k hk.1)

theorem grid0_eq (k : Fin 4096) (j : Fin 3) : grid0 (ix3 0 k j) = pos 16 k.val j := by
  unfold grid0
  pointwise
  have := k.isLt
  rw [sitofp_ofNat (by omega), sitofp_ofNat (by omega), sitofp_ofNat (by omega)]
  match j with
  | 0 => rfl
  | 1 => rfl
  | 2 => rfl

theorem wrap0_eq (i : IVec S1x4096 32) (n : Fin 4096) (j : Fin 3) (k : ℕ) (hk : k < 4096) (hi : i (ix2 0 n) = BitVec.ofNat 32 k) :
    wrap0 i (ix3 n j 0) = BitVec.ofNat 32 k := by
  unfold wrap0
  pointwise
  rw [hi]
  have h : (BitVec.ofNat 32 k).toInt = k := toInt_ofNat (by omega)
  have h' : ¬(k : ℤ) < 0 := by omega
  simp [Scalar.select, IntOp.cmpi, BitVec.slt, h, h']

theorem inRange0_eq (i : IVec S4096x3x1 32) (n : Fin 4096) (j : Fin 3) (k : ℕ) (hk : k < 4096) (hi : i (ix3 n j 0) = BitVec.ofNat 32 k) :
    inRange0 i (ix2 n j) = 1#1 := by
  unfold inRange0
  pointwise
  have h : (BitVec.ofNat 32 k).toInt = k := toInt_ofNat (by omega)
  have h' : (k : ℤ) ≤ 4095 := by omega
  simp [hi, IntOp.cmpi, IntOp.andi, BitVec.sle, h, h']

theorem found0_eq (i : IVec S1x4096 32) (n : Fin 4096) (j : Fin 3) (k : ℕ) (hk : k < 4096) (hi : i (ix2 0 n) = BitVec.ofNat 32 k) :
    found0 i (ix3 0 n j) = pos 16 k j := by
  have h1 := wrap0_eq i n j k hk hi
  have h2 := inRange0_eq (wrap0 i) n j k hk h1
  have h3 : Host.gather gather_S1x4096x3_S4096x3x1_S1x4096x3_0_1_2_1_1_2_111 grid0 (wrap0 i) (ix3 0 n j) = grid0 (ix3 0 ⟨k, hk⟩ j) :=
    Look.gather_apply (by norm_num) _ _ _ n j ⟨k, hk⟩ (by rw [h1]; exact toInt_ofNat (by omega))
  rw [grid0_eq] at h3
  rw [← h3]
  unfold found0
  generalize Host.gather gather_S1x4096x3_S4096x3x1_S1x4096x3_0_1_2_1_1_2_111 grid0 (wrap0 i) = g
  generalize inRange0 (wrap0 i) = r at h2 ⊢
  pointwise
  rw [h2]
  rfl

/-- The reference's loss. -/
theorem loss0_eq (s t : FVec Ideal S64x4096 .f32) (e : FVec Ideal S4096x3 .f32) (hs : Fin' s) (ht : Fin' t) (k : Fin 4096 → ℕ)
    (hk : ∀ n, At (score s t n) 4096 (k n)) : loss0 s t e ix0 = Ideal.div (sumAbs 16 e k) (Ideal.ofBits .f32 1178599424#32) := by
  have h (n : Fin 4096) (j : Fin 3) : found0 (near0 s t) (ix3 0 n j) = pos 16 (k n) j :=
    found0_eq _ n j (k n) (hk n).1 (near0_eq s t hs ht n (k n) (hk n))
  unfold loss0
  generalize found0 (near0 s t) = f at h ⊢
  pointwise
  unfold sumAbs
  rw [Fin.sum_univ_one]
  refine congrArg (Ideal.div · _) (Finset.sum_congr rfl fun n _ => Finset.sum_congr rfl fun j _ => ?_)
  exact congrArg (fun v => max (e (ix2 n j) - v) (-(e (ix2 n j) - v))) (h n j)

/-! ## 512 tokens -/

theorem dist1_eq (s t : FVec Ideal S64x512 .f32) (n m : Fin 512) : dist1 s t (ix3 0 n m) = LossSpec.dist s t n m.val := by
  unfold dist1 sq1 rows1 LossSpec.dist
  rw [dif_pos m.isLt]
  pointwise
  rw [two_eq]

/-- The nearest target of source `n` is the first target of least score. -/
theorem near1_eq (s t : FVec Ideal S64x512 .f32) (hs : Fin' s) (ht : Fin' t) (n : Fin 512) (k : ℕ) (hk : At (score s t n) 512 k) :
    near1 s t (ix2 0 n) = BitVec.ofNat 32 k := by
  have hg := dist1_eq s t n
  have h0 (i) : (constant S_ .f32 0x7F800000#32 : FVec Ideal S_ .f32) i = (⊤ : EReal) := top_eq
  have hN : 512 ≤ 2 ^ 31 := by norm_num
  unfold near1
  exact cols_first hN _ _ _ argmin_eq _ _ _ h0 n _ k hg (first_dist s t hs ht n k hk) (dist_lt_top s t hs ht n k hk.1)

theorem grid1_eq (k : Fin 512) (j : Fin 3) : grid1 (ix3 0 k j) = pos 8 k.val j := by
  unfold grid1
  pointwise
  have := k.isLt
  rw [sitofp_ofNat (by omega), sitofp_ofNat (by omega), sitofp_ofNat (by omega)]
  match j with
  | 0 => rfl
  | 1 => rfl
  | 2 => rfl

theorem wrap1_eq (i : IVec S1x512 32) (n : Fin 512) (j : Fin 3) (k : ℕ) (hk : k < 512) (hi : i (ix2 0 n) = BitVec.ofNat 32 k) :
    wrap1 i (ix3 n j 0) = BitVec.ofNat 32 k := by
  unfold wrap1
  pointwise
  rw [hi]
  have h : (BitVec.ofNat 32 k).toInt = k := toInt_ofNat (by omega)
  have h' : ¬(k : ℤ) < 0 := by omega
  simp [Scalar.select, IntOp.cmpi, BitVec.slt, h, h']

theorem inRange1_eq (i : IVec S512x3x1 32) (n : Fin 512) (j : Fin 3) (k : ℕ) (hk : k < 512) (hi : i (ix3 n j 0) = BitVec.ofNat 32 k) :
    inRange1 i (ix2 n j) = 1#1 := by
  unfold inRange1
  pointwise
  have h : (BitVec.ofNat 32 k).toInt = k := toInt_ofNat (by omega)
  have h' : (k : ℤ) ≤ 511 := by omega
  simp [hi, IntOp.cmpi, IntOp.andi, BitVec.sle, h, h']

theorem found1_eq (i : IVec S1x512 32) (n : Fin 512) (j : Fin 3) (k : ℕ) (hk : k < 512) (hi : i (ix2 0 n) = BitVec.ofNat 32 k) :
    found1 i (ix3 0 n j) = pos 8 k j := by
  have h1 := wrap1_eq i n j k hk hi
  have h2 := inRange1_eq (wrap1 i) n j k hk h1
  have h3 : Host.gather gather_S1x512x3_S512x3x1_S1x512x3_0_1_2_1_1_2_111 grid1 (wrap1 i) (ix3 0 n j) = grid1 (ix3 0 ⟨k, hk⟩ j) :=
    Look.gather_apply (by norm_num) _ _ _ n j ⟨k, hk⟩ (by rw [h1]; exact toInt_ofNat (by omega))
  rw [grid1_eq] at h3
  rw [← h3]
  unfold found1
  generalize Host.gather gather_S1x512x3_S512x3x1_S1x512x3_0_1_2_1_1_2_111 grid1 (wrap1 i) = g
  generalize inRange1 (wrap1 i) = r at h2 ⊢
  pointwise
  rw [h2]
  rfl

/-- The reference's loss. -/
theorem loss1_eq (s t : FVec Ideal S64x512 .f32) (e : FVec Ideal S512x3 .f32) (hs : Fin' s) (ht : Fin' t) (k : Fin 512 → ℕ)
    (hk : ∀ n, At (score s t n) 512 (k n)) : loss1 s t e ix0 = Ideal.div (sumAbs 8 e k) (Ideal.ofBits .f32 1153433600#32) := by
  have h (n : Fin 512) (j : Fin 3) : found1 (near1 s t) (ix3 0 n j) = pos 8 (k n) j :=
    found1_eq _ n j (k n) (hk n).1 (near1_eq s t hs ht n (k n) (hk n))
  unfold loss1
  generalize found1 (near1 s t) = f at h ⊢
  pointwise
  unfold sumAbs
  rw [Fin.sum_univ_one]
  refine congrArg (Ideal.div · _) (Finset.sum_congr rfl fun n _ => Finset.sum_congr rfl fun j _ => ?_)
  exact congrArg (fun v => max (e (ix2 n j) - v) (-(e (ix2 n j) - v))) (h n j)

theorem total_eq (a b : FVec Ideal S_ .f32) : total a b (ix2 0 0) = Ideal.div (a ix0 + b ix0) 2 := by
  unfold total
  pointwise
  rw [Fin.sum_univ_one, Fin.sum_univ_one, two_eq]

end Cert.LossRef

end
-- ==== Proof.LossVal.lean ====
/- What each payload of the loss kernel computes. -/
module

public import proofs.«01_k».proof.Proof.Gen.LossIdeal.Skeleton
public import proofs.«01_k».proof.Proof.LossSpec
public import Idealize.ShloMosaic.Lib.Pointwise
public import Idealize.ShloMosaic.Lib.Pipeline.ValueKit
public import Idealize.ShloMosaic.PureOps.Ideal.Laws

@[expose] public section

set_option maxRecDepth 16384

noncomputable section

namespace Cert.LossVal

open Idealize.ShloMosaic Idealize.ShloMosaic.TcCoe Cert.LossIdeal Cert.LossIdeal.Gen Cert.LossSpec Cert.FirstMin

theorem two_eq : Ideal.ofBits .f32 1073741824#32 = 2 := by
  simp [Ideal.ofBits, Ideal.ieee]
  norm_num [← EReal.coe_mul]
  rfl

theorem half_eq : Ideal.ofBits .f32 1056964608#32 = ((1 / 2 : ℝ) : EReal) := by
  simp [Ideal.ofBits, Ideal.ieee]
  norm_num [← EReal.coe_mul]

theorem top_eq : Ideal.ofBits .f32 2139095040#32 = ⊤ := by
  simp [Ideal.ofBits, Ideal.ieee]

/-! ## One block of 512 target tokens against all source tokens -/

/-- The rows of block `i` of the transposed targets. -/
def blockRows (i : grid0.Coords) (X : Vec Ideal S4096x64 .f32) : Vec Ideal S512x64 .f32 :=
  View.ld X (Rect.unit (s := S4096x64) (k0_off1 i) S512x64.size (k0_off1_inb i))

theorem off_eq : ∀ i : grid0.Coords, k0_off1 i 0 = 512 * (i 0).val ∧ k0_off1 i 1 = 0 := by decide +kernel

theorem blockRows_eq (i : grid0.Coords) (X : Vec Ideal S4096x64 .f32) (r : Fin 512) (k : Fin 64) (h : 512 * (i 0).val + r.val < 4096) :
    blockRows i X (ix2 r k) = X (ix2 ⟨512 * (i 0).val + r.val, h⟩ k) := by
  unfold blockRows
  pointwise
  refine congrArg X (congrArg₂ ix2 (Fin.ext ?_) (Fin.ext ?_))
  · show k0_off1 i 0 + r.val = _
    rw [(off_eq i).1]
  · show k0_off1 i 1 + k.val = _
    rw [(off_eq i).2, Nat.zero_add]

theorem tgt_eq (t : Vec Ideal S64x4096 .f32) (n : Fin 4096) (k : Fin 64) : k0_pay8 t (ix2 n k) = t (ix2 k n) := by
  unfold k0_pay8
  pointwise

theorem tgt1_eq (t : Vec Ideal S64x512 .f32) (n : Fin 512) (k : Fin 64) : k0_pay9 t (ix2 n k) = t (ix2 k n) := by
  unfold k0_pay9
  pointwise

theorem exp_eq (e : Vec Ideal S4096x3 .f32) (n : Fin 4096) (k : Fin 3) : k0_pay10 e (ix2 k n) = e (ix2 n k) := by
  unfold k0_pay10
  pointwise

theorem exp1_eq (e : Vec Ideal S512x3 .f32) (n : Fin 512) (k : Fin 3) : k0_pay11 e (ix2 k n) = e (ix2 n k) := by
  unfold k0_pay11
  pointwise

theorem cast_eq (p v : FVec Ideal S1x4096 .f32) (n : Fin 4096) :
    shapeCast S1x4096 (minimumf p v) shapeCasts_S1x4096_S1x4096 (ix2 0 n) = minimumf p v (ix2 0 n) := by
  generalize minimumf p v = q
  pointwise

theorem pay18_eq (b : Vec Ideal S512x64 .f32) (s : Vec Ideal S64x4096 .f32) (v : Vec Ideal S1x4096 .f32) (n : Fin 4096) :
    k0_pay18 b s v (ix2 0 n) = minimumf (k0_pay13 b s) v (ix2 0 n) := cast_eq (k0_pay13 b s) v n

theorem minimum_eq (p v : FVec Ideal S1x4096 .f32) (n : Fin 4096) : minimumf p v (ix2 0 n) = min (p (ix2 0 n)) (v (ix2 0 n)) := rfl

section Block

variable (i : grid0.Coords) (s t : Vec Ideal S64x4096 .f32) (n : Fin 4096)

theorem lt_block (r : Fin 512) : 512 * (i 0).val + r.val < 4096 := by
  have h : (i 0).val < 8 := (i 0).isLt
  omega

theorem score_eq (r : Fin 512) : k0_pay12 (blockRows i (k0_pay8 t)) s (ix2 r n) = score s t n (512 * (i 0).val + r.val) := by
  have h (k : Fin 64) : blockRows i (k0_pay8 t) (ix2 r k) = t (ix2 k ⟨512 * (i 0).val + r.val, lt_block i r⟩) := by
    rw [blockRows_eq i _ r k (lt_block i r), tgt_eq]
  generalize blockRows i (k0_pay8 t) = b at h ⊢
  unfold score k0_pay12
  rw [dif_pos (lt_block i r)]
  pointwise
  simp only [h, two_eq]

variable (l : ℕ) (hl : At (fun j => score s t n (512 * (i 0).val + j)) 512 l)

include hl in
/-- The block's least score. -/
theorem min_eq : k0_pay13 (blockRows i (k0_pay8 t)) s (ix2 0 n) = score s t n (512 * (i 0).val + l) := by
  have h (r : Fin 512) := score_eq i s t n r
  generalize blockRows i (k0_pay8 t) = b at h ⊢
  unfold k0_pay13
  pointwise
  simp only [h, top_eq]
  exact fold_min _ l hl

include hl in
/-- The token it is first met at. -/
theorem idx_eq : k0_pay14 i (blockRows i (k0_pay8 t)) s (ix2 0 n) = BitVec.ofNat 32 (512 * (i 0).val + l) := by
  have h (r : Fin 512) := score_eq i s t n r
  have h' := min_eq i s t n l hl
  have hi : (i 0).val < 8 := (i 0).isLt
  generalize blockRows i (k0_pay8 t) = b at h h' ⊢
  unfold k0_pay14
  pointwise
  simp only [h, h']
  rw [fold_minsi (by norm_num) _ l hl _ fun _ => rfl]
  have := hl.1
  refine BitVec.eq_of_toNat_eq ?_
  simp only [IntOp.addi, Scalar.muli, IntOp.muli, BitVec.toNat_add, BitVec.toNat_mul, BitVec.toNat_ofNat]
  omega

theorem first_min (l : ℕ) (hl : At (fun j => score s t n (512 * (i 0).val + j)) 512 l) :
    k0_pay15 (blockRows i (k0_pay8 t)) s (ix2 0 n) = score s t n (512 * (i 0).val + l) := by
  rw [← min_eq i s t n l hl]
  unfold k0_pay15
  pointwise

theorem first_idx (l : ℕ) (hl : At (fun j => score s t n (512 * (i 0).val + j)) 512 l) :
    k0_pay16 i (blockRows i (k0_pay8 t)) s (ix2 0 n) = BitVec.ofNat 32 (512 * (i 0).val + l) := by
  rw [← idx_eq i s t n l hl]
  unfold k0_pay16
  pointwise

variable (a : Vec Ideal S1x4096 .f32) (b : Vec Ideal S1x4096 .i32) (k : ℕ) (ha : a (ix2 0 n) = score s t n k)
  (hb : b (ix2 0 n) = BitVec.ofNat 32 k)

include ha in
theorem merge_min (l : ℕ) (hl : At (fun j => score s t n (512 * (i 0).val + j)) 512 l) :
    k0_pay18 (blockRows i (k0_pay8 t)) s a (ix2 0 n)
      = score s t n (if score s t n (512 * (i 0).val + l) < score s t n k then 512 * (i 0).val + l else k) := by
  have h' := min_eq i s t n l hl
  rw [pay18_eq, minimum_eq, h', ha]
  by_cases h : score s t n (512 * (i 0).val + l) < score s t n k
  · rw [if_pos h, min_eq_left h.le]
  · rw [if_neg h, min_eq_right (not_lt.mp h)]

include ha hb in
theorem merge_idx (l : ℕ) (hl : At (fun j => score s t n (512 * (i 0).val + j)) 512 l) :
    k0_pay17 i (blockRows i (k0_pay8 t)) s a b (ix2 0 n)
      = BitVec.ofNat 32 (if score s t n (512 * (i 0).val + l) < score s t n k then 512 * (i 0).val + l else k) := by
  have h' := min_eq i s t n l hl
  have h'' := idx_eq i s t n l hl
  generalize blockRows i (k0_pay8 t) = r at h' h'' ⊢
  unfold k0_pay17
  pointwise
  rw [h', h'', ha, hb]
  by_cases h : score s t n (512 * (i 0).val + l) < score s t n k
  · rw [if_pos h, if_pos h]
  · rw [if_neg h, if_neg h]

end Block

/-! ## The positions of the nearest tokens and the two sums -/

/-- The first stage's sum. -/
theorem sum0_eq (x : Vec Ideal S1x4096 .i32) (e : Vec Ideal S4096x3 .f32) (k : Fin 4096 → ℕ) (hk : ∀ n, k n < 4096)
    (hx : ∀ n, x (ix2 0 n) = BitVec.ofNat 32 (k n)) : k0_pay2 x (k0_pay10 e) = sumAbs 16 e k := by
  have he := exp_eq e
  generalize k0_pay10 e = f at he ⊢
  unfold k0_pay2
  pointwise
  have h1 (n : Fin 4096) : FloatOps.sitofp (F := Ideal) .f32 (IntOp.shrsi .vector (x (ix2 0 n)) 8#32) = nat (k n / (16 * 16)) := by
    rw [hx, shift_ofNat (k := k n) (by have := hk n; omega) 8 (by norm_num)]
    exact sitofp_ofNat (by have := hk n; omega)
  have h2 (n : Fin 4096) : FloatOps.sitofp (F := Ideal) .f32 (IntOp.andi (IntOp.shrsi .vector (x (ix2 0 n)) 4#32) 15#32) = nat (k n / 16 % 16) := by
    rw [hx, shift_ofNat (k := k n) (by have := hk n; omega) 4 (by norm_num), mask_ofNat _ 4 15 (by norm_num) rfl]
    exact sitofp_ofNat (by have := hk n; omega)
  have h3 (n : Fin 4096) : FloatOps.sitofp (F := Ideal) .f32 (IntOp.andi (x (ix2 0 n)) 15#32) = nat (k n % 16) := by
    rw [hx, mask_ofNat _ 4 15 (by norm_num) rfl]
    exact sitofp_ofNat (by have := hk n; omega)
  simp only [h1, h2, h3, he]
  rw [sumAbs_eq]
  rfl

section Second

variable (s t : Vec Ideal S64x512 .f32) (e : Vec Ideal S512x3 .f32)

theorem score1_eq (r n : Fin 512) : k0_pay4 (k0_pay9 t) (ix2 r 0) - FloatOps.ofBits (F := Ideal) .f32 1073741824#32 * k0_pay3 s (k0_pay9 t) (ix2 r n)
    = score s t n r.val := by
  have h := tgt1_eq t r
  generalize k0_pay9 t = b at h ⊢
  unfold score k0_pay4 k0_pay3
  rw [dif_pos r.isLt]
  pointwise
  simp only [h, two_eq]

theorem idx1_eq (n : Fin 512) : k0_pay5 (k0_pay3 s (k0_pay9 t)) (k0_pay4 (k0_pay9 t)) (FloatOps.ofBits .f32 1073741824#32) (ix2 0 n)
    = BitVec.ofNat 32 (nearest s t n) := by
  have h (r : Fin 512) := score1_eq s t r n
  generalize k0_pay3 s (k0_pay9 t) = p at h ⊢
  generalize k0_pay4 (k0_pay9 t) = q at h ⊢
  unfold k0_pay5
  pointwise
  have h' (r : Fin 512) : q (ix2 r 0) - Ideal.ofBits .f32 1073741824#32 * p (ix2 r n) = score s t n r.val := h r
  simp only [h', top_eq]
  rw [fold_min _ _ (nearest_at s t n)]
  exact fold_minsi (by norm_num) _ _ (nearest_at s t n) _ fun _ => rfl

/-- The second stage's sum. -/
theorem sum1_eq : k0_pay6 (k0_pay3 s (k0_pay9 t)) (k0_pay4 (k0_pay9 t)) (FloatOps.ofBits .f32 1073741824#32) (k0_pay11 e)
    + k0_pay7 (k0_pay3 s (k0_pay9 t)) (k0_pay4 (k0_pay9 t)) (FloatOps.ofBits .f32 1073741824#32) (k0_pay11 e) (ix3 0 0 0)
    = sumAbs 8 e (nearest s t) := by
  have hx := idx1_eq s t
  have hk (n) := (nearest_at s t n).1
  have he := exp1_eq e
  generalize nearest s t = k at hx hk ⊢
  generalize k0_pay11 e = f at he ⊢
  unfold k0_pay6 k0_pay7
  generalize k0_pay5 (k0_pay3 s (k0_pay9 t)) (k0_pay4 (k0_pay9 t)) (FloatOps.ofBits .f32 1073741824#32) = x at hx ⊢
  pointwise
  have h1 (n : Fin 512) : FloatOps.sitofp (F := Ideal) .f32 (IntOp.shrsi .vector (x (ix2 0 n)) 6#32) = nat (k n / (8 * 8)) := by
    rw [hx, shift_ofNat (k := k n) (by have := hk n; omega) 6 (by norm_num)]
    exact sitofp_ofNat (by have := hk n; omega)
  have h2 (n : Fin 512) : FloatOps.sitofp (F := Ideal) .f32 (IntOp.andi (IntOp.shrsi .vector (x (ix2 0 n)) 3#32) 7#32) = nat (k n / 8 % 8) := by
    rw [hx, shift_ofNat (k := k n) (by have := hk n; omega) 3 (by norm_num), mask_ofNat _ 3 7 (by norm_num) rfl]
    exact sitofp_ofNat (by have := hk n; omega)
  have h3 (n : Fin 512) : FloatOps.sitofp (F := Ideal) .f32 (IntOp.andi (x (ix2 0 n)) 7#32) = nat (k n % 8) := by
    rw [hx, mask_ofNat _ 3 7 (by norm_num) rfl]
    exact sitofp_ofNat (by have := hk n; omega)
  simp only [h1, h2, h3, he]
  rw [sumAbs_eq]
  rfl

end Second

/-- The kernel's result: the mean of the two means. -/
theorem mean_eq (a b : Ideal .f32) (c : FVec Ideal S1x1x1 .f32) : k0_pay1 a b c (ix2 0 0)
    = Ideal.div (Ideal.div a (Ideal.ofBits .f32 1178599424#32) + Ideal.div (b + c (ix3 0 0 0)) (Ideal.ofBits .f32 1153433600#32)) 2 := by
  rw [← half_mul, ← half_eq]
  unfold k0_pay1
  pointwise

end Cert.LossVal

end
-- ==== Proof.LossSteps.lean ====
/- What the loss kernel holds after each grid point, and what it leaves at the end. -/
module

public import proofs.«01_k».proof.Proof.Gen.LossIdeal.Value
public import proofs.«01_k».proof.Proof.LossVal
public import Idealize.ShloMosaic.Lib.Pipeline.ReadBack

@[expose] public section

set_option maxRecDepth 16384

noncomputable section

namespace Cert.LossSteps

open Idealize.ShloMosaic Idealize.ShloMosaic.TcCoe Idealize.ShloMosaic.Tactic Idealize.SL.Sem
open Cert.LossIdeal Cert.LossIdeal.Gen Cert.LossSpec Cert.FirstMin Cert.LossVal

variable (m : (ℓ : Loc nD τ sig) → Buf (Elt Ideal) ℓ) (c : Dev nD)

/-! ## The payloads stored at a point -/

section Rows

variable (t : Fin cfg0.N)

section First

variable (h0 : t.val % 8 = 0) (h2 : ¬1 ≤ t.val) (h3 : ¬t.val % 8 = 7)

include h0 h2 h3

theorem first_runmin : (outsAt0 m c t.val t.isLt).2.1
    = k0_pay15 (blockRows (grid0.coords t) (k0_pay8 (iblk m c 1 t))) (iblk m c 0 t) := by
  rw [outsAt0_A m c t h0 h0 h2 h3]
  frame_open
  simp (disch := decide) only [↓ View.readCov_skip, ↓ View.readCov_cons_toLoadRect, ↓ View.readCov_fill]
  frame_out
  rfl

theorem first_runidx : (outsAt0 m c t.val t.isLt).2.2.1
    = k0_pay16 (grid0.coords t) (blockRows (grid0.coords t) (k0_pay8 (iblk m c 1 t))) (iblk m c 0 t) := by
  rw [outsAt0_A m c t h0 h0 h2 h3]
  frame_open
  simp (disch := decide) only [↓ View.readCov_skip, ↓ View.readCov_cons_toLoadRect, ↓ View.readCov_fill]
  frame_out
  rfl

theorem first_tgt : (outsAt0 m c t.val t.isLt).2.2.2.1 = k0_pay8 (iblk m c 1 t) := by
  rw [outsAt0_A m c t h0 h0 h2 h3]
  frame_out

theorem first_tgt1 : (outsAt0 m c t.val t.isLt).2.2.2.2.1 = k0_pay9 (iblk m c 4 t) := by
  rw [outsAt0_A m c t h0 h0 h2 h3]
  frame_out

theorem first_exp : (outsAt0 m c t.val t.isLt).2.2.2.2.2.1 = k0_pay10 (iblk m c 2 t) := by
  rw [outsAt0_A m c t h0 h0 h2 h3]
  frame_out

theorem first_exp1 : (outsAt0 m c t.val t.isLt).2.2.2.2.2.2 = k0_pay11 (iblk m c 5 t) := by
  rw [outsAt0_A m c t h0 h0 h2 h3]
  frame_out

end First

section Later

variable (h0 : ¬t.val % 8 = 0) (h2 : 1 ≤ t.val)

/-- What the point before left. -/
abbrev prev := outsAt0 m c (t.val - 1) (lt_of_le_of_lt (Nat.sub_le _ _) t.isLt)

include h0 h2

theorem later_runmin : (outsAt0 m c t.val t.isLt).2.1
    = k0_pay18 (blockRows (grid0.coords t) (prev m c t).2.2.2.1) (iblk m c 0 t) (prev m c t).2.1 := by
  by_cases h3 : t.val % 8 = 7
  · rw [outsAt0_C m c t h0 h0 h2 h3]
    frame_out
    simp only [read_unread_whole]
    rfl
  · rw [outsAt0_B m c t h0 h0 h2 h3]
    frame_out
    simp only [read_unread_whole]
    rfl

theorem later_runidx : (outsAt0 m c t.val t.isLt).2.2.1
    = k0_pay17 (grid0.coords t) (blockRows (grid0.coords t) (prev m c t).2.2.2.1) (iblk m c 0 t) (prev m c t).2.1 (prev m c t).2.2.1 := by
  by_cases h3 : t.val % 8 = 7
  · rw [outsAt0_C m c t h0 h0 h2 h3]
    frame_out
    simp only [read_unread_whole]
    rfl
  · rw [outsAt0_B m c t h0 h0 h2 h3]
    frame_out
    simp only [read_unread_whole]
    rfl

theorem later_rest : (outsAt0 m c t.val t.isLt).2.2.2 = (prev m c t).2.2.2 := by
  by_cases h3 : t.val % 8 = 7
  · refine Prod.ext ?_ (Prod.ext ?_ (Prod.ext ?_ ?_)) <;>
    · rw [outsAt0_C m c t h0 h0 h2 h3]
      rfl
  · refine Prod.ext ?_ (Prod.ext ?_ (Prod.ext ?_ ?_)) <;>
    · rw [outsAt0_B m c t h0 h0 h2 h3]
      rfl

theorem last_out (h3 : t.val % 8 = 7) : (outsAt0 m c t.val t.isLt).1
    = k0_pay1 (k0_pay2 (outsAt0 m c t.val t.isLt).2.2.1 (prev m c t).2.2.2.2.2.1)
        (k0_pay6 (k0_pay3 (iblk m c 3 t) (prev m c t).2.2.2.2.1) (k0_pay4 (prev m c t).2.2.2.2.1) (FloatOps.ofBits .f32 1073741824#32) (prev m c t).2.2.2.2.2.2)
        (k0_pay7 (k0_pay3 (iblk m c 3 t) (prev m c t).2.2.2.2.1) (k0_pay4 (prev m c t).2.2.2.2.1) (FloatOps.ofBits .f32 1073741824#32) (prev m c t).2.2.2.2.2.2) := by
  rw [later_runidx m c t h0 h2, outsAt0_C m c t h0 h0 h2 h3]
  frame_open
  simp (disch := decide) only [↓ View.readCov_skip, ↓ View.readCov_cons_toLoadRect, ↓ View.readCov_fill]
  frame_out
  simp only [read_unread_whole]
  rfl

end Later

end Rows

/-! ## The invariant -/

/-- The arguments. -/
abbrev S0 : Vec Ideal S64x4096 .f32 := m ((c : Thread nD τ).loc main_arg0)
abbrev T0 : Vec Ideal S64x4096 .f32 := m ((c : Thread nD τ).loc main_arg1)
abbrev E0 : Vec Ideal S4096x3 .f32 := m ((c : Thread nD τ).loc main_arg2)
abbrev S1 : Vec Ideal S64x512 .f32 := m ((c : Thread nD τ).loc main_arg3)
abbrev T1 : Vec Ideal S64x512 .f32 := m ((c : Thread nD τ).loc main_arg4)
abbrev E1 : Vec Ideal S512x3 .f32 := m ((c : Thread nD τ).loc main_arg5)

theorem index_eq : ∀ t : Fin cfg0.N, (∀ a, win0_0.index t a = 0) ∧ (∀ a, win0_1.index t a = 0) ∧ (∀ a, win0_2.index t a = 0) ∧
    (∀ a, win0_3.index t a = 0) ∧ (∀ a, win0_4.index t a = 0) ∧ (∀ a, win0_5.index t a = 0) := by decide +kernel

theorem coord_eq : ∀ t : Fin cfg0.N, (grid0.coords t 0).val = t.val := by decide +kernel

theorem blk0 (t : Fin cfg0.N) : iblk m c 0 t = S0 m c := by
  funext j
  idx_vars j
  blk_ext [iblk, V, (index_eq t).1]

theorem blk1 (t : Fin cfg0.N) : iblk m c 1 t = T0 m c := by
  funext j
  idx_vars j
  blk_ext [iblk, V, (index_eq t).2.1]

theorem blk2 (t : Fin cfg0.N) : iblk m c 2 t = E0 m c := by
  funext j
  idx_vars j
  blk_ext [iblk, V, (index_eq t).2.2.1]

theorem blk3 (t : Fin cfg0.N) : iblk m c 3 t = S1 m c := by
  funext j
  idx_vars j
  blk_ext [iblk, V, (index_eq t).2.2.2.1]

theorem blk4 (t : Fin cfg0.N) : iblk m c 4 t = T1 m c := by
  funext j
  idx_vars j
  blk_ext [iblk, V, (index_eq t).2.2.2.2.1]

theorem blk5 (t : Fin cfg0.N) : iblk m c 5 t = E1 m c := by
  funext j
  idx_vars j
  blk_ext [iblk, V, (index_eq t).2.2.2.2.2]

/-- After point `p`: the least score so far and where it is first met, for each source; and the transposed arrays. -/
def Inv (p : ℕ) (o : Vec Ideal S1x1 .f32 × Vec Ideal S1x4096 .f32 × Vec Ideal S1x4096 .i32 × Vec Ideal S4096x64 .f32 × Vec Ideal S512x64 .f32 × Vec Ideal S3x4096 .f32 × Vec Ideal S3x512 .f32) : Prop :=
  (∀ n : Fin 4096, ∃ k, At (score (S0 m c) (T0 m c) n) (512 * (p + 1)) k ∧ o.2.1 (ix2 0 n) = score (S0 m c) (T0 m c) n k
    ∧ o.2.2.1 (ix2 0 n) = BitVec.ofNat 32 k) ∧ o.2.2.2 = (k0_pay8 (T0 m c), k0_pay9 (T1 m c), k0_pay10 (E0 m c), k0_pay11 (E1 m c))

theorem inv (p : ℕ) (hp : p < cfg0.N) : Inv m c p (outsAt0 m c p hp) := by
  induction p with
  | zero =>
    have h0 : (⟨0, hp⟩ : Fin cfg0.N).val % 8 = 0 := rfl
    have h2 : ¬1 ≤ (⟨0, hp⟩ : Fin cfg0.N).val := by simp
    have h3 : ¬(⟨0, hp⟩ : Fin cfg0.N).val % 8 = 7 := by simp
    refine ⟨fun n => ?_, ?_⟩
    · have hc := coord_eq ⟨0, hp⟩
      obtain ⟨l, hl⟩ := At.exists (fun j => score (S0 m c) (T0 m c) n (512 * (grid0.coords ⟨0, hp⟩ 0).val + j)) 512 (by norm_num)
      refine ⟨512 * (grid0.coords ⟨0, hp⟩ 0).val + l, ?_, ?_, ?_⟩
      · rw [hc] at hl ⊢
        simpa using hl
      · rw [first_runmin m c ⟨0, hp⟩ h0 h2 h3, blk0, blk1]
        exact first_min _ _ _ n l hl
      · rw [first_runidx m c ⟨0, hp⟩ h0 h2 h3, blk0, blk1]
        exact first_idx _ _ _ n l hl
    · rw [← blk1 m c ⟨0, hp⟩, ← blk2 m c ⟨0, hp⟩, ← blk4 m c ⟨0, hp⟩, ← blk5 m c ⟨0, hp⟩, ← first_tgt m c ⟨0, hp⟩ h0 h2 h3,
        ← first_tgt1 m c ⟨0, hp⟩ h0 h2 h3, ← first_exp m c ⟨0, hp⟩ h0 h2 h3, ← first_exp1 m c ⟨0, hp⟩ h0 h2 h3]
  | succ p ih =>
    have hN : cfg0.N = 8 := N_0
    obtain ⟨hi, hr⟩ := ih (by omega)
    have h0 : ¬(⟨p + 1, hp⟩ : Fin cfg0.N).val % 8 = 0 := by show ¬(p + 1) % 8 = 0; omega
    have h2 : 1 ≤ (⟨p + 1, hp⟩ : Fin cfg0.N).val := by show 1 ≤ p + 1; omega
    have hq : prev m c ⟨p + 1, hp⟩ = outsAt0 m c p (by omega) := rfl
    have hc := coord_eq ⟨p + 1, hp⟩
    refine ⟨fun n => ?_, ?_⟩
    · obtain ⟨k, hk, hm, hx⟩ := hi n
      obtain ⟨l, hl⟩ := At.exists (fun j => score (S0 m c) (T0 m c) n (512 * (grid0.coords ⟨p + 1, hp⟩ 0).val + j)) 512 (by norm_num)
      refine ⟨if score (S0 m c) (T0 m c) n (512 * (grid0.coords ⟨p + 1, hp⟩ 0).val + l) < score (S0 m c) (T0 m c) n k
        then 512 * (grid0.coords ⟨p + 1, hp⟩ 0).val + l else k, ?_, ?_, ?_⟩
      rotate_left
      · rw [later_runmin m c ⟨p + 1, hp⟩ h0 h2, hq, hr, blk0]
        exact merge_min _ _ _ n _ k hm l hl
      · rw [later_runidx m c ⟨p + 1, hp⟩ h0 h2, hq, hr, blk0]
        exact merge_idx _ _ _ n _ _ k hm hx l hl
      · rw [hc] at hl ⊢
        exact hk.merge hl
    · rw [later_rest m c ⟨p + 1, hp⟩ h0 h2, hq, hr]

/-- The kernel's result. -/
theorem out_eq (hp : 7 < cfg0.N) : (outsAt0 m c 7 hp).1 (ix2 0 0)
    = Ideal.div (loss 16 (S0 m c) (T0 m c) (E0 m c) (Ideal.ofBits .f32 1178599424#32)
        + loss 8 (S1 m c) (T1 m c) (E1 m c) (Ideal.ofBits .f32 1153433600#32)) 2 := by
  have hi := (inv m c 7 hp).1
  have hr := (inv m c 6 (by omega)).2
  have hl := last_out m c ⟨7, hp⟩ (by simp) (by simp) rfl
  have hq : prev m c ⟨7, hp⟩ = outsAt0 m c 6 (by omega) := rfl
  rw [hq, hr, blk3] at hl
  have hx (n : Fin 4096) : (outsAt0 m c 7 hp).2.2.1 (ix2 0 n) = BitVec.ofNat 32 (nearest (S0 m c) (T0 m c) n) := by
    obtain ⟨k, hk, -, hx⟩ := hi n
    rw [hx, hk.unique (nearest_at (S0 m c) (T0 m c) n)]
  refine (congrFun hl (ix2 0 0)).trans ?_
  rw [mean_eq, sum0_eq _ _ _ (fun n => (nearest_at (S0 m c) (T0 m c) n).1) hx, sum1_eq]
  rfl

end Cert.LossSteps

end
-- ==== Proof.LossClaim.lean ====
/- The claims about the loss. -/
module

public import proofs.«01_k».proof.Defs
public import proofs.«01_k».proof.Proof.LossRefVal
public import proofs.«01_k».proof.Proof.LossSteps
public import proofs.«01_k».proof.Proof.Gen.Pre_finite2
public import Idealize.ShloMosaic.Lib.ReduceAll
public import Idealize.ShloMosaic.Lib.Claim

@[expose] public section

noncomputable section

namespace Cert.LossClaim

open Idealize.ShloMosaic Idealize.ShloMosaic.TcCoe Idealize.ShloMosaic.Tactic Idealize.SL.Sem Cert.LossSpec

/-- An extended real whose absolute value is below `⊤` is a real. -/
theorem real_of_abs_lt {x : EReal} (h : Ideal.cmp .olt (max x (-x)) ⊤ = 1#1) : ∃ r : ℝ, x = r := by
  induction x with
  | coe r => exact ⟨r, rfl⟩
  | top => simp [Ideal.cmp] at h
  | bot => simp [Ideal.cmp] at h

theorem inf_eq : Ideal.ofBits .f32 2139095040#32 = ⊤ := by
  simp [Ideal.ofBits, Ideal.ieee]

theorem i1_and {a b : BitVec 1} (h : a &&& b = 1#1) : a = 1#1 ∧ b = 1#1 := by
  revert a b; decide

/-- What the precondition says of the token arrays. -/
theorem finite_of_pre (s t : FVec Ideal Cert.Pre_finite2.S64x4096 .f32) (e : FVec Ideal Cert.Pre_finite2.S4096x3 .f32)
    (s' t' : FVec Ideal Cert.Pre_finite2.S64x512 .f32) (e' : FVec Ideal Cert.Pre_finite2.S512x3 .f32)
    (h : Cert.Pre_finite2.fn (F := Ideal) s t e s' t' e' = fun _ => 1#1) : Fin' s ∧ Fin' t ∧ Fin' s' ∧ Fin' t' := by
  have h0 := congrFun h ix0
  haveI : Subsingleton Cert.Pre_finite2.S_.Idx := ⟨fun a b => funext fun i => i.elim0⟩
  obtain ⟨h123, h4⟩ := i1_and h0
  obtain ⟨h12, h3⟩ := i1_and h123
  obtain ⟨h1, h2⟩ := i1_and h12
  refine ⟨fun i => ?_, fun i => ?_, fun i => ?_, fun i => ?_⟩
  · exact real_of_abs_lt (inf_eq ▸ Host.reduce_andi_all _ _ _ _ _ h1 i)
  · exact real_of_abs_lt (inf_eq ▸ Host.reduce_andi_all _ _ _ _ _ h2 i)
  · exact real_of_abs_lt (inf_eq ▸ Host.reduce_andi_all _ _ _ _ _ h3 i)
  · exact real_of_abs_lt (inf_eq ▸ Host.reduce_andi_all _ _ _ _ _ h4 i)

open Cert.LossIdeal Cert.LossIdeal.Gen in
/-- The kernel's result. -/
theorem kernel_eq (m : (ℓ : Loc nD τ sig) → Buf (Elt Ideal) ℓ) (c : Dev nD) :
    Value.G6 m c (ix2 0 0) = Ideal.div (loss 16 (LossSteps.S0 m c) (LossSteps.T0 m c) (LossSteps.E0 m c) (Ideal.ofBits .f32 1178599424#32)
        + loss 8 (LossSteps.S1 m c) (LossSteps.T1 m c) (LossSteps.E1 m c) (Ideal.ofBits .f32 1153433600#32)) 2 := by
  rw [Value.G6_last m c, ← Value.outsAt0_sweep m c 7 (lt_of_lt_of_eq (by decide) N_0.symm)]
  exact LossSteps.out_eq m c _

/-- The kernel's loss is the reference's, at real tokens. -/
theorem value_eq (m : (ℓ : Loc LossIdeal.nD LossIdeal.τ LossIdeal.sig) → Buf (Elt Ideal) ℓ) (c : Dev LossIdeal.nD)
    (hs : Fin' (LossSteps.S0 m c)) (ht : Fin' (LossSteps.T0 m c)) (hs' : Fin' (LossSteps.S1 m c)) (ht' : Fin' (LossSteps.T1 m c)) :
    LossRef.total (LossRef.loss0 (LossSteps.S0 m c) (LossSteps.T0 m c) (LossSteps.E0 m c)) (LossRef.loss1 (LossSteps.S1 m c) (LossSteps.T1 m c) (LossSteps.E1 m c))
      = LossIdeal.Value.G6 m c := by
  funext i
  have hi : i = ix2 0 0 := by
    funext a
    refine Fin.cases ?_ (fun a => Fin.cases ?_ (fun a => a.elim0) a) a <;> exact Subsingleton.elim (α := Fin 1) _ _
  rw [hi, kernel_eq m c, LossRef.total_eq, LossRef.loss0_eq _ _ _ hs ht _ (nearest_at _ _), LossRef.loss1_eq _ _ _ hs' ht' _ (nearest_at _ _)]
  rfl

theorem algebraic : algebraic_LossIdeal_LossReferenceIdeal_pre_finite2 := by
  intro m ρ m' ρ' hp hag
  refine ⟨fun c => LossIdeal.Value.G6 m c, LossIdeal.Value.run m ρ, (θ_run _ _ _).mono (fun r h c => ⟨(h c).1.trans ?_, (h c).2⟩) (LossReferenceIdeal.Value.run m' ρ')⟩
  obtain ⟨hs, ht, hs', ht'⟩ := finite_of_pre _ _ _ _ _ _ (hp c)
  obtain ⟨e0, e1, e2, e3, e4, e5⟩ := hag c
  refine (LossRef.result_eq m' c).trans ?_
  rw [e0, e1, e2, e3, e4, e5]
  exact value_eq m c hs ht hs' ht'

/-- The reference runs, leaves its arguments and counts nothing. -/
theorem reference_frame : quiescent_LossReferenceIdeal := fun m ρ _ =>
  (θ_run _ _ _).mono (fun r h => ⟨fun c => (h c).2, sem_eq_zero_of_no_sems (by decide) r.2⟩) (LossReferenceIdeal.Value.run m ρ)

end Cert.LossClaim

end
-- ==== Proof.ResizeRef.lean ====
/- The resize's weights, and the resized volumes as the reference computes them. -/
module

public import proofs.«01_k».proof.Proof.Gen.ResizeReferenceIdeal.Run
public import proofs.«01_k».proof.Proof.LossSpec

@[expose] public section

set_option maxRecDepth 16384

noncomputable section

namespace Cert.ResizeRef

open Idealize.ShloMosaic Idealize.ShloMosaic.TcCoe Idealize.ShloMosaic.Tactic Idealize.SL.Sem
open Cert.ResizeReferenceIdeal Cert.ResizeReferenceIdeal.Gen

/-- Where output `j` of 16 looks in the input of 32. -/
def centre16 : FVec Ideal S16 .f32 :=
  subf (mulf (addf (sitofp .f32 (iotaInDim S16 32 0)) (broadcastInDim S16 ![] bcast_S_S16 (constant S_ .f32 0x3F000000#32)))
    (broadcastInDim S16 ![] bcast_S_S16 (constant S_ .f32 0x40000000#32))) (broadcastInDim S16 ![] bcast_S_S16 (constant S_ .f32 0x3F000000#32))

/-- The triangle around each centre, 2 wide on either side. -/
def tri16 : FVec Ideal S32x16 .f32 :=
  maximumf (broadcastInDim S32x16 ![] bcast_S_S32x16 (constant S_ .f32 0x00000000#32))
    (subf (broadcastInDim S32x16 ![] bcast_S_S32x16 (constant S_ .f32 0x3F800000#32))
      (Host.divf (Host.absf (subf (broadcastInDim S32x16 ![0, 1] bcast_S1x16_S32x16_0_1 (broadcastInDim S1x16 ![1] bcast_S16_S1x16_1 centre16))
        (broadcastInDim S32x16 ![0, 1] bcast_S32x1_S32x16_0_1 (broadcastInDim S32x1 ![0] bcast_S32_S32x1_0 (sitofp .f32 (iotaInDim S32 32 0))))))
        (broadcastInDim S32x16 ![] bcast_S_S32x16 (constant S_ .f32 0x40000000#32))))

/-- What each triangle sums to. -/
def sum16 : FVec Ideal S1x16 .f32 :=
  broadcastInDim S1x16 ![1] bcast_S16_S1x16_1 (Host.reduceAdd tri16 (constant S_ .f32 0x00000000#32) reducesTo_S32x16_S16_d0 h_S_)

/-- The weights of the resize from 32 to 16: the triangles normalised, zero where a sum vanishes or a centre lies outside. -/
def weights16 : FVec Ideal S32x16 .f32 :=
  select (broadcastInDim S32x16 ![0, 1] bcast_S1x16_S32x16_0_1 (broadcastInDim S1x16 ![1] bcast_S16_S1x16_1
      (andi (cmpf .oge centre16 (broadcastInDim S16 ![] bcast_S_S16 (constant S_ .f32 0xBF000000#32)))
        (cmpf .ole centre16 (broadcastInDim S16 ![] bcast_S_S16 (constant S_ .f32 0x41FC0000#32))))))
    (select (broadcastInDim S32x16 ![0, 1] bcast_S1x16_S32x16_0_1 (cmpf .ogt (Host.absf sum16) (broadcastInDim S1x16 ![] bcast_S_S1x16 (constant S_ .f32 0x38FA0000#32))))
      (Host.divf tri16 (broadcastInDim S32x16 ![0, 1] bcast_S1x16_S32x16_0_1
        (select (cmpf .une sum16 (broadcastInDim S1x16 ![] bcast_S_S1x16 (constant S_ .f32 0x00000000#32))) sum16
          (broadcastInDim S1x16 ![] bcast_S_S1x16 (constant S_ .f32 0x3F800000#32)))))
      (broadcastInDim S32x16 ![] bcast_S_S32x16 (constant S_ .f32 0x00000000#32)))
    (broadcastInDim S32x16 ![] bcast_S_S32x16 (constant S_ .f32 0x00000000#32))

/-- `x` (64 channels of 32 × 32 × 32) resized along its three axes with the weights `w`. -/
def resized16 (w : FVec Ideal S32x16 .f32) (x : FVec Ideal S1x64x32x32x32 .f32) : FVec Ideal S64x16x256 .f32 :=
  shapeCast _ (Host.dotGeneral dot_S1x64x16x16x32_S32x16_S1x64x16x16x16_4_0_0123_1_n_n none
    (transpose S1x64x16x16x32 [1, 2, 3, 0, 4] (Host.dotGeneral dot_S32x16_S1x64x16x32x32_S16x1x64x16x32_0_3_1_0124_n_n none w
      (transpose S1x64x16x32x32 [1, 2, 0, 3, 4] (Host.dotGeneral dot_S32x16_S1x64x32x32x32_S16x1x64x32x32_0_2_1_0134_n_n none w x)
        transposes_S16x1x64x32x32_S1x64x16x32x32_1_2_0_3_4)) transposes_S16x1x64x16x32_S1x64x16x16x32_1_2_3_0_4) w)
    shapeCasts_S1x64x16x16x16_S64x16x256

/-- Where output `j` of 8 looks in the input of 32. -/
def centre8 : FVec Ideal S8 .f32 :=
  subf (mulf (addf (sitofp .f32 (iotaInDim S8 32 0)) (broadcastInDim S8 ![] bcast_S_S8 (constant S_ .f32 0x3F000000#32)))
    (broadcastInDim S8 ![] bcast_S_S8 (constant S_ .f32 0x40800000#32))) (broadcastInDim S8 ![] bcast_S_S8 (constant S_ .f32 0x3F000000#32))

/-- The triangle around each centre, 4 wide on either side. -/
def tri8 : FVec Ideal S32x8 .f32 :=
  maximumf (broadcastInDim S32x8 ![] bcast_S_S32x8 (constant S_ .f32 0x00000000#32))
    (subf (broadcastInDim S32x8 ![] bcast_S_S32x8 (constant S_ .f32 0x3F800000#32))
      (Host.divf (Host.absf (subf (broadcastInDim S32x8 ![0, 1] bcast_S1x8_S32x8_0_1 (broadcastInDim S1x8 ![1] bcast_S8_S1x8_1 centre8))
        (broadcastInDim S32x8 ![0, 1] bcast_S32x1_S32x8_0_1 (broadcastInDim S32x1 ![0] bcast_S32_S32x1_0 (sitofp .f32 (iotaInDim S32 32 0))))))
        (broadcastInDim S32x8 ![] bcast_S_S32x8 (constant S_ .f32 0x40800000#32))))

/-- What each triangle sums to. -/
def sum8 : FVec Ideal S1x8 .f32 :=
  broadcastInDim S1x8 ![1] bcast_S8_S1x8_1 (Host.reduceAdd tri8 (constant S_ .f32 0x00000000#32) reducesTo_S32x8_S8_d0 h_S_)

/-- The weights of the resize from 32 to 8: the triangles normalised, zero where a sum vanishes or a centre lies outside. -/
def weights8 : FVec Ideal S32x8 .f32 :=
  select (broadcastInDim S32x8 ![0, 1] bcast_S1x8_S32x8_0_1 (broadcastInDim S1x8 ![1] bcast_S8_S1x8_1
      (andi (cmpf .oge centre8 (broadcastInDim S8 ![] bcast_S_S8 (constant S_ .f32 0xBF000000#32)))
        (cmpf .ole centre8 (broadcastInDim S8 ![] bcast_S_S8 (constant S_ .f32 0x41FC0000#32))))))
    (select (broadcastInDim S32x8 ![0, 1] bcast_S1x8_S32x8_0_1 (cmpf .ogt (Host.absf sum8) (broadcastInDim S1x8 ![] bcast_S_S1x8 (constant S_ .f32 0x38FA0000#32))))
      (Host.divf tri8 (broadcastInDim S32x8 ![0, 1] bcast_S1x8_S32x8_0_1
        (select (cmpf .une sum8 (broadcastInDim S1x8 ![] bcast_S_S1x8 (constant S_ .f32 0x00000000#32))) sum8
          (broadcastInDim S1x8 ![] bcast_S_S1x8 (constant S_ .f32 0x3F800000#32)))))
      (broadcastInDim S32x8 ![] bcast_S_S32x8 (constant S_ .f32 0x00000000#32)))
    (broadcastInDim S32x8 ![] bcast_S_S32x8 (constant S_ .f32 0x00000000#32))

/-- `x` (64 channels of 32 × 32 × 32) resized along its three axes with the weights `w`. -/
def resized8 (w : FVec Ideal S32x8 .f32) (x : FVec Ideal S1x64x32x32x32 .f32) : FVec Ideal S64x8x64 .f32 :=
  shapeCast _ (Host.dotGeneral dot_S1x64x8x8x32_S32x8_S1x64x8x8x8_4_0_0123_1_n_n none
    (transpose S1x64x8x8x32 [1, 2, 3, 0, 4] (Host.dotGeneral dot_S32x8_S1x64x8x32x32_S8x1x64x8x32_0_3_1_0124_n_n none w
      (transpose S1x64x8x32x32 [1, 2, 0, 3, 4] (Host.dotGeneral dot_S32x8_S1x64x32x32x32_S8x1x64x32x32_0_2_1_0134_n_n none w x)
        transposes_S8x1x64x32x32_S1x64x8x32x32_1_2_0_3_4)) transposes_S8x1x64x8x32_S1x64x8x8x32_1_2_3_0_4) w)
    shapeCasts_S1x64x8x8x8_S64x8x64

variable (m : (ℓ : Loc nD τ sig) → Buf (Elt Ideal) ℓ) (c : Dev nD)

theorem result0_eq : Value.res_out0 (F := Ideal) m c = resized16 weights16 (m ((c.tc : Thread nD τ).loc main_arg0)) := rfl
theorem result1_eq : Value.res_out1 (F := Ideal) m c = resized16 weights16 (m ((c.tc : Thread nD τ).loc main_arg1)) := rfl
theorem result2_eq : Value.res_out2 (F := Ideal) m c = resized8 weights8 (m ((c.tc : Thread nD τ).loc main_arg0)) := rfl
theorem result3_eq : Value.res_out3 (F := Ideal) m c = resized8 weights8 (m ((c.tc : Thread nD τ).loc main_arg1)) := rfl

/-! ## The weights are real -/

/-- An extended real that is a real. -/
def Real' (x : EReal) : Prop := ∃ r : ℝ, x = r

namespace Real'

variable {x y : EReal}

theorem zero : Real' 0 := ⟨0, rfl⟩
theorem one : Real' 1 := ⟨1, rfl⟩

theorem add (hx : Real' x) (hy : Real' y) : Real' (x + y) := by
  obtain ⟨a, rfl⟩ := hx; obtain ⟨b, rfl⟩ := hy; exact ⟨a + b, by push_cast; rfl⟩

theorem sub (hx : Real' x) (hy : Real' y) : Real' (x - y) := by
  obtain ⟨a, rfl⟩ := hx; obtain ⟨b, rfl⟩ := hy; exact ⟨a - b, by push_cast; rfl⟩

theorem mul (hx : Real' x) (hy : Real' y) : Real' (x * y) := by
  obtain ⟨a, rfl⟩ := hx; obtain ⟨b, rfl⟩ := hy; exact ⟨a * b, by push_cast; rfl⟩

theorem max (hx : Real' x) (hy : Real' y) : Real' (max x y) := by
  rcases max_choice x y with h | h <;> rw [h] <;> assumption

theorem abs (hx : Real' x) : Real' (Max.max x (-x)) := by
  obtain ⟨a, rfl⟩ := hx
  exact Real'.max ⟨a, rfl⟩ ⟨-a, by push_cast; rfl⟩

theorem div (hx : Real' x) (hy : Real' y) (h : y ≠ 0) : Real' (Ideal.div x y) := by
  obtain ⟨a, rfl⟩ := hx; obtain ⟨b, rfl⟩ := hy
  have hb : b ≠ 0 := fun e => h (by rw [e]; rfl)
  exact ⟨a / b, by simp [Ideal.div, hb, EReal.coe_div, EReal.div_eq_inv_mul, mul_comm]⟩

theorem sum {ι : Type} [Fintype ι] {f : ι → EReal} (h : ∀ i, Real' (f i)) : Real' (∑ i, f i) := by
  choose g hg using h
  exact ⟨∑ i, g i, by rw [← LossSpec.coe_sum]; exact Finset.sum_congr rfl fun i _ => hg i⟩

theorem select (b : BitVec 1) (hx : Real' x) (hy : Real' y) : Real' (Scalar.select b x y) := by
  unfold Scalar.select
  split_ifs <;> assumption

end Real'

theorem half_real : Real' (Ideal.ofBits .f32 1056964608#32) := ⟨1 / 2, by
  simp [Ideal.ofBits, Ideal.ieee]; norm_num [← EReal.coe_mul]⟩
theorem one_eq : Ideal.ofBits .f32 1065353216#32 = ((1 : ℝ) : EReal) := by
  simp [Ideal.ofBits, Ideal.ieee]; norm_num [← EReal.coe_mul]
theorem two_eq : Ideal.ofBits .f32 1073741824#32 = ((2 : ℝ) : EReal) := by
  simp [Ideal.ofBits, Ideal.ieee]; norm_num [← EReal.coe_mul]
theorem four_eq : Ideal.ofBits .f32 1082130432#32 = ((4 : ℝ) : EReal) := by
  simp [Ideal.ofBits, Ideal.ieee]; norm_num [← EReal.coe_mul]
theorem zero_eq : Ideal.ofBits .f32 0#32 = ((0 : ℝ) : EReal) := by
  simp [Ideal.ofBits, Ideal.ieee]
theorem zero_real : Real' (Ideal.ofBits .f32 0#32) := ⟨0, zero_eq⟩
theorem one_real : Real' (Ideal.ofBits .f32 1065353216#32) := ⟨1, one_eq⟩
theorem two_real : Real' (Ideal.ofBits .f32 1073741824#32) := ⟨2, two_eq⟩
theorem four_real : Real' (Ideal.ofBits .f32 1082130432#32) := ⟨4, four_eq⟩
theorem two_ne : Ideal.ofBits .f32 1073741824#32 ≠ 0 := by rw [two_eq]; exact_mod_cast (two_ne_zero : (2 : ℝ) ≠ 0)
theorem four_ne : Ideal.ofBits .f32 1082130432#32 ≠ 0 := by rw [four_eq]; exact_mod_cast (four_ne_zero : (4 : ℝ) ≠ 0)
theorem int_real (n : BitVec 32) : Real' (FloatOps.sitofp .f32 n : Ideal .f32) := ⟨_, rfl⟩

theorem centre16_real (j : Fin 16) : Real' (centre16 (ix1 j)) := by
  unfold centre16
  pointwise
  exact (((int_real _).add half_real).mul two_real).sub half_real

theorem tri16_real (i : Fin 32) (j : Fin 16) : Real' (tri16 (ix2 i j)) := by
  have h := centre16_real j
  unfold tri16
  generalize centre16 = g at h ⊢
  pointwise
  exact Real'.zero.max (Real'.one.sub ((h.sub (int_real _)).abs.div two_real two_ne))

theorem sum16_real (j : Fin 16) : Real' (sum16 (ix2 0 j)) := by
  have h := fun i => tri16_real i j
  unfold sum16
  generalize tri16 = g at h ⊢
  pointwise
  exact Real'.sum fun i => h i

/-- The weights are real. -/
theorem weights16_real (i : Fin 32) (j : Fin 16) : Real' (weights16 (ix2 i j)) := by
  have h := tri16_real i j
  have h' := sum16_real j
  unfold weights16
  generalize centre16 = d
  generalize tri16 = g at h ⊢
  generalize sum16 = s at h' ⊢
  pointwise
  refine Real'.select _ ?_ Real'.zero
  split_ifs with e e'
  · exact h.div h' e'
  · exact h.div Real'.one one_ne_zero
  · exact Real'.zero

theorem resized16_eq (w : FVec Ideal S32x16 .f32) (x : FVec Ideal S1x64x32x32x32 .f32) (c : Fin 64) (i : Fin 16) (q : Fin 256) :
    resized16 w x (ix3 c i q) = ∑ l : Fin 32, (∑ h : Fin 32, w (ix2 h ⟨q.val / 16, by omega⟩) * ∑ d : Fin 32, w (ix2 d i) * x (ix5 0 c d h l))
      * w (ix2 l ⟨q.val % 16, by omega⟩) := by
  unfold resized16
  pointwise

theorem centre8_real (j : Fin 8) : Real' (centre8 (ix1 j)) := by
  unfold centre8
  pointwise
  exact (((int_real _).add half_real).mul four_real).sub half_real

theorem tri8_real (i : Fin 32) (j : Fin 8) : Real' (tri8 (ix2 i j)) := by
  have h := centre8_real j
  unfold tri8
  generalize centre8 = g at h ⊢
  pointwise
  exact Real'.zero.max (Real'.one.sub ((h.sub (int_real _)).abs.div four_real four_ne))

theorem sum8_real (j : Fin 8) : Real' (sum8 (ix2 0 j)) := by
  have h := fun i => tri8_real i j
  unfold sum8
  generalize tri8 = g at h ⊢
  pointwise
  exact Real'.sum fun i => h i

/-- The weights are real. -/
theorem weights8_real (i : Fin 32) (j : Fin 8) : Real' (weights8 (ix2 i j)) := by
  have h := tri8_real i j
  have h' := sum8_real j
  unfold weights8
  generalize centre8 = d
  generalize tri8 = g at h ⊢
  generalize sum8 = s at h' ⊢
  pointwise
  refine Real'.select _ ?_ Real'.zero
  split_ifs with e e'
  · exact h.div h' e'
  · exact h.div Real'.one one_ne_zero
  · exact Real'.zero

theorem resized8_eq (w : FVec Ideal S32x8 .f32) (x : FVec Ideal S1x64x32x32x32 .f32) (c : Fin 64) (i : Fin 8) (q : Fin 64) :
    resized8 w x (ix3 c i q) = ∑ l : Fin 32, (∑ h : Fin 32, w (ix2 h ⟨q.val / 8, by omega⟩) * ∑ d : Fin 32, w (ix2 d i) * x (ix5 0 c d h l))
      * w (ix2 l ⟨q.val % 8, by omega⟩) := by
  unfold resized8
  pointwise

end Cert.ResizeRef

end
-- ==== Proof.ResizeRead.lean ====
/- The arrays the resize kernel reads, as the host writes them. -/
module

public import proofs.«01_k».proof.Proof.Gen.ResizeIdeal.Value
public import proofs.«01_k».proof.Proof.ResizeRef
public import Idealize.ShloMosaic.Lib.StableHlo.RunRead

@[expose] public section

set_option maxRecDepth 16384

noncomputable section

namespace Cert.ResizeRead

open Idealize.ShloMosaic Idealize.ShloMosaic.TcCoe Idealize.ShloMosaic.Tactic Idealize.SL.Sem Idealize.ShloMosaic.StableHlo Idealize.ShloMosaic.Layout
open Cert.ResizeIdeal Cert.ResizeIdeal.Gen Cert.ResizeRef

/-- The identity of 16 × 16, as a comparison of two counts. -/
def eye : FVec Ideal S16x16 .f32 :=
  uitofp .f32 (cmpi .eq (addi (iotaInDim S16x16 32 0) (broadcastInDim S16x16 ![] bcast_S_S16x16 (constantI S_ 32 0#32))) (iotaInDim S16x16 32 1))

/-- The weights of two axes at once: a product of two weights per pair of rows and pair of columns. -/
def pair16 (w : FVec Ideal S32x16 .f32) : FVec Ideal S1024x256 .f32 :=
  shapeCast S1024x256 (mulf
    (broadcastInDim S32x32x16x16 ![0, 1, 2, 3] bcast_S32x1x16x1_S32x32x16x16_0_1_2_3 (broadcastInDim S32x1x16x1 ![0, 2] bcast_S32x16_S32x1x16x1_0_2 w))
    (broadcastInDim S32x32x16x16 ![0, 1, 2, 3] bcast_S1x32x1x16_S32x32x16x16_0_1_2_3 (broadcastInDim S1x32x1x16 ![1, 3] bcast_S32x16_S1x32x1x16_1_3 w)))
    shapeCasts_S32x32x16x16_S1024x256

/-- The weights of one axis for 16 channels at once, one block per channel on the diagonal. -/
def diag16 (w : FVec Ideal S32x16 .f32) : FVec Ideal S512x256 .f32 :=
  shapeCast S512x256 (mulf
    (broadcastInDim S16x32x16x16 ![0, 1, 2, 3] bcast_S16x1x16x1_S16x32x16x16_0_1_2_3 (broadcastInDim S16x1x16x1 ![0, 2] bcast_S16x16_S16x1x16x1_0_2 eye))
    (broadcastInDim S16x32x16x16 ![0, 1, 2, 3] bcast_S1x32x1x16_S16x32x16x16_0_1_2_3 (broadcastInDim S1x32x1x16 ![1, 3] bcast_S32x16_S1x32x1x16_1_3 w)))
    shapeCasts_S16x32x16x16_S512x256

theorem pair16_apply (w : FVec Ideal S32x16 .f32) (p : Fin 1024) (q : Fin 256) : pair16 w (ix2 p q) =
    w (ix2 (⟨p / 32, by omega⟩ : Fin 32) (⟨q / 16, by omega⟩ : Fin 16)) * w (ix2 (⟨p % 32, by omega⟩ : Fin 32) (⟨q % 16, by omega⟩ : Fin 16)) := by
  unfold pair16
  pointwise

theorem diag16_apply (w : FVec Ideal S32x16 .f32) (r : Fin 512) (a : Fin 256) : diag16 w (ix2 r a) =
    eye (ix2 (⟨r / 32, by omega⟩ : Fin 16) (⟨a / 16, by omega⟩ : Fin 16)) * w (ix2 (⟨r % 32, by omega⟩ : Fin 32) (⟨a % 16, by omega⟩ : Fin 16)) := by
  unfold diag16
  generalize eye = e
  pointwise

/-- The weights of two axes at once: a product of two weights per pair of rows and pair of columns. -/
def pair8 (w : FVec Ideal S32x8 .f32) : FVec Ideal S1024x64 .f32 :=
  shapeCast S1024x64 (mulf
    (broadcastInDim S32x32x8x8 ![0, 1, 2, 3] bcast_S32x1x8x1_S32x32x8x8_0_1_2_3 (broadcastInDim S32x1x8x1 ![0, 2] bcast_S32x8_S32x1x8x1_0_2 w))
    (broadcastInDim S32x32x8x8 ![0, 1, 2, 3] bcast_S1x32x1x8_S32x32x8x8_0_1_2_3 (broadcastInDim S1x32x1x8 ![1, 3] bcast_S32x8_S1x32x1x8_1_3 w)))
    shapeCasts_S32x32x8x8_S1024x64

/-- The weights of one axis for 16 channels at once, one block per channel on the diagonal. -/
def diag8 (w : FVec Ideal S32x8 .f32) : FVec Ideal S512x128 .f32 :=
  shapeCast S512x128 (mulf
    (broadcastInDim S16x32x16x8 ![0, 1, 2, 3] bcast_S16x1x16x1_S16x32x16x8_0_1_2_3 (broadcastInDim S16x1x16x1 ![0, 2] bcast_S16x16_S16x1x16x1_0_2 eye))
    (broadcastInDim S16x32x16x8 ![0, 1, 2, 3] bcast_S1x32x1x8_S16x32x16x8_0_1_2_3 (broadcastInDim S1x32x1x8 ![1, 3] bcast_S32x8_S1x32x1x8_1_3 w)))
    shapeCasts_S16x32x16x8_S512x128

theorem pair8_apply (w : FVec Ideal S32x8 .f32) (p : Fin 1024) (q : Fin 64) : pair8 w (ix2 p q) =
    w (ix2 (⟨p / 32, by omega⟩ : Fin 32) (⟨q / 8, by omega⟩ : Fin 8)) * w (ix2 (⟨p % 32, by omega⟩ : Fin 32) (⟨q % 8, by omega⟩ : Fin 8)) := by
  unfold pair8
  pointwise

theorem diag8_apply (w : FVec Ideal S32x8 .f32) (r : Fin 512) (a : Fin 128) : diag8 w (ix2 r a) =
    eye (ix2 (⟨r / 32, by omega⟩ : Fin 16) (⟨a / 8, by omega⟩ : Fin 16)) * w (ix2 (⟨r % 32, by omega⟩ : Fin 32) (⟨a % 8, by omega⟩ : Fin 8)) := by
  unfold diag8
  generalize eye = e
  pointwise

theorem eye_apply (a b : Fin 16) : eye (ix2 a b) = if a = b then 1 else 0 := by
  unfold eye
  pointwise
  have e : IntOp.cmpi CmpIPredicate.eq (IntOp.addi (BitVec.ofNat 32 (a : ℕ)) 0#32) (BitVec.ofNat 32 (b : ℕ)) = if a = b then 1#1 else 0#1 := by
    revert a b; decide
  rw [e]
  split_ifs
  · show (((1#1).toNat : ℝ) : EReal) = 1
    norm_num
  · show (((0#1).toNat : ℝ) : EReal) = 0
    norm_num

variable (m : (ℓ : Loc nD τ sig) → Buf (Elt Ideal) ℓ) (c : Dev nD)

theorem read_v0 : V m c main_v0 = shapeCast S64x32x1024 (m ((c : Thread nD τ).loc main_arg0)) shapeCasts_S1x64x32x32x32_S64x32x1024 := by
  unfold V
  simp only [hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append, List.nil_append, TRef.ternary, TRef.unary, TRef.toBuf, TRef.ofBuf, cast_eq]
  after_reads_simp
  rfl

theorem read_v1 : V m c main_v1 = shapeCast S64x32x1024 (m ((c : Thread nD τ).loc main_arg1)) shapeCasts_S1x64x32x32x32_S64x32x1024 := by
  unfold V
  simp only [hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append, List.nil_append, TRef.ternary, TRef.unary, TRef.toBuf, TRef.ofBuf, cast_eq]
  after_reads_simp
  rfl

theorem read_v39 : V m c main_v39 = weights16 := by
  unfold V
  simp only [hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append, List.nil_append, TRef.ternary, TRef.unary, TRef.toBuf, TRef.ofBuf, cast_eq]
  after_reads_simp
  rfl

theorem read_v77 : V m c main_v77 = weights8 := by
  unfold V
  simp only [hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append, List.nil_append, TRef.ternary, TRef.unary, TRef.toBuf, TRef.ofBuf, cast_eq]
  after_reads_simp
  rfl

theorem read_v90 : V m c main_v90 = truncf .bf16 (pair16 weights16) bitsLt_bf16_f32 := by
  unfold V
  simp only [hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append, List.nil_append, TRef.ternary, TRef.unary, TRef.toBuf, TRef.ofBuf, cast_eq]
  after_reads_simp
  rfl

theorem read_v93 : V m c main_v93 = truncf .bf16 (subf (pair16 weights16) (extf .f32 (truncf .bf16 (pair16 weights16) bitsLt_bf16_f32) bitsLt_bf16_f32)) bitsLt_bf16_f32 := by
  unfold V
  simp only [hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append, List.nil_append, TRef.ternary, TRef.unary, TRef.toBuf, TRef.ofBuf, cast_eq]
  after_reads_simp
  rfl

theorem read_v100 : V m c main_v100 = truncf .bf16 (pair8 weights8) bitsLt_bf16_f32 := by
  unfold V
  simp only [hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append, List.nil_append, TRef.ternary, TRef.unary, TRef.toBuf, TRef.ofBuf, cast_eq]
  after_reads_simp
  rfl

theorem read_v103 : V m c main_v103 = truncf .bf16 (subf (pair8 weights8) (extf .f32 (truncf .bf16 (pair8 weights8) bitsLt_bf16_f32) bitsLt_bf16_f32)) bitsLt_bf16_f32 := by
  unfold V
  simp only [hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append, List.nil_append, TRef.ternary, TRef.unary, TRef.toBuf, TRef.ofBuf, cast_eq]
  after_reads_simp
  rfl

theorem read_v110 : V m c main_v110 = truncf .bf16 (diag16 weights16) bitsLt_bf16_f32 := by
  unfold V
  simp only [hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append, List.nil_append, TRef.ternary, TRef.unary, TRef.toBuf, TRef.ofBuf, cast_eq]
  after_reads_simp
  rfl

theorem read_v113 : V m c main_v113 = truncf .bf16 (subf (diag16 weights16) (extf .f32 (truncf .bf16 (diag16 weights16) bitsLt_bf16_f32) bitsLt_bf16_f32)) bitsLt_bf16_f32 := by
  unfold V
  simp only [hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append, List.nil_append, TRef.ternary, TRef.unary, TRef.toBuf, TRef.ofBuf, cast_eq]
  after_reads_simp
  rfl

theorem read_v120 : V m c main_v120 = truncf .bf16 (diag8 weights8) bitsLt_bf16_f32 := by
  unfold V
  simp only [hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append, List.nil_append, TRef.ternary, TRef.unary, TRef.toBuf, TRef.ofBuf, cast_eq]
  after_reads_simp
  rfl

theorem read_v123 : V m c main_v123 = truncf .bf16 (subf (diag8 weights8) (extf .f32 (truncf .bf16 (diag8 weights8) bitsLt_bf16_f32) bitsLt_bf16_f32)) bitsLt_bf16_f32 := by
  unfold V
  simp only [hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append, List.nil_append, TRef.ternary, TRef.unary, TRef.toBuf, TRef.ofBuf, cast_eq]
  after_reads_simp
  rfl

end Cert.ResizeRead

end
-- ==== Proof.ResizeSum.lean ====
/- The sums of a resize: products with weights for two axes at once, then with weights for one axis of 16 channels at once,
   are the three sums over the axes. -/
module

public import proofs.«01_k».proof.Proof.ResizeRef

@[expose] public section

noncomputable section

namespace Cert.ResizeSum

open Cert.ResizeRef

/-- A sum over 512 rows, by channel and row of the channel. -/
theorem sum_rows {M : Type} [AddCommMonoid M] (f : Fin 16 → Fin 32 → M) :
    ∑ r : Fin 512, f ⟨r / 32, by omega⟩ ⟨r % 32, by omega⟩ = ∑ a : Fin 16, ∑ d : Fin 32, f a d := by
  rw [← Fintype.sum_prod_type' (f := f)]
  exact Fintype.sum_equiv (finProdFinEquiv (m := 16) (n := 32)).symm (fun r : Fin 512 => f ⟨r / 32, by omega⟩ ⟨r % 32, by omega⟩) _ fun r => rfl

/-- A sum over 1024 positions, by row and column. -/
theorem sum_plane {M : Type} [AddCommMonoid M] (f : Fin 32 → Fin 32 → M) :
    ∑ p : Fin 1024, f ⟨p / 32, by omega⟩ ⟨p % 32, by omega⟩ = ∑ h : Fin 32, ∑ l : Fin 32, f h l := by
  rw [← Fintype.sum_prod_type' (f := f)]
  exact Fintype.sum_equiv (finProdFinEquiv (m := 32) (n := 32)).symm (fun p : Fin 1024 => f ⟨p / 32, by omega⟩ ⟨p % 32, by omega⟩) _ fun p => rfl

/-- The two products over the reals. -/
theorem sums_real {N : ℕ} (w : Fin 32 → Fin N → ℝ) (x : Fin 16 → Fin 32 → Fin 32 → Fin 32 → ℝ) (a : Fin 16) (i j k : Fin N) :
    ∑ b : Fin 16, ∑ d : Fin 32, (∑ h : Fin 32, ∑ l : Fin 32, x b d h l * (w h j * w l k)) * ((if b = a then 1 else 0) * w d i) =
      ∑ l : Fin 32, (∑ h : Fin 32, w h j * ∑ d : Fin 32, w d i * x a d h l) * w l k := by
  rw [Finset.sum_eq_single a (fun b _ hb => by simp [hb]) (by simp)]
  simp only [if_true, one_mul, Finset.sum_mul, Finset.mul_sum]
  rw [Finset.sum_comm_cycle]
  refine Finset.sum_congr rfl fun l _ => ?_
  rw [Finset.sum_comm]
  refine Finset.sum_congr rfl fun h _ => Finset.sum_congr rfl fun d _ => ?_
  ring

/-- The two products over extended reals that are real. -/
theorem sums_eq {N : ℕ} (w : Fin 32 → Fin N → EReal) (hw : ∀ d i, Real' (w d i)) (x : Fin 16 → Fin 32 → Fin 32 → Fin 32 → EReal)
    (hx : ∀ b d h l, Real' (x b d h l)) (a : Fin 16) (i j k : Fin N) :
    ∑ r : Fin 512, (∑ p : Fin 1024, x ⟨r / 32, by omega⟩ ⟨r % 32, by omega⟩ ⟨p / 32, by omega⟩ ⟨p % 32, by omega⟩ *
        (w ⟨p / 32, by omega⟩ j * w ⟨p % 32, by omega⟩ k)) * ((if (⟨r / 32, by omega⟩ : Fin 16) = a then 1 else 0) * w ⟨r % 32, by omega⟩ i) =
      ∑ l : Fin 32, (∑ h : Fin 32, w h j * ∑ d : Fin 32, w d i * x a d h l) * w l k := by
  choose w' hw' using hw
  choose x' hx' using hx
  obtain rfl : w = fun d i => (w' d i : EReal) := by funext d i; exact hw' d i
  obtain rfl : x = fun b d h l => (x' b d h l : EReal) := by funext b d h l; exact hx' b d h l
  rw [sum_rows fun b d => (∑ p : Fin 1024, (x' b d ⟨p / 32, by omega⟩ ⟨p % 32, by omega⟩ : EReal) *
        ((w' ⟨p / 32, by omega⟩ j : EReal) * (w' ⟨p % 32, by omega⟩ k : EReal))) * ((if b = a then 1 else 0) * (w' d i : EReal))]
  have e : ∀ b d, ∑ p : Fin 1024, (x' b d ⟨p / 32, by omega⟩ ⟨p % 32, by omega⟩ : EReal) *
        ((w' ⟨p / 32, by omega⟩ j : EReal) * (w' ⟨p % 32, by omega⟩ k : EReal)) =
      ((∑ h : Fin 32, ∑ l : Fin 32, x' b d h l * (w' h j * w' l k) : ℝ) : EReal) := by
    intro b d
    rw [sum_plane fun h l => (x' b d h l : EReal) * ((w' h j : EReal) * (w' l k : EReal))]
    simp only [← EReal.coe_mul, LossSpec.coe_sum]
  have f : ∀ b : Fin 16, (if b = a then (1 : EReal) else 0) = (((if b = a then 1 else 0 : ℝ)) : EReal) := by
    intro b; split_ifs <;> simp
  simp only [e, f]
  simp only [← EReal.coe_mul, LossSpec.coe_sum]
  rw [sums_real]

/-- A factor split in two, the second part zero, against weights whose second part is zero: the plain sum of products. -/
theorem split_eq {K : ℕ} (u hi lo : Fin K → EReal) (hu : ∀ k, Real' (u k)) (hlo : ∀ k, lo k = 0) :
    (∑ k, u k * hi k + ∑ k, u k * lo k) + ∑ k, (u k - u k) * hi k = ∑ k, u k * hi k := by
  have h0 : ∀ k, u k - u k = 0 := by
    intro k
    obtain ⟨r, h⟩ := hu k
    rw [h, ← EReal.coe_sub, sub_self, EReal.coe_zero]
  simp [h0, hlo]

/-- A split factor against split weights, all real, is real. -/
theorem split_real {K : ℕ} (u hi lo : Fin K → EReal) (hu : ∀ k, Real' (u k)) (hhi : ∀ k, Real' (hi k)) (hlo : ∀ k, lo k = 0) :
    Real' ((∑ k, u k * hi k + ∑ k, u k * lo k) + ∑ k, (u k - u k) * hi k) := by
  rw [split_eq u hi lo hu hlo]
  exact Real'.sum fun k => (hu k).mul (hhi k)

/-- Both products with every factor split, as the kernel takes them, are the sums over the three axes. -/
theorem products_eq {N : ℕ} (w : Fin 32 → Fin N → EReal) (hw : ∀ d i, Real' (w d i)) (x : Fin 16 → Fin 32 → Fin 1024 → EReal)
    (hx : ∀ b d p, Real' (x b d p)) (a : Fin 16) (i j k : Fin N) (K Kl : Fin 1024 → EReal) (B Bl : Fin 512 → EReal)
    (hK : ∀ p : Fin 1024, K p = w ⟨p / 32, by omega⟩ j * w ⟨p % 32, by omega⟩ k) (hKl : ∀ p, Kl p = 0)
    (hB : ∀ r : Fin 512, B r = (if (⟨r / 32, by omega⟩ : Fin 16) = a then 1 else 0) * w ⟨r % 32, by omega⟩ i) (hBl : ∀ r, Bl r = 0)
    (y : Fin 512 → EReal) (hy : ∀ r : Fin 512, y r = (∑ p, x ⟨r / 32, by omega⟩ ⟨r % 32, by omega⟩ p * K p + ∑ p, x ⟨r / 32, by omega⟩ ⟨r % 32, by omega⟩ p * Kl p) +
      ∑ p, (x ⟨r / 32, by omega⟩ ⟨r % 32, by omega⟩ p - x ⟨r / 32, by omega⟩ ⟨r % 32, by omega⟩ p) * K p) :
    (∑ r, y r * B r + ∑ r, y r * Bl r) + ∑ r, (y r - y r) * B r =
      ∑ l : Fin 32, (∑ h : Fin 32, w h j * ∑ d : Fin 32, w d i * x a d ⟨h * 32 + l, by omega⟩) * w l k := by
  have hK' : ∀ p, Real' (K p) := fun p => hK p ▸ (hw _ _).mul (hw _ _)
  rw [split_eq y B Bl (fun r => hy r ▸ split_real _ _ _ (hx _ _) hK' hKl) hBl,
    ← sums_eq w hw (fun b d h l => x b d ⟨h * 32 + l, by omega⟩) (fun _ _ _ _ => hx _ _ _) a i j k]
  refine Finset.sum_congr rfl fun r _ => ?_
  rw [hy r, split_eq _ _ _ (hx _ _) hKl, hB r]
  congr 1
  refine Finset.sum_congr rfl fun p _ => ?_
  rw [hK p]
  congr 2
  exact Fin.ext (by show (p : ℕ) = p / 32 * 32 + p % 32; omega)

end Cert.ResizeSum

end
-- ==== Proof.ResizeVal.lean ====
/- What the resize kernel's four products of two come to, on real blocks. -/
module

public import proofs.«01_k».proof.Proof.ResizeRead
public import proofs.«01_k».proof.Proof.ResizeSum

@[expose] public section

set_option maxRecDepth 16384

noncomputable section

namespace Cert.ResizeVal

open Idealize.ShloMosaic Idealize.ShloMosaic.TcCoe Idealize.ShloMosaic.Tactic Idealize.SL.Sem Idealize.ShloMosaic.StableHlo Idealize.ShloMosaic.Layout
open Cert.ResizeIdeal Cert.ResizeIdeal.Gen Cert.ResizeRef

/-- The source's block at 16 × 16 × 16. -/
theorem source16_eq (w : FVec Ideal S32x16 .f32) (hw : ∀ d i, Real' (w (ix2 d i))) (x : Vec Ideal S16x32x1024 .f32) (hx : ∀ b d p, Real' (x (ix3 b d p)))
    (K Kl : Vec Ideal S1024x256 .bf16) (B Bl : Vec Ideal S512x256 .bf16)
    (hK : ∀ (p : Fin 1024) (q : Fin 256), K (ix2 p q) = w (ix2 (⟨p / 32, by omega⟩ : Fin 32) (⟨q / 16, by omega⟩ : Fin 16)) * w (ix2 (⟨p % 32, by omega⟩ : Fin 32) (⟨q % 16, by omega⟩ : Fin 16)))
    (hKl : ∀ p q, Kl (ix2 p q) = 0)
    (hB : ∀ (r : Fin 512) (a : Fin 256), B (ix2 r a) = (if (⟨r / 32, by omega⟩ : Fin 16) = ⟨a / 16, by omega⟩ then 1 else 0) * w (ix2 (⟨r % 32, by omega⟩ : Fin 32) (⟨a % 16, by omega⟩ : Fin 16)))
    (hBl : ∀ r a, Bl (ix2 r a) = 0) (a : Fin 16) (i : Fin 16) (q : Fin 256) :
    k0_pay16 (k0_pay7 B) (k0_pay8 Bl) (k0_pay15 K Kl x) (ix3 a i q) = ∑ l : Fin 32, (∑ h : Fin 32, w (ix2 h (⟨q / 16, by omega⟩ : Fin 16)) * ∑ d : Fin 32, w (ix2 d i) * x (ix3 a d (⟨h * 32 + l, by omega⟩ : Fin 1024))) * w (ix2 l (⟨q % 16, by omega⟩ : Fin 16)) := by
  have hB' : ∀ r : Fin 512, B (ix2 r (⟨a * 16 + i, by omega⟩ : Fin 256)) = (if (⟨r / 32, by omega⟩ : Fin 16) = a then 1 else 0) * w (ix2 (⟨r % 32, by omega⟩ : Fin 32) i) := by
    intro r
    rw [hB]
    have e1 : (⟨((a : ℕ) * 16 + i) / 16, by omega⟩ : Fin 16) = a := Fin.ext (by show ((a : ℕ) * 16 + i) / 16 = a; omega)
    have e2 : (⟨((a : ℕ) * 16 + i) % 16, by omega⟩ : Fin 16) = i := Fin.ext (by show ((a : ℕ) * 16 + i) % 16 = i; omega)
    simp only [e1, e2]
  unfold k0_pay16 k0_pay15 k0_pay13 k0_pay12 k0_pay11 k0_pay3 k0_pay4 k0_pay7 k0_pay8
  pointwise
  exact ResizeSum.products_eq (fun d i => w (ix2 d i)) hw (fun b d p => x (ix3 b d p)) hx a i _ _ _ _ _ _ (fun p => hK p q) (fun p => hKl p q) hB' (fun r => hBl r _) _ fun r => rfl

/-- The target's block at 16 × 16 × 16. -/
theorem target16_eq (w : FVec Ideal S32x16 .f32) (hw : ∀ d i, Real' (w (ix2 d i))) (x : Vec Ideal S16x32x1024 .f32) (hx : ∀ b d p, Real' (x (ix3 b d p)))
    (K Kl : Vec Ideal S1024x256 .bf16) (B Bl : Vec Ideal S512x256 .bf16)
    (hK : ∀ (p : Fin 1024) (q : Fin 256), K (ix2 p q) = w (ix2 (⟨p / 32, by omega⟩ : Fin 32) (⟨q / 16, by omega⟩ : Fin 16)) * w (ix2 (⟨p % 32, by omega⟩ : Fin 32) (⟨q % 16, by omega⟩ : Fin 16)))
    (hKl : ∀ p q, Kl (ix2 p q) = 0)
    (hB : ∀ (r : Fin 512) (a : Fin 256), B (ix2 r a) = (if (⟨r / 32, by omega⟩ : Fin 16) = ⟨a / 16, by omega⟩ then 1 else 0) * w (ix2 (⟨r % 32, by omega⟩ : Fin 32) (⟨a % 16, by omega⟩ : Fin 16)))
    (hBl : ∀ r a, Bl (ix2 r a) = 0) (a : Fin 16) (i : Fin 16) (q : Fin 256) :
    k0_pay1 (k0_pay7 B) (k0_pay8 Bl) (k0_pay21 (k0_pay3 K) (k0_pay4 Kl) x) (ix3 a i q) = ∑ l : Fin 32, (∑ h : Fin 32, w (ix2 h (⟨q / 16, by omega⟩ : Fin 16)) * ∑ d : Fin 32, w (ix2 d i) * x (ix3 a d (⟨h * 32 + l, by omega⟩ : Fin 1024))) * w (ix2 l (⟨q % 16, by omega⟩ : Fin 16)) := by
  have hB' : ∀ r : Fin 512, B (ix2 r (⟨a * 16 + i, by omega⟩ : Fin 256)) = (if (⟨r / 32, by omega⟩ : Fin 16) = a then 1 else 0) * w (ix2 (⟨r % 32, by omega⟩ : Fin 32) i) := by
    intro r
    rw [hB]
    have e1 : (⟨((a : ℕ) * 16 + i) / 16, by omega⟩ : Fin 16) = a := Fin.ext (by show ((a : ℕ) * 16 + i) / 16 = a; omega)
    have e2 : (⟨((a : ℕ) * 16 + i) % 16, by omega⟩ : Fin 16) = i := Fin.ext (by show ((a : ℕ) * 16 + i) % 16 = i; omega)
    simp only [e1, e2]
  unfold k0_pay1 k0_pay21 k0_pay20 k0_pay19 k0_pay18 k0_pay3 k0_pay4 k0_pay7 k0_pay8
  pointwise
  exact ResizeSum.products_eq (fun d i => w (ix2 d i)) hw (fun b d p => x (ix3 b d p)) hx a i _ _ _ _ _ _ (fun p => hK p q) (fun p => hKl p q) hB' (fun r => hBl r _) _ fun r => rfl

/-- The source's block at 8 × 8 × 8. -/
theorem source8_eq (w : FVec Ideal S32x8 .f32) (hw : ∀ d i, Real' (w (ix2 d i))) (x : Vec Ideal S16x32x1024 .f32) (hx : ∀ b d p, Real' (x (ix3 b d p)))
    (K Kl : Vec Ideal S1024x64 .bf16) (B Bl : Vec Ideal S512x128 .bf16)
    (hK : ∀ (p : Fin 1024) (q : Fin 64), K (ix2 p q) = w (ix2 (⟨p / 32, by omega⟩ : Fin 32) (⟨q / 8, by omega⟩ : Fin 8)) * w (ix2 (⟨p % 32, by omega⟩ : Fin 32) (⟨q % 8, by omega⟩ : Fin 8)))
    (hKl : ∀ p q, Kl (ix2 p q) = 0)
    (hB : ∀ (r : Fin 512) (a : Fin 128), B (ix2 r a) = (if (⟨r / 32, by omega⟩ : Fin 16) = ⟨a / 8, by omega⟩ then 1 else 0) * w (ix2 (⟨r % 32, by omega⟩ : Fin 32) (⟨a % 8, by omega⟩ : Fin 8)))
    (hBl : ∀ r a, Bl (ix2 r a) = 0) (a : Fin 16) (i : Fin 8) (q : Fin 64) :
    k0_pay17 (k0_pay9 B) (k0_pay10 Bl) (k0_pay14 K Kl x) (ix3 a i q) = ∑ l : Fin 32, (∑ h : Fin 32, w (ix2 h (⟨q / 8, by omega⟩ : Fin 8)) * ∑ d : Fin 32, w (ix2 d i) * x (ix3 a d (⟨h * 32 + l, by omega⟩ : Fin 1024))) * w (ix2 l (⟨q % 8, by omega⟩ : Fin 8)) := by
  have hB' : ∀ r : Fin 512, B (ix2 r (⟨a * 8 + i, by omega⟩ : Fin 128)) = (if (⟨r / 32, by omega⟩ : Fin 16) = a then 1 else 0) * w (ix2 (⟨r % 32, by omega⟩ : Fin 32) i) := by
    intro r
    rw [hB]
    have e1 : (⟨((a : ℕ) * 8 + i) / 8, by omega⟩ : Fin 16) = a := Fin.ext (by show ((a : ℕ) * 8 + i) / 8 = a; omega)
    have e2 : (⟨((a : ℕ) * 8 + i) % 8, by omega⟩ : Fin 8) = i := Fin.ext (by show ((a : ℕ) * 8 + i) % 8 = i; omega)
    simp only [e1, e2]
  unfold k0_pay17 k0_pay14 k0_pay13 k0_pay12 k0_pay11 k0_pay5 k0_pay6 k0_pay9 k0_pay10
  pointwise
  exact ResizeSum.products_eq (fun d i => w (ix2 d i)) hw (fun b d p => x (ix3 b d p)) hx a i _ _ _ _ _ _ (fun p => hK p q) (fun p => hKl p q) hB' (fun r => hBl r _) _ fun r => rfl

/-- The target's block at 8 × 8 × 8. -/
theorem target8_eq (w : FVec Ideal S32x8 .f32) (hw : ∀ d i, Real' (w (ix2 d i))) (x : Vec Ideal S16x32x1024 .f32) (hx : ∀ b d p, Real' (x (ix3 b d p)))
    (K Kl : Vec Ideal S1024x64 .bf16) (B Bl : Vec Ideal S512x128 .bf16)
    (hK : ∀ (p : Fin 1024) (q : Fin 64), K (ix2 p q) = w (ix2 (⟨p / 32, by omega⟩ : Fin 32) (⟨q / 8, by omega⟩ : Fin 8)) * w (ix2 (⟨p % 32, by omega⟩ : Fin 32) (⟨q % 8, by omega⟩ : Fin 8)))
    (hKl : ∀ p q, Kl (ix2 p q) = 0)
    (hB : ∀ (r : Fin 512) (a : Fin 128), B (ix2 r a) = (if (⟨r / 32, by omega⟩ : Fin 16) = ⟨a / 8, by omega⟩ then 1 else 0) * w (ix2 (⟨r % 32, by omega⟩ : Fin 32) (⟨a % 8, by omega⟩ : Fin 8)))
    (hBl : ∀ r a, Bl (ix2 r a) = 0) (a : Fin 16) (i : Fin 8) (q : Fin 64) :
    k0_pay2 (k0_pay5 K) (k0_pay6 Kl) (k0_pay9 B) (k0_pay10 Bl) (k0_pay19 x) (k0_pay20 x) (k0_pay22 (k0_pay5 K) x) (constant S512x64 .f32 0x00000000#32) (ix3 a i q) = ∑ l : Fin 32, (∑ h : Fin 32, w (ix2 h (⟨q / 8, by omega⟩ : Fin 8)) * ∑ d : Fin 32, w (ix2 d i) * x (ix3 a d (⟨h * 32 + l, by omega⟩ : Fin 1024))) * w (ix2 l (⟨q % 8, by omega⟩ : Fin 8)) := by
  have hB' : ∀ r : Fin 512, B (ix2 r (⟨a * 8 + i, by omega⟩ : Fin 128)) = (if (⟨r / 32, by omega⟩ : Fin 16) = a then 1 else 0) * w (ix2 (⟨r % 32, by omega⟩ : Fin 32) i) := by
    intro r
    rw [hB]
    have e1 : (⟨((a : ℕ) * 8 + i) / 8, by omega⟩ : Fin 16) = a := Fin.ext (by show ((a : ℕ) * 8 + i) / 8 = a; omega)
    have e2 : (⟨((a : ℕ) * 8 + i) % 8, by omega⟩ : Fin 8) = i := Fin.ext (by show ((a : ℕ) * 8 + i) % 8 = i; omega)
    simp only [e1, e2]
  unfold k0_pay2 k0_pay22 k0_pay20 k0_pay19 k0_pay18 k0_pay5 k0_pay6 k0_pay9 k0_pay10
  pointwise
  exact ResizeSum.products_eq (fun d i => w (ix2 d i)) hw (fun b d p => x (ix3 b d p)) hx a i _ _ _ _ _ _ (fun p => hK p q) (fun p => hKl p q) hB' (fun r => hBl r _) _ fun r => rfl

/-- The three sums over a block of 16 channels are the resized volume there. -/
theorem sums16 (w : FVec Ideal S32x16 .f32) (v : FVec Ideal S1x64x32x32x32 .f32) (x : Vec Ideal S16x32x1024 .f32) (s : ℕ) (hs : s < 4)
    (hx : ∀ (b : Fin 16) (d : Fin 32) (p : Fin 1024), x (ix3 b d p) = v (ix5 0 (⟨s * 16 + b, by omega⟩ : Fin 64) d (⟨p / 32, by omega⟩ : Fin 32) (⟨p % 32, by omega⟩ : Fin 32)))
    (a : Fin 16) (i : Fin 16) (q : Fin 256) :
    (∑ l : Fin 32, (∑ h : Fin 32, w (ix2 h (⟨q / 16, by omega⟩ : Fin 16)) * ∑ d : Fin 32, w (ix2 d i) * x (ix3 a d (⟨h * 32 + l, by omega⟩ : Fin 1024))) * w (ix2 l (⟨q % 16, by omega⟩ : Fin 16))) =
      resized16 w v (ix3 (⟨s * 16 + a, by omega⟩ : Fin 64) i q) := by
  refine Eq.trans ?_ (resized16_eq w v _ i q).symm
  refine Finset.sum_congr rfl fun l _ => congrArg (· * _) (Finset.sum_congr rfl fun h _ => congrArg (_ * ·) (Finset.sum_congr rfl fun d _ => congrArg (_ * ·) ?_))
  rw [hx]
  have e1 : (⟨((h : ℕ) * 32 + l) / 32, by omega⟩ : Fin 32) = h := Fin.ext (by show ((h : ℕ) * 32 + l) / 32 = h; omega)
  have e2 : (⟨((h : ℕ) * 32 + l) % 32, by omega⟩ : Fin 32) = l := Fin.ext (by show ((h : ℕ) * 32 + l) % 32 = l; omega)
  simp only [e1, e2]

/-- The three sums over a block of 16 channels are the resized volume there. -/
theorem sums8 (w : FVec Ideal S32x8 .f32) (v : FVec Ideal S1x64x32x32x32 .f32) (x : Vec Ideal S16x32x1024 .f32) (s : ℕ) (hs : s < 4)
    (hx : ∀ (b : Fin 16) (d : Fin 32) (p : Fin 1024), x (ix3 b d p) = v (ix5 0 (⟨s * 16 + b, by omega⟩ : Fin 64) d (⟨p / 32, by omega⟩ : Fin 32) (⟨p % 32, by omega⟩ : Fin 32)))
    (a : Fin 16) (i : Fin 8) (q : Fin 64) :
    (∑ l : Fin 32, (∑ h : Fin 32, w (ix2 h (⟨q / 8, by omega⟩ : Fin 8)) * ∑ d : Fin 32, w (ix2 d i) * x (ix3 a d (⟨h * 32 + l, by omega⟩ : Fin 1024))) * w (ix2 l (⟨q % 8, by omega⟩ : Fin 8))) =
      resized8 w v (ix3 (⟨s * 16 + a, by omega⟩ : Fin 64) i q) := by
  refine Eq.trans ?_ (resized8_eq w v _ i q).symm
  refine Finset.sum_congr rfl fun l _ => congrArg (· * _) (Finset.sum_congr rfl fun h _ => congrArg (_ * ·) (Finset.sum_congr rfl fun d _ => congrArg (_ * ·) ?_))
  rw [hx]
  have e1 : (⟨((h : ℕ) * 32 + l) / 32, by omega⟩ : Fin 32) = h := Fin.ext (by show ((h : ℕ) * 32 + l) / 32 = h; omega)
  have e2 : (⟨((h : ℕ) * 32 + l) % 32, by omega⟩ : Fin 32) = l := Fin.ext (by show ((h : ℕ) * 32 + l) % 32 = l; omega)
  simp only [e1, e2]

end Cert.ResizeVal

end
-- ==== Proof.ResizeClaim.lean ====
/- The claims about the resize. -/
module

public import proofs.«01_k».proof.Defs
public import proofs.«01_k».proof.Proof.ResizeVal
public import proofs.«01_k».proof.Proof.Gen.Pre_finite1
public import Idealize.ShloMosaic.Lib.ReduceAll
public import Idealize.ShloMosaic.Lib.Claim
public import Idealize.ShloMosaic.Lib.Pipeline.ValueKit
public import proofs.«01_k».proof.Proof.LossClaim

@[expose] public section

set_option maxRecDepth 16384

noncomputable section

namespace Cert.ResizeClaim

open Idealize.ShloMosaic Idealize.ShloMosaic.TcCoe Idealize.ShloMosaic.Tactic Idealize.SL.Sem Idealize.ShloMosaic.Layout Idealize.ShloMosaic.Pipeline
open Cert.ResizeRef Cert.ResizeRead

/-- What the precondition says of the two volumes. -/
theorem finite_of_pre (s t : FVec Ideal Cert.Pre_finite1.S1x64x32x32x32 .f32)
    (h : Cert.Pre_finite1.fn (F := Ideal) s t = fun _ => 1#1) : (∀ i, Real' (s i)) ∧ ∀ i, Real' (t i) := by
  have h0 := congrFun h ix0
  haveI : Subsingleton Cert.Pre_finite1.S_.Idx := ⟨fun a b => funext fun i => i.elim0⟩
  obtain ⟨h1, h2⟩ := LossClaim.i1_and h0
  exact ⟨fun i => LossClaim.real_of_abs_lt (LossClaim.inf_eq ▸ Host.reduce_andi_all _ _ _ _ _ h1 i),
    fun i => LossClaim.real_of_abs_lt (LossClaim.inf_eq ▸ Host.reduce_andi_all _ _ _ _ _ h2 i)⟩

section
open Cert.ResizeIdeal Cert.ResizeIdeal.Gen

variable (m : (ℓ : Loc nD τ sig) → Buf (Elt Ideal) ℓ) (c : Dev nD)

/-- The source volume. -/
abbrev src : FVec Ideal S1x64x32x32x32 .f32 := m ((c : Thread nD τ).loc main_arg0)
/-- The target volume. -/
abbrev tgt : FVec Ideal S1x64x32x32x32 .f32 := m ((c : Thread nD τ).loc main_arg1)

theorem index_whole : ∀ t : Fin cfg0.N, (∀ a, win0_2.index t a = 0) ∧ (∀ a, win0_3.index t a = 0) ∧ (∀ a, win0_4.index t a = 0) ∧
    (∀ a, win0_5.index t a = 0) ∧ (∀ a, win0_6.index t a = 0) ∧ (∀ a, win0_7.index t a = 0) ∧ (∀ a, win0_8.index t a = 0) ∧
    (∀ a, win0_9.index t a = 0) := by decide +kernel

theorem index_chan : ∀ t : Fin cfg0.N, win0_0.index t = ![t.val, 0, 0] ∧ win0_1.index t = ![t.val, 0, 0] ∧ win0_10.index t = ![t.val, 0, 0] ∧
    win0_11.index t = ![t.val, 0, 0] ∧ win0_12.index t = ![t.val, 0, 0] ∧ win0_13.index t = ![t.val, 0, 0] := by decide +kernel

theorem N_le (t : Fin cfg0.N) : t.val < 4 := lt_of_lt_of_eq t.isLt (by decide +kernel)

theorem vol_apply (x : FVec Ideal S1x64x32x32x32 .f32) (a : Fin 64) (d : Fin 32) (p : Fin 1024) :
    shapeCast S64x32x1024 x shapeCasts_S1x64x32x32x32_S64x32x1024 (ix3 a d p) = x (ix5 0 a d (⟨p / 32, by omega⟩ : Fin 32) (⟨p % 32, by omega⟩ : Fin 32)) := by
  pointwise

theorem blk0 (t : Fin cfg0.N) (b : Fin 16) (d : Fin 32) (p : Fin 1024) : iblk m c 0 t (ix3 b d p) =
    src m c (ix5 0 (⟨t.val * 16 + b, by have := N_le t; omega⟩ : Fin 64) d (⟨p / 32, by omega⟩ : Fin 32) (⟨p % 32, by omega⟩ : Fin 32)) := by
  refine Eq.trans ?_ (vol_apply (src m c) _ d p)
  rw [← read_v0]
  blk_ext [iblk, (index_chan t).1]

theorem blk1 (t : Fin cfg0.N) (b : Fin 16) (d : Fin 32) (p : Fin 1024) : iblk m c 1 t (ix3 b d p) =
    tgt m c (ix5 0 (⟨t.val * 16 + b, by have := N_le t; omega⟩ : Fin 64) d (⟨p / 32, by omega⟩ : Fin 32) (⟨p % 32, by omega⟩ : Fin 32)) := by
  refine Eq.trans ?_ (vol_apply (tgt m c) _ d p)
  rw [← read_v1]
  blk_ext [iblk, (index_chan t).2.1]

theorem blk2 (t : Fin cfg0.N) : iblk m c 2 t = V m c main_v90 := by
  funext j
  idx_vars j
  blk_ext [iblk, (index_whole t).1]

theorem blk3 (t : Fin cfg0.N) : iblk m c 3 t = V m c main_v93 := by
  funext j
  idx_vars j
  blk_ext [iblk, (index_whole t).2.1]

theorem blk4 (t : Fin cfg0.N) : iblk m c 4 t = V m c main_v100 := by
  funext j
  idx_vars j
  blk_ext [iblk, (index_whole t).2.2.1]

theorem blk5 (t : Fin cfg0.N) : iblk m c 5 t = V m c main_v103 := by
  funext j
  idx_vars j
  blk_ext [iblk, (index_whole t).2.2.2.1]

theorem blk6 (t : Fin cfg0.N) : iblk m c 6 t = V m c main_v110 := by
  funext j
  idx_vars j
  blk_ext [iblk, (index_whole t).2.2.2.2.1]

theorem blk7 (t : Fin cfg0.N) : iblk m c 7 t = V m c main_v113 := by
  funext j
  idx_vars j
  blk_ext [iblk, (index_whole t).2.2.2.2.2.1]

theorem blk8 (t : Fin cfg0.N) : iblk m c 8 t = V m c main_v120 := by
  funext j
  idx_vars j
  blk_ext [iblk, (index_whole t).2.2.2.2.2.2.1]

theorem blk9 (t : Fin cfg0.N) : iblk m c 9 t = V m c main_v123 := by
  funext j
  idx_vars j
  blk_ext [iblk, (index_whole t).2.2.2.2.2.2.2]

/-- A real less itself is nothing. -/
theorem sub_self_real {x : EReal} (h : Real' x) : x - x = 0 := by
  obtain ⟨r, rfl⟩ := h
  rw [← EReal.coe_sub, sub_self, EReal.coe_zero]

theorem hi_plane16 (t : Fin cfg0.N) (p : Fin 1024) (q : Fin 256) : iblk m c 2 t (ix2 p q) =
    weights16 (ix2 (⟨p / 32, by omega⟩ : Fin 32) (⟨q / 16, by omega⟩ : Fin 16)) * weights16 (ix2 (⟨p % 32, by omega⟩ : Fin 32) (⟨q % 16, by omega⟩ : Fin 16)) := by
  rw [blk2, read_v90]
  exact pair16_apply _ p q

theorem lo_plane16 (t : Fin cfg0.N) (p : Fin 1024) (q : Fin 256) : iblk m c 3 t (ix2 p q) = (0 : EReal) := by
  rw [blk3, read_v93]
  show pair16 weights16 (ix2 p q) - pair16 weights16 (ix2 p q) = 0
  rw [pair16_apply]
  exact sub_self_real ((weights16_real _ _).mul (weights16_real _ _))

theorem hi_chan16 (t : Fin cfg0.N) (r : Fin 512) (a : Fin 256) : iblk m c 6 t (ix2 r a) =
    (if (⟨r / 32, by omega⟩ : Fin 16) = ⟨a / 16, by omega⟩ then 1 else 0) * weights16 (ix2 (⟨r % 32, by omega⟩ : Fin 32) (⟨a % 16, by omega⟩ : Fin 16)) := by
  rw [blk6, read_v110, ← eye_apply]
  exact diag16_apply _ r a

theorem lo_chan16 (t : Fin cfg0.N) (r : Fin 512) (a : Fin 256) : iblk m c 7 t (ix2 r a) = (0 : EReal) := by
  rw [blk7, read_v113]
  show diag16 weights16 (ix2 r a) - diag16 weights16 (ix2 r a) = 0
  rw [diag16_apply, eye_apply]
  refine sub_self_real (Real'.mul ?_ (weights16_real _ _))
  split_ifs
  · exact Real'.one
  · exact Real'.zero

theorem hi_plane8 (t : Fin cfg0.N) (p : Fin 1024) (q : Fin 64) : iblk m c 4 t (ix2 p q) =
    weights8 (ix2 (⟨p / 32, by omega⟩ : Fin 32) (⟨q / 8, by omega⟩ : Fin 8)) * weights8 (ix2 (⟨p % 32, by omega⟩ : Fin 32) (⟨q % 8, by omega⟩ : Fin 8)) := by
  rw [blk4, read_v100]
  exact pair8_apply _ p q

theorem lo_plane8 (t : Fin cfg0.N) (p : Fin 1024) (q : Fin 64) : iblk m c 5 t (ix2 p q) = (0 : EReal) := by
  rw [blk5, read_v103]
  show pair8 weights8 (ix2 p q) - pair8 weights8 (ix2 p q) = 0
  rw [pair8_apply]
  exact sub_self_real ((weights8_real _ _).mul (weights8_real _ _))

theorem hi_chan8 (t : Fin cfg0.N) (r : Fin 512) (a : Fin 128) : iblk m c 8 t (ix2 r a) =
    (if (⟨r / 32, by omega⟩ : Fin 16) = ⟨a / 8, by omega⟩ then 1 else 0) * weights8 (ix2 (⟨r % 32, by omega⟩ : Fin 32) (⟨a % 8, by omega⟩ : Fin 8)) := by
  rw [blk8, read_v120, ← eye_apply]
  exact diag8_apply _ r a

theorem lo_chan8 (t : Fin cfg0.N) (r : Fin 512) (a : Fin 128) : iblk m c 9 t (ix2 r a) = (0 : EReal) := by
  rw [blk9, read_v123]
  show diag8 weights8 (ix2 r a) - diag8 weights8 (ix2 r a) = 0
  rw [diag8_apply, eye_apply]
  refine sub_self_real (Real'.mul ?_ (weights8_real _ _))
  split_ifs
  · exact Real'.one
  · exact Real'.zero

theorem emb10 (t : Fin cfg0.N) (a : Fin 16) (i : Fin 16) (q : Fin 256) :
    ((cfg0.win 10).blk t).view.emb (ix3 a i q) = ix3 (⟨t.val * 16 + a, by have := N_le t; omega⟩ : Fin 64) i q := by
  funext j
  refine Fin.ext ?_
  blk_simp [(index_chan t).2.2.1]
  fin_cases j <;> simp

theorem val10 (hx : ∀ i, Real' (src m c i)) (t : Fin cfg0.N) (a : Fin 16) (i : Fin 16) (q : Fin 256) :
    k0_pay16 (k0_pay7 (iblk m c 6 t)) (k0_pay8 (iblk m c 7 t)) (k0_pay15 (iblk m c 2 t) (iblk m c 3 t) (iblk m c 0 t)) (ix3 a i q) =
      resized16 weights16 (src m c) (ix3 (⟨t.val * 16 + a, by have := N_le t; omega⟩ : Fin 64) i q) :=
  (ResizeVal.source16_eq weights16 weights16_real (iblk m c 0 t) (fun b d p => (blk0 m c t b d p) ▸ hx _) _ _ _ _
    (hi_plane16 m c t) (lo_plane16 m c t) (hi_chan16 m c t) (lo_chan16 m c t) a i q).trans
    (ResizeVal.sums16 weights16 (src m c) (iblk m c 0 t) t.val (N_le t) (blk0 m c t) a i q)

theorem out10 (hx : ∀ i, Real' (src m c i)) : (dats m 0 c).arrAt 10 cfg0.N = resized16 weights16 (src m c) := by
  refine (dats m 0 c).arrAt_eq_of_covers 10 _ (by decide +kernel) fun t hf y => ?_
  blk_simp
  rw [after0_10]
  unfold_out out0_10
  frame_out
  idx_vars y
  have h := (val10 m c hx t y0 y1 y2).trans (congrArg (resized16 weights16 (src m c)) (emb10 t y0 y1 y2).symm)
  revert h
  generalize resized16 weights16 (src m c) = g
  exact fun h => h

theorem emb11 (t : Fin cfg0.N) (a : Fin 16) (i : Fin 16) (q : Fin 256) :
    ((cfg0.win 11).blk t).view.emb (ix3 a i q) = ix3 (⟨t.val * 16 + a, by have := N_le t; omega⟩ : Fin 64) i q := by
  funext j
  refine Fin.ext ?_
  blk_simp [(index_chan t).2.2.2.1]
  fin_cases j <;> simp

theorem val11 (hx : ∀ i, Real' (tgt m c i)) (t : Fin cfg0.N) (a : Fin 16) (i : Fin 16) (q : Fin 256) :
    k0_pay1 (k0_pay7 (iblk m c 6 t)) (k0_pay8 (iblk m c 7 t)) (k0_pay21 (k0_pay3 (iblk m c 2 t)) (k0_pay4 (iblk m c 3 t)) (iblk m c 1 t)) (ix3 a i q) =
      resized16 weights16 (tgt m c) (ix3 (⟨t.val * 16 + a, by have := N_le t; omega⟩ : Fin 64) i q) :=
  (ResizeVal.target16_eq weights16 weights16_real (iblk m c 1 t) (fun b d p => (blk1 m c t b d p) ▸ hx _) _ _ _ _
    (hi_plane16 m c t) (lo_plane16 m c t) (hi_chan16 m c t) (lo_chan16 m c t) a i q).trans
    (ResizeVal.sums16 weights16 (tgt m c) (iblk m c 1 t) t.val (N_le t) (blk1 m c t) a i q)

theorem out11 (hx : ∀ i, Real' (tgt m c i)) : (dats m 0 c).arrAt 11 cfg0.N = resized16 weights16 (tgt m c) := by
  refine (dats m 0 c).arrAt_eq_of_covers 11 _ (by decide +kernel) fun t hf y => ?_
  blk_simp
  rw [after0_11]
  unfold_out out0_11
  frame_out
  idx_vars y
  have h := (val11 m c hx t y0 y1 y2).trans (congrArg (resized16 weights16 (tgt m c)) (emb11 t y0 y1 y2).symm)
  revert h
  generalize resized16 weights16 (tgt m c) = g
  exact fun h => h

theorem emb12 (t : Fin cfg0.N) (a : Fin 16) (i : Fin 8) (q : Fin 64) :
    ((cfg0.win 12).blk t).view.emb (ix3 a i q) = ix3 (⟨t.val * 16 + a, by have := N_le t; omega⟩ : Fin 64) i q := by
  funext j
  refine Fin.ext ?_
  blk_simp [(index_chan t).2.2.2.2.1]
  fin_cases j <;> simp

theorem val12 (hx : ∀ i, Real' (src m c i)) (t : Fin cfg0.N) (a : Fin 16) (i : Fin 8) (q : Fin 64) :
    k0_pay17 (k0_pay9 (iblk m c 8 t)) (k0_pay10 (iblk m c 9 t)) (k0_pay14 (iblk m c 4 t) (iblk m c 5 t) (iblk m c 0 t)) (ix3 a i q) =
      resized8 weights8 (src m c) (ix3 (⟨t.val * 16 + a, by have := N_le t; omega⟩ : Fin 64) i q) :=
  (ResizeVal.source8_eq weights8 weights8_real (iblk m c 0 t) (fun b d p => (blk0 m c t b d p) ▸ hx _) _ _ _ _
    (hi_plane8 m c t) (lo_plane8 m c t) (hi_chan8 m c t) (lo_chan8 m c t) a i q).trans
    (ResizeVal.sums8 weights8 (src m c) (iblk m c 0 t) t.val (N_le t) (blk0 m c t) a i q)

theorem out12 (hx : ∀ i, Real' (src m c i)) : (dats m 0 c).arrAt 12 cfg0.N = resized8 weights8 (src m c) := by
  refine (dats m 0 c).arrAt_eq_of_covers 12 _ (by decide +kernel) fun t hf y => ?_
  blk_simp
  rw [after0_12]
  unfold_out out0_12
  frame_out
  idx_vars y
  have h := (val12 m c hx t y0 y1 y2).trans (congrArg (resized8 weights8 (src m c)) (emb12 t y0 y1 y2).symm)
  revert h
  generalize resized8 weights8 (src m c) = g
  exact fun h => h

theorem emb13 (t : Fin cfg0.N) (a : Fin 16) (i : Fin 8) (q : Fin 64) :
    ((cfg0.win 13).blk t).view.emb (ix3 a i q) = ix3 (⟨t.val * 16 + a, by have := N_le t; omega⟩ : Fin 64) i q := by
  funext j
  refine Fin.ext ?_
  blk_simp [(index_chan t).2.2.2.2.2]
  fin_cases j <;> simp

theorem val13 (hx : ∀ i, Real' (tgt m c i)) (t : Fin cfg0.N) (a : Fin 16) (i : Fin 8) (q : Fin 64) :
    k0_pay2 (k0_pay5 (iblk m c 4 t)) (k0_pay6 (iblk m c 5 t)) (k0_pay9 (iblk m c 8 t)) (k0_pay10 (iblk m c 9 t)) (k0_pay19 (iblk m c 1 t)) (k0_pay20 (iblk m c 1 t)) (k0_pay22 (k0_pay5 (iblk m c 4 t)) (iblk m c 1 t)) (constant S512x64 .f32 0x00000000#32) (ix3 a i q) =
      resized8 weights8 (tgt m c) (ix3 (⟨t.val * 16 + a, by have := N_le t; omega⟩ : Fin 64) i q) :=
  (ResizeVal.target8_eq weights8 weights8_real (iblk m c 1 t) (fun b d p => (blk1 m c t b d p) ▸ hx _) _ _ _ _
    (hi_plane8 m c t) (lo_plane8 m c t) (hi_chan8 m c t) (lo_chan8 m c t) a i q).trans
    (ResizeVal.sums8 weights8 (tgt m c) (iblk m c 1 t) t.val (N_le t) (blk1 m c t) a i q)

theorem out13 (hx : ∀ i, Real' (tgt m c i)) : (dats m 0 c).arrAt 13 cfg0.N = resized8 weights8 (tgt m c) := by
  refine (dats m 0 c).arrAt_eq_of_covers 13 _ (by decide +kernel) fun t hf y => ?_
  blk_simp
  rw [after0_13]
  unfold_out out0_13
  frame_out
  idx_vars y
  have h := (val13 m c hx t y0 y1 y2).trans (congrArg (resized8 weights8 (tgt m c)) (emb13 t y0 y1 y2).symm)
  revert h
  generalize resized8 weights8 (tgt m c) = g
  exact fun h => h

end

/-- The resize leaves the reference's token arrays, at real volumes. -/
theorem algebraic : algebraic_ResizeIdeal_ResizeReferenceIdeal_pre_finite1 := by
  intro m ρ m' ρ' hp hag
  have hs : ∀ c, (∀ i, Real' (src m c i)) ∧ ∀ i, Real' (tgt m c i) := fun c => finite_of_pre _ _ (hp c)
  refine ⟨fun c => resized16 weights16 (src m c), fun c => resized16 weights16 (tgt m c), fun c => resized8 weights8 (src m c),
    fun c => resized8 weights8 (tgt m c), (θ_run _ _ _).mono (fun r h c => ?_) (ResizeIdeal.Value.run_blocks m ρ),
    (θ_run _ _ _).mono (fun r h c => ?_) (ResizeReferenceIdeal.Value.run m' ρ')⟩
  · obtain ⟨h0, h1, h2, h3, h4⟩ := h c
    exact ⟨h0.trans (out10 m c (hs c).1), h1.trans (out11 m c (hs c).2), h2.trans (out12 m c (hs c).1), h3.trans (out13 m c (hs c).2), h4⟩
  · obtain ⟨h0, h1, h2, h3, h4⟩ := h c
    obtain ⟨e0, e1⟩ := hag c
    refine ⟨(h0.trans (result0_eq m' c)).trans ?_, (h1.trans (result1_eq m' c)).trans ?_, (h2.trans (result2_eq m' c)).trans ?_, (h3.trans (result3_eq m' c)).trans ?_, h4⟩
    · rw [e0]
    · rw [e1]
    · rw [e0]
    · rw [e1]

end Cert.ResizeClaim

end
-- ==== Proof.lean ====
/- The certificate: the two calls' frames, their idealizations, and the value claims. -/
module

public import proofs.«01_k».proof.Defs
public import proofs.«01_k».proof.Proof.Gen.ResizeReferenceIdeal.Run
public import proofs.«01_k».proof.Proof.Gen.Resize.Frame
public import proofs.«01_k».proof.Proof.Gen.ResizeIdeal.Frame
public import proofs.«01_k».proof.Proof.Gen.Loss.Frame
public import proofs.«01_k».proof.Proof.Gen.LossIdeal.Frame
public import proofs.«01_k».proof.Proof.LossClaim
public import proofs.«01_k».proof.Proof.Gen.ResizeIdeal.Value
public import proofs.«01_k».proof.Proof.Gen.LossIdeal.Value
public import proofs.«01_k».proof.Proof.ResizeClaim
public import proofs.«01_k».proof.Proof.Gen.Pre_finite1
public import Idealize.ShloMosaic.Adequacy
public import Idealize.ShloMosaic.Init

@[expose] public section

noncomputable section

namespace Cert.Proof

open Idealize.ShloMosaic Idealize.SL.Sem

/-- The resize's reference runs, leaves its arguments and counts nothing. -/
theorem resize_reference_frame : quiescent_ResizeReferenceIdeal := fun m ρ _ =>
  (θ_run _ _ _).mono (fun r h => ⟨fun c => (h c).2.2.2.2, sem_eq_zero_of_no_sems (by decide) r.2⟩) (Cert.ResizeReferenceIdeal.Value.run m ρ)

theorem claim : Cert.Claim := ⟨Cert.Resize.Gen.facts, Cert.ResizeIdeal.Gen.facts, Cert.ResizeReferenceIdeal.Gen.facts, Cert.Loss.Gen.facts, Cert.LossIdeal.Gen.facts, Cert.LossReferenceIdeal.Gen.facts, Cert.Pre_finite1.Gen.facts, Cert.Pre_finite2.Gen.facts,
  fun m ρ _ => Cert.Resize.Gen.frame m ρ,
  fun m ρ _ => Cert.ResizeIdeal.Gen.frame m ρ,
  fun m ρ _ => Cert.ResizeIdeal.Gen.frame m ρ,
  resize_reference_frame,
  fun m ρ _ => resize_reference_frame m ρ trivial,
  fun m ρ _ => Cert.Loss.Gen.frame m ρ,
  fun m ρ _ => Cert.LossIdeal.Gen.frame m ρ,
  fun m ρ _ => Cert.LossIdeal.Gen.frame m ρ,
  Cert.LossClaim.reference_frame,
  fun m ρ _ => Cert.LossClaim.reference_frame m ρ trivial,
  trivial,
  Cert.ResizeClaim.algebraic,
  trivial,
  Cert.LossClaim.algebraic⟩

end Cert.Proof

end
